-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_small [hPre_finite_small : Cert.Pre_finite_small.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_small.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_small.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_small.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_small [hPre_finite_small : Cert.Pre_finite_small.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_small.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_small.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_small.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_keys [hPre_finite_keys : Cert.Pre_finite_keys.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_keys.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).1 = (fun _ => 1#1)
    ∧ (Cert.Pre_finite_keys.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.1 = (fun _ => 1#1)
    ∧ (Cert.Pre_finite_keys.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_keys [hPre_finite_keys : Cert.Pre_finite_keys.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_keys.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).1 = (fun _ => 1#1)
    ∧ (Cert.Pre_finite_keys.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.1 = (fun _ => 1#1)
    ∧ (Cert.Pre_finite_keys.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_small [hKernel2Ideal : Cert.Kernel2Ideal.Facts] [hPre_finite_small : Cert.Pre_finite_small.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_small m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_small [hReference2Ideal : Cert.Reference2Ideal.Facts] [hPre_finite_small : Cert.Pre_finite_small.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_small m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite_keys [hKernel3Ideal : Cert.Kernel3Ideal.Facts] [hPre_finite_keys : Cert.Pre_finite_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_keys m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite_keys [hReference3Ideal : Cert.Reference3Ideal.Facts] [hPre_finite_keys : Cert.Pre_finite_keys.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_keys m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_small [hKernel2Ideal : Cert.Kernel2Ideal.Facts] [hReference2Ideal : Cert.Reference2Ideal.Facts] [hPre_finite_small : Cert.Pre_finite_small.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_small m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_keys [hKernel3Ideal : Cert.Kernel3Ideal.Facts] [hReference3Ideal : Cert.Reference3Ideal.Facts] [hPre_finite_keys : Cert.Pre_finite_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_keys m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_v67) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_finite_small : Cert.Pre_finite_small.Facts) (hPre_finite_keys : Cert.Pre_finite_keys.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_small (hKernel2Ideal := hKernel2Ideal) (hPre_finite_small := hPre_finite_small)
    ∧ quiescent_Reference2Ideal (hReference2Ideal := hReference2Ideal)
    ∧ quiescent_Reference2Ideal_pre_finite_small (hReference2Ideal := hReference2Ideal) (hPre_finite_small := hPre_finite_small)
    ∧ quiescent_Kernel3 (hKernel3 := hKernel3)
    ∧ quiescent_Kernel3Ideal (hKernel3Ideal := hKernel3Ideal)
    ∧ quiescent_Kernel3Ideal_pre_finite_keys (hKernel3Ideal := hKernel3Ideal) (hPre_finite_keys := hPre_finite_keys)
    ∧ quiescent_Reference3Ideal (hReference3Ideal := hReference3Ideal)
    ∧ quiescent_Reference3Ideal_pre_finite_keys (hReference3Ideal := hReference3Ideal) (hPre_finite_keys := hPre_finite_keys)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_small (hKernel2Ideal := hKernel2Ideal) (hReference2Ideal := hReference2Ideal) (hPre_finite_small := hPre_finite_small)
    ∧ preserves_Kernel3_Kernel3Ideal
    ∧ algebraic_Kernel3Ideal_Reference3Ideal_pre_finite_keys (hKernel3Ideal := hKernel3Ideal) (hReference3Ideal := hReference3Ideal) (hPre_finite_keys := hPre_finite_keys)
    ∧ preserves_Kernel4_Kernel4Ideal
    ∧ algebraic_Kernel4Ideal_Reference4Ideal (hKernel4Ideal := hKernel4Ideal) (hReference4Ideal := hReference4Ideal)
-- ==== Pre_finite_keys.lean ====
abbrev S16x2048x512 : Shape := ⟨3, ![16, 2048, 512]⟩
abbrev S16x2048x1024 : Shape := ⟨3, ![16, 2048, 1024]⟩
abbrev S16x6144 : Shape := ⟨2, ![16, 6144]⟩
abbrev S512 : Shape := ⟨1, ![512]⟩
abbrev S1024x1024 : Shape := ⟨2, ![1024, 1024]⟩
abbrev S1024 : Shape := ⟨1, ![1024]⟩
abbrev S1024x2048 : Shape := ⟨2, ![1024, 2048]⟩
abbrev S256 : Shape := ⟨1, ![256]⟩
abbrev S128x128 : Shape := ⟨2, ![128, 128]⟩
abbrev S_ : Shape := ⟨0, ![]⟩

class Facts : Prop where
  bcast_S_S256 : S_.BroadcastsInDim S256 (![] : Fin 0 → Fin S256.rank)
  bcast_S_S128x128 : S_.BroadcastsInDim S128x128 (![] : Fin 0 → Fin S128x128.rank)

variable [Facts]

def fn {F : FTy → Type} [FloatOps F] (main_arg0 : FVec F S16x2048x512 .f32) (main_arg1 : FVec F S16x2048x512 .bf16) (main_arg2 : FVec F S16x2048x1024 .f32) (main_arg3 : FVec F S16x6144 .f32) (main_arg4 : FVec F S512 .f32) (main_arg5 : FVec F S1024x1024 .f32) (main_arg6 : FVec F S1024 .f32) (main_arg7 : FVec F S1024x2048 .f32) (main_arg8 : FVec F S256 .f32) (main_arg9 : FVec F S128x128 .f32) (main_arg10 : FVec F S128x128 .f32) : IVec S256 1 × IVec S128x128 1 × IVec S128x128 1 :=
  let main_cst : FVec F S_ .f32 := constant S_ .f32 0xFF800000#32
  let main_v0 : FVec F S256 .f32 := broadcastInDim S256 ![] bcast_S_S256 main_cst
  let main_v1 : IVec S256 1 := cmpf .ogt main_arg8 main_v0
  let main_cst_0 : FVec F S_ .f32 := constant S_ .f32 0x7F800000#32
  let main_v2 : FVec F S256 .f32 := broadcastInDim S256 ![] bcast_S_S256 main_cst_0
  let main_v3 : IVec S256 1 := cmpf .olt main_arg8 main_v2
  let main_v4 : IVec S256 1 := andi main_v1 main_v3
  let main_cst_1 : FVec F S_ .f32 := constant S_ .f32 0xFF800000#32
  let main_v5 : FVec F S128x128 .f32 := broadcastInDim S128x128 ![] bcast_S_S128x128 main_cst_1
  let main_v6 : IVec S128x128 1 := cmpf .ogt main_arg9 main_v5
  let main_cst_2 : FVec F S_ .f32 := constant S_ .f32 0x7F800000#32
  let main_v7 : FVec F S128x128 .f32 := broadcastInDim S128x128 ![] bcast_S_S128x128 main_cst_2
  let main_v8 : IVec S128x128 1 := cmpf .olt main_arg9 main_v7
  let main_v9 : IVec S128x128 1 := andi main_v6 main_v8
  let main_cst_3 : FVec F S_ .f32 := constant S_ .f32 0xFF800000#32
  let main_v10 : FVec F S128x128 .f32 := broadcastInDim S128x128 ![] bcast_S_S128x128 main_cst_3
  let main_v11 : IVec S128x128 1 := cmpf .ogt main_arg10 main_v10
  let main_cst_4 : FVec F S_ .f32 := constant S_ .f32 0x7F800000#32
  let main_v12 : FVec F S128x128 .f32 := broadcastInDim S128x128 ![] bcast_S_S128x128 main_cst_4
  let main_v13 : IVec S128x128 1 := cmpf .olt main_arg10 main_v12
  let main_v14 : IVec S128x128 1 := andi main_v11 main_v13
  (main_v4, main_v9, main_v14)
-- ==== Pre_finite_scores.lean ====
abbrev S32768x1536 : Shape := ⟨2, ![32768, 1536]⟩
abbrev S64 : Shape := ⟨1, ![64]⟩
abbrev S8x257 : Shape := ⟨2, ![8, 257]⟩
abbrev S32768x1024 : Shape := ⟨2, ![32768, 1024]⟩
abbrev S_ : Shape := ⟨0, ![]⟩

class Facts : Prop where
  slices_S32768x1536_S32768x1024_0_0 : S32768x1536.Slices ![0, 0] S32768x1024
  bitsLt_bf16_f32 : FTy.bits .bf16 < FTy.bits .f32
  bcast_S_S32768x1024 : S_.BroadcastsInDim S32768x1024 (![] : Fin 0 → Fin S32768x1024.rank)
  bcast_S_S64 : S_.BroadcastsInDim S64 (![] : Fin 0 → Fin S64.rank)
  bcast_S_S8x257 : S_.BroadcastsInDim S8x257 (![] : Fin 0 → Fin S8x257.rank)

variable [Facts]

def fn_part1 {F : FTy → Type} [FloatOps F] (main_arg3 : FVec F S8x257 .f32) (main_v6 : IVec S32768x1024 1) (main_v11 : IVec S64 1) (main_v16 : IVec S64 1) (main_cst_5 : FVec F S_ .f32) : IVec S32768x1024 1 × IVec S64 1 × IVec S64 1 × IVec S8x257 1 :=
  let main_v17 : FVec F S8x257 .f32 := broadcastInDim S8x257 ![] bcast_S_S8x257 main_cst_5
  let main_v18 : IVec S8x257 1 := cmpf .ogt main_arg3 main_v17
  let main_cst_6 : FVec F S_ .f32 := constant S_ .f32 0x7F800000#32
  let main_v19 : FVec F S8x257 .f32 := broadcastInDim S8x257 ![] bcast_S_S8x257 main_cst_6
  let main_v20 : IVec S8x257 1 := cmpf .olt main_arg3 main_v19
  let main_v21 : IVec S8x257 1 := andi main_v18 main_v20
  (main_v6, main_v11, main_v16, main_v21)

def fn {F : FTy → Type} [FloatOps F] (main_arg0 : FVec F S32768x1536 .bf16) (main_arg1 : FVec F S64 .f32) (main_arg2 : FVec F S64 .f32) (main_arg3 : FVec F S8x257 .f32) : IVec S32768x1024 1 × IVec S64 1 × IVec S64 1 × IVec S8x257 1 :=
  let main_v0 : FVec F S32768x1024 .bf16 := (extractStridedSlice S32768x1024 ![0, 0] · slices_S32768x1536_S32768x1024_0_0) main_arg0
  let main_v1 : FVec F S32768x1024 .f32 := (extf .f32 · bitsLt_bf16_f32) main_v0
  let main_cst : FVec F S_ .f32 := constant S_ .f32 0xFF800000#32
  let main_v2 : FVec F S32768x1024 .f32 := broadcastInDim S32768x1024 ![] bcast_S_S32768x1024 main_cst
  let main_v3 : IVec S32768x1024 1 := cmpf .ogt main_v1 main_v2
  let main_cst_0 : FVec F S_ .f32 := constant S_ .f32 0x7F800000#32
  let main_v4 : FVec F S32768x1024 .f32 := broadcastInDim S32768x1024 ![] bcast_S_S32768x1024 main_cst_0
  let main_v5 : IVec S32768x1024 1 := cmpf .olt main_v1 main_v4
  let main_v6 : IVec S32768x1024 1 := andi main_v3 main_v5
  let main_cst_1 : FVec F S_ .f32 := constant S_ .f32 0xFF800000#32
  let main_v7 : FVec F S64 .f32 := broadcastInDim S64 ![] bcast_S_S64 main_cst_1
  let main_v8 : IVec S64 1 := cmpf .ogt main_arg1 main_v7
  let main_cst_2 : FVec F S_ .f32 := constant S_ .f32 0x7F800000#32
  let main_v9 : FVec F S64 .f32 := broadcastInDim S64 ![] bcast_S_S64 main_cst_2
  let main_v10 : IVec S64 1 := cmpf .olt main_arg1 main_v9
  let main_v11 : IVec S64 1 := andi main_v8 main_v10
  let main_cst_3 : FVec F S_ .f32 := constant S_ .f32 0xFF800000#32
  let main_v12 : FVec F S64 .f32 := broadcastInDim S64 ![] bcast_S_S64 main_cst_3
  let main_v13 : IVec S64 1 := cmpf .ogt main_arg2 main_v12
  let main_cst_4 : FVec F S_ .f32 := constant S_ .f32 0x7F800000#32
  let main_v14 : FVec F S64 .f32 := broadcastInDim S64 ![] bcast_S_S64 main_cst_4
  let main_v15 : IVec S64 1 := cmpf .olt main_arg2 main_v14
  let main_v16 : IVec S64 1 := andi main_v13 main_v15
  let main_cst_5 : FVec F S_ .f32 := constant S_ .f32 0xFF800000#32
  fn_part1 (F := F) main_arg3 main_v6 main_v11 main_v16 main_cst_5
-- ==== Pre_finite_small.lean ====
abbrev S16x2048x1024 : Shape := ⟨3, ![16, 2048, 1024]⟩
abbrev S16x6144 : Shape := ⟨2, ![16, 6144]⟩
abbrev S1024 : Shape := ⟨1, ![1024]⟩
abbrev S1024x3592 : Shape := ⟨2, ![1024, 3592]⟩
abbrev S16x2048 : Shape := ⟨2, ![16, 2048]⟩
abbrev S_ : Shape := ⟨0, ![]⟩
abbrev S1024x8 : Shape := ⟨2, ![1024, 8]⟩

class Facts : Prop where
  slices_S16x6144_S16x2048_0_0 : S16x6144.Slices ![0, 0] S16x2048
  bcast_S_S16x2048 : S_.BroadcastsInDim S16x2048 (![] : Fin 0 → Fin S16x2048.rank)
  bcast_S_S1024 : S_.BroadcastsInDim S1024 (![] : Fin 0 → Fin S1024.rank)
  slices_S1024x3592_S1024x8_0_3584 : S1024x3592.Slices ![0, 3584] S1024x8
  bcast_S_S1024x8 : S_.BroadcastsInDim S1024x8 (![] : Fin 0 → Fin S1024x8.rank)

variable [Facts]

def fn {F : FTy → Type} [FloatOps F] (main_arg0 : FVec F S16x2048x1024 .f32) (main_arg1 : FVec F S16x6144 .f32) (main_arg2 : FVec F S1024 .f32) (main_arg3 : FVec F S1024x3592 .f32) : IVec S16x2048 1 × IVec S1024 1 × IVec S1024x8 1 :=
  let main_v0 : FVec F S16x2048 .f32 := (extractStridedSlice S16x2048 ![0, 0] · slices_S16x6144_S16x2048_0_0) main_arg1
  let main_cst : FVec F S_ .f32 := constant S_ .f32 0xFF800000#32
  let main_v1 : FVec F S16x2048 .f32 := broadcastInDim S16x2048 ![] bcast_S_S16x2048 main_cst
  let main_v2 : IVec S16x2048 1 := cmpf .ogt main_v0 main_v1
  let main_cst_0 : FVec F S_ .f32 := constant S_ .f32 0x7F800000#32
  let main_v3 : FVec F S16x2048 .f32 := broadcastInDim S16x2048 ![] bcast_S_S16x2048 main_cst_0
  let main_v4 : IVec S16x2048 1 := cmpf .olt main_v0 main_v3
  let main_v5 : IVec S16x2048 1 := andi main_v2 main_v4
  let main_cst_1 : FVec F S_ .f32 := constant S_ .f32 0xFF800000#32
  let main_v6 : FVec F S1024 .f32 := broadcastInDim S1024 ![] bcast_S_S1024 main_cst_1
  let main_v7 : IVec S1024 1 := cmpf .ogt main_arg2 main_v6
  let main_cst_2 : FVec F S_ .f32 := constant S_ .f32 0x7F800000#32
  let main_v8 : FVec F S1024 .f32 := broadcastInDim S1024 ![] bcast_S_S1024 main_cst_2
  let main_v9 : IVec S1024 1 := cmpf .olt main_arg2 main_v8
  let main_v10 : IVec S1024 1 := andi main_v7 main_v9
  let main_v11 : FVec F S1024x8 .f32 := (extractStridedSlice S1024x8 ![0, 3584] · slices_S1024x3592_S1024x8_0_3584) main_arg3
  let main_cst_3 : FVec F S_ .f32 := constant S_ .f32 0xFF800000#32
  let main_v12 : FVec F S1024x8 .f32 := broadcastInDim S1024x8 ![] bcast_S_S1024x8 main_cst_3
  let main_v13 : IVec S1024x8 1 := cmpf .ogt main_v11 main_v12
  let main_cst_4 : FVec F S_ .f32 := constant S_ .f32 0x7F800000#32
  let main_v14 : FVec F S1024x8 .f32 := broadcastInDim S1024x8 ![] bcast_S_S1024x8 main_cst_4
  let main_v15 : IVec S1024x8 1 := cmpf .olt main_v11 main_v14
  let main_v16 : IVec S1024x8 1 := andi main_v13 main_v15
  (main_v5, main_v10, main_v16)
-- ==== Kernel.lean ====
abbrev S32768x1536 : Shape := ⟨2, ![32768, 1536]⟩
abbrev S64 : Shape := ⟨1, ![64]⟩
abbrev S8x257 : Shape := ⟨2, ![8, 257]⟩
abbrev S639 : Shape := ⟨1, ![639]⟩
abbrev S_ : Shape := ⟨0, ![]⟩
abbrev S639x1 : Shape := ⟨2, ![639, 1]⟩
abbrev S8x639 : Shape := ⟨2, ![8, 639]⟩
abbrev S8x576 : Shape := ⟨2, ![8, 576]⟩
abbrev S8x1x576 : Shape := ⟨3, ![8, 1, 576]⟩
abbrev S8x16x576 : Shape := ⟨3, ![8, 16, 576]⟩
abbrev S8x64x576 : Shape := ⟨3, ![8, 64, 576]⟩
abbrev S512x576 : Shape := ⟨2, ![512, 576]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16x2048x1536 : Shape := ⟨3, ![16, 2048, 1536]⟩
abbrev S16x2048x512 : Shape := ⟨3, ![16, 2048, 512]⟩
abbrev S1x2048x128 : Shape := ⟨3, ![1, 2048, 128]⟩
abbrev S128x576 : Shape := ⟨2, ![128, 576]⟩
abbrev S2048x128 : Shape := ⟨2, ![2048, 128]⟩
abbrev S2560x128 : Shape := ⟨2, ![2560, 128]⟩
abbrev S128x128 : Shape := ⟨2, ![128, 128]⟩
abbrev S512x128 : Shape := ⟨2, ![512, 128]⟩
abbrev S64x128 : Shape := ⟨2, ![64, 128]⟩
abbrev S576x128 : Shape := ⟨2, ![576, 128]⟩
abbrev S128x1 : Shape := ⟨2, ![128, 1]⟩
abbrev S1x64x128 : Shape := ⟨3, ![1, 64, 128]⟩

abbrev nBuf : Space → Nat
  | .hbm => 175
  | .vmem => 15
  | .smem => 0
  | _ => 0

abbrev hbmTy0_0 (i : Nat) : BufTy := match i % 128 with
  | 0 => ⟨S32768x1536, .bf16⟩
  | 1 => ⟨S64, .f32⟩
  | 2 => ⟨S64, .f32⟩
  | 3 => ⟨S8x257, .f32⟩
  | 4 => ⟨S639, .i32⟩
  | 5 => ⟨S_, .i32⟩
  | 6 => ⟨S639, .i32⟩
  | 7 => ⟨S639, .i32⟩
  | 8 => ⟨S_, .i32⟩
  | 9 => ⟨S639, .i32⟩
  | 10 => ⟨S639, .i32⟩
  | 11 => ⟨S_, .i32⟩
  | 12 => ⟨S_, .i32⟩
  | 13 => ⟨S_, .i32⟩
  | 14 => ⟨S639, .i32⟩
  | 15 => ⟨S639, .i32⟩
  | 16 => ⟨S_, .i32⟩
  | 17 => ⟨S639, .i32⟩
  | 18 => ⟨S639, .i32⟩
  | 19 => ⟨S_, .i32⟩
  | 20 => ⟨S639, .i32⟩
  | 21 => ⟨S639, .i32⟩
  | 22 => ⟨S_, .i32⟩
  | 23 => ⟨S639, .i32⟩
  | 24 => ⟨S639, .i1⟩
  | 25 => ⟨S_, .i32⟩
  | 26 => ⟨S639, .i32⟩
  | 27 => ⟨S639, .i32⟩
  | 28 => ⟨S639, .i32⟩
  | 29 => ⟨S639x1, .i32⟩
  | 30 => ⟨S8x639, .f32⟩
  | 31 => ⟨S8x576, .f32⟩
  | 32 => ⟨S8x576, .f32⟩
  | 33 => ⟨S8x576, .f32⟩
  | 34 => ⟨S8x576, .f32⟩
  | 35 => ⟨S8x576, .f32⟩
  | 36 => ⟨S8x576, .f32⟩
  | 37 => ⟨S8x576, .f32⟩
  | 38 => ⟨S8x576, .f32⟩
  | 39 => ⟨S8x576, .f32⟩
  | 40 => ⟨S8x576, .f32⟩
  | 41 => ⟨S8x576, .f32⟩
  | 42 => ⟨S8x576, .f32⟩
  | 43 => ⟨S8x576, .f32⟩
  | 44 => ⟨S8x576, .f32⟩
  | 45 => ⟨S8x576, .f32⟩
  | 46 => ⟨S8x576, .f32⟩
  | 47 => ⟨S8x576, .f32⟩
  | 48 => ⟨S8x576, .f32⟩
  | 49 => ⟨S8x576, .f32⟩
  | 50 => ⟨S8x576, .f32⟩
  | 51 => ⟨S8x576, .f32⟩
  | 52 => ⟨S8x576, .f32⟩
  | 53 => ⟨S8x576, .f32⟩
  | 54 => ⟨S8x576, .f32⟩
  | 55 => ⟨S8x576, .f32⟩
  | 56 => ⟨S8x576, .f32⟩
  | 57 => ⟨S8x576, .f32⟩
  | 58 => ⟨S8x576, .f32⟩
  | 59 => ⟨S8x576, .f32⟩
  | 60 => ⟨S8x576, .f32⟩
  | 61 => ⟨S8x576, .f32⟩
  | 62 => ⟨S8x576, .f32⟩
  | 63 => ⟨S8x576, .f32⟩
  | 64 => ⟨S8x576, .f32⟩
  | 65 => ⟨S8x576, .f32⟩
  | 66 => ⟨S8x576, .f32⟩
  | 67 => ⟨S8x576, .f32⟩
  | 68 => ⟨S8x576, .f32⟩
  | 69 => ⟨S8x576, .f32⟩
  | 70 => ⟨S8x576, .f32⟩
  | 71 => ⟨S8x576, .f32⟩
  | 72 => ⟨S8x576, .f32⟩
  | 73 => ⟨S8x576, .f32⟩
  | 74 => ⟨S8x576, .f32⟩
  | 75 => ⟨S8x576, .f32⟩
  | 76 => ⟨S8x576, .f32⟩
  | 77 => ⟨S8x576, .f32⟩
  | 78 => ⟨S8x576, .f32⟩
  | 79 => ⟨S8x576, .f32⟩
  | 80 => ⟨S8x576, .f32⟩
  | 81 => ⟨S8x576, .f32⟩
  | 82 => ⟨S8x576, .f32⟩
  | 83 => ⟨S8x576, .f32⟩
  | 84 => ⟨S8x576, .f32⟩
  | 85 => ⟨S8x576, .f32⟩
  | 86 => ⟨S8x576, .f32⟩
  | 87 => ⟨S8x576, .f32⟩
  | 88 => ⟨S8x576, .f32⟩
  | 89 => ⟨S8x576, .f32⟩
  | 90 => ⟨S8x576, .f32⟩
  | 91 => ⟨S8x576, .f32⟩
  | 92 => ⟨S8x576, .f32⟩
  | 93 => ⟨S8x576, .f32⟩
  | 94 => ⟨S8x576, .f32⟩
  | 95 => ⟨S8x1x576, .f32⟩
  | 96 => ⟨S8x1x576, .f32⟩
  | 97 => ⟨S8x1x576, .f32⟩
  | 98 => ⟨S8x1x576, .f32⟩
  | 99 => ⟨S8x1x576, .f32⟩
  | 100 => ⟨S8x1x576, .f32⟩
  | 101 => ⟨S8x1x576, .f32⟩
  | 102 => ⟨S8x1x576, .f32⟩
  | 103 => ⟨S8x1x576, .f32⟩
  | 104 => ⟨S8x1x576, .f32⟩
  | 105 => ⟨S8x1x576, .f32⟩
  | 106 => ⟨S8x1x576, .f32⟩
  | 107 => ⟨S8x1x576, .f32⟩
  | 108 => ⟨S8x1x576, .f32⟩
  | 109 => ⟨S8x1x576, .f32⟩
  | 110 => ⟨S8x1x576, .f32⟩
  | 111 => ⟨S8x1x576, .f32⟩
  | 112 => ⟨S8x1x576, .f32⟩
  | 113 => ⟨S8x1x576, .f32⟩
  | 114 => ⟨S8x1x576, .f32⟩
  | 115 => ⟨S8x1x576, .f32⟩
  | 116 => ⟨S8x1x576, .f32⟩
  | 117 => ⟨S8x1x576, .f32⟩
  | 118 => ⟨S8x1x576, .f32⟩
  | 119 => ⟨S8x1x576, .f32⟩
  | 120 => ⟨S8x1x576, .f32⟩
  | 121 => ⟨S8x1x576, .f32⟩
  | 122 => ⟨S8x1x576, .f32⟩
  | 123 => ⟨S8x1x576, .f32⟩
  | 124 => ⟨S8x1x576, .f32⟩
  | 125 => ⟨S8x1x576, .f32⟩
  | 126 => ⟨S8x1x576, .f32⟩
  | 127 => ⟨S8x1x576, .f32⟩
  | _ => ⟨S32768x1536, .bf16⟩

abbrev hbmTy0_1 (i : Nat) : BufTy := match i % 128 with
  | 0 => ⟨S8x1x576, .f32⟩
  | 1 => ⟨S8x1x576, .f32⟩
  | 2 => ⟨S8x1x576, .f32⟩
  | 3 => ⟨S8x1x576, .f32⟩
  | 4 => ⟨S8x1x576, .f32⟩
  | 5 => ⟨S8x1x576, .f32⟩
  | 6 => ⟨S8x1x576, .f32⟩
  | 7 => ⟨S8x1x576, .f32⟩
  | 8 => ⟨S8x1x576, .f32⟩
  | 9 => ⟨S8x1x576, .f32⟩
  | 10 => ⟨S8x1x576, .f32⟩
  | 11 => ⟨S8x1x576, .f32⟩
  | 12 => ⟨S8x1x576, .f32⟩
  | 13 => ⟨S8x1x576, .f32⟩
  | 14 => ⟨S8x1x576, .f32⟩
  | 15 => ⟨S8x1x576, .f32⟩
  | 16 => ⟨S8x1x576, .f32⟩
  | 17 => ⟨S8x1x576, .f32⟩
  | 18 => ⟨S8x1x576, .f32⟩
  | 19 => ⟨S8x1x576, .f32⟩
  | 20 => ⟨S8x1x576, .f32⟩
  | 21 => ⟨S8x1x576, .f32⟩
  | 22 => ⟨S8x1x576, .f32⟩
  | 23 => ⟨S8x1x576, .f32⟩
  | 24 => ⟨S8x1x576, .f32⟩
  | 25 => ⟨S8x1x576, .f32⟩
  | 26 => ⟨S8x1x576, .f32⟩
  | 27 => ⟨S8x1x576, .f32⟩
  | 28 => ⟨S8x1x576, .f32⟩
  | 29 => ⟨S8x1x576, .f32⟩
  | 30 => ⟨S8x1x576, .f32⟩
  | 31 => ⟨S8x16x576, .f32⟩
  | 32 => ⟨S8x16x576, .f32⟩
  | 33 => ⟨S8x16x576, .f32⟩
  | 34 => ⟨S8x16x576, .f32⟩
  | 35 => ⟨S8x64x576, .f32⟩
  | 36 => ⟨S512x576, .f32⟩
  | 37 => ⟨S1x64, .f32⟩
  | 38 => ⟨S2x64, .f32⟩
  | 39 => ⟨S128, .f32⟩
  | 40 => ⟨S1x128, .f32⟩
  | 41 => ⟨S1x64, .f32⟩
  | 42 => ⟨S2x64, .f32⟩
  | 43 => ⟨S128, .f32⟩
  | 44 => ⟨S1x128, .f32⟩
  | 45 => ⟨S16x2048x1536, .bf16⟩
  | 46 => ⟨S16x2048x512, .f32⟩
  | _ => ⟨S32768x1536, .bf16⟩

abbrev hbmTy (i : Nat) : BufTy := match i / 128 with
  | 0 => hbmTy0_0 i
  | 1 => hbmTy0_1 i
  | _ => ⟨S32768x1536, .bf16⟩

abbrev bufTy : (tb : Table) → Fin (tcTables nBuf tb) → BufTy
  | .hbm, ⟨i, _⟩ => hbmTy i
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128, .f32⟩
  | .local _ .vmem, ⟨7, _⟩ => ⟨S1x128, .f32⟩
  | .local _ .vmem, ⟨8, _⟩ => ⟨S128x576, .f32⟩
  | .local _ .vmem, ⟨9, _⟩ => ⟨S128x576, .f32⟩
  | .local _ .vmem, ⟨10, _⟩ => ⟨S1x2048x128, .f32⟩
  | .local _ .vmem, ⟨11, _⟩ => ⟨S1x2048x128, .f32⟩
  | .local _ .vmem, ⟨12, _⟩ => ⟨S2048x128, .bf16⟩
  | .local _ .vmem, ⟨13, _⟩ => ⟨S2560x128, .bf16⟩
  | .local _ .vmem, ⟨14, _⟩ => ⟨S2560x128, .bf16⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_c_4 : Ref sig .tc := ⟨.hbm, 22, rfl⟩
abbrev main_v8 : Ref sig .tc := ⟨.hbm, 23, rfl⟩
abbrev main_v9 : Ref sig .tc := ⟨.hbm, 24, rfl⟩
abbrev main_c_5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c4_i32 : BitVec 32 := 4#32
  let v82 : BitVec 32 := Scalar.addi c0_i32 c4_i32
  let c1_i32 : BitVec 32 := 1#32
  ⟨c0_i32, v82, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v83 : BitVec 32 := Scalar.muli arg12 c8_i32
  let c0_i32_35 : BitVec 32 := 0#32
  let v84 : BitVec 32 := Scalar.addi v83 c0_i32_35
  let c64_i32_46 : BitVec 32 := 64#32
  let v99 : BitVec 32 := Scalar.muli v84 c64_i32_46
  v99
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_36 : BitVec 32 := 8#32
  let v85 : BitVec 32 := Scalar.muli arg12 c8_i32_36
  let c1_i32_37 : BitVec 32 := 1#32
  let v86 : BitVec 32 := Scalar.addi v85 c1_i32_37
  let c64_i32_47 : BitVec 32 := 64#32
  let v101 : BitVec 32 := Scalar.muli v86 c64_i32_47
  v101
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_38 : BitVec 32 := 8#32
  let v87 : BitVec 32 := Scalar.muli arg12 c8_i32_38
  let c2_i32 : BitVec 32 := 2#32
  let v88 : BitVec 32 := Scalar.addi v87 c2_i32
  let c64_i32_48 : BitVec 32 := 64#32
  let v103 : BitVec 32 := Scalar.muli v88 c64_i32_48
  v103
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_39 : BitVec 32 := 8#32
  let v89 : BitVec 32 := Scalar.muli arg12 c8_i32_39
  let c3_i32 : BitVec 32 := 3#32
  let v90 : BitVec 32 := Scalar.addi v89 c3_i32
  let c64_i32_49 : BitVec 32 := 64#32
  let v105 : BitVec 32 := Scalar.muli v90 c64_i32_49
  v105
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_40 : BitVec 32 := 8#32
  let v91 : BitVec 32 := Scalar.muli arg12 c8_i32_40
  let c4_i32_41 : BitVec 32 := 4#32
  let v92 : BitVec 32 := Scalar.addi v91 c4_i32_41
  let c64_i32_50 : BitVec 32 := 64#32
  let v107 : BitVec 32 := Scalar.muli v92 c64_i32_50
  v107
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_42 : BitVec 32 := 8#32
  let v93 : BitVec 32 := Scalar.muli arg12 c8_i32_42
  let c5_i32 : BitVec 32 := 5#32
  let v94 : BitVec 32 := Scalar.addi v93 c5_i32
  let c64_i32_51 : BitVec 32 := 64#32
  let v109 : BitVec 32 := Scalar.muli v94 c64_i32_51
  v109
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_43 : BitVec 32 := 8#32
  let v95 : BitVec 32 := Scalar.muli arg12 c8_i32_43
  let c6_i32_44 : BitVec 32 := 6#32
  let v96 : BitVec 32 := Scalar.addi v95 c6_i32_44
  let c64_i32_52 : BitVec 32 := 64#32
  let v111 : BitVec 32 := Scalar.muli v96 c64_i32_52
  v111
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_45 : BitVec 32 := 8#32
  let v97 : BitVec 32 := Scalar.muli arg12 c8_i32_45
  let c7_i32 : BitVec 32 := 7#32
  let v98 : BitVec 32 := Scalar.addi v97 c7_i32
  let c64_i32_53 : BitVec 32 := 64#32
  let v113 : BitVec 32 := Scalar.muli v98 c64_i32_53
  v113
def k0_off1 (k0_t1 : Fin k0_t1_loop.trips) (c0_i32_35 : BitVec 32) : Fin 2 → Nat :=
  let c0_i32 : BitVec 32 := 0#32
  let c1_i32 : BitVec 32 := 1#32
  let arg12 : BitVec 32 := Scf.iv c0_i32 c1_i32 k0_t1
  let c8_i32 : BitVec 32 := 8#32
  let v83 : BitVec 32 := Scalar.muli arg12 c8_i32
  let v84 : BitVec 32 := Scalar.addi v83 c0_i32_35
  let c64_i32_46 : BitVec 32 := 64#32
  let v99 : BitVec 32 := Scalar.muli v84 c64_i32_46
  let v100 : BitVec 32 := v99
  let v115 : Index := Scalar.indexCast v100
  let c0_54 : Index := 0#32
  ![v115.toNat, 0]
def k0_off2 (k0_t1 : Fin k0_t1_loop.trips) (c0_i32_35 : BitVec 32) : Fin 2 → Nat :=
  let c0_i32 : BitVec 32 := 0#32
  let c1_i32 : BitVec 32 := 1#32
  let arg12 : BitVec 32 := Scf.iv c0_i32 c1_i32 k0_t1
  let c8_i32 : BitVec 32 := 8#32
  let v83 : BitVec 32 := Scalar.muli arg12 c8_i32
  let v84 : BitVec 32 := Scalar.addi v83 c0_i32_35
  let c64_i32_46 : BitVec 32 := 64#32
  let v99 : BitVec 32 := Scalar.muli v84 c64_i32_46
  let v100 : BitVec 32 := v99
  let v131 : Index := Scalar.indexCast v100
  let c0_62 : Index := 0#32
  ![v131.toNat, 0]
def k0_off3 (k0_t1 : Fin k0_t1_loop.trips) (c0_i32_35 : BitVec 32) : Fin 3 → Nat :=
  let c0_158 : Index := 0#32
  let c0_i32 : BitVec 32 := 0#32
  let c1_i32 : BitVec 32 := 1#32
  let arg12 : BitVec 32 := Scf.iv c0_i32 c1_i32 k0_t1
  let c8_i32 : BitVec 32 := 8#32
  let v83 : BitVec 32 := Scalar.muli arg12 c8_i32
  let v84 : BitVec 32 := Scalar.addi v83 c0_i32_35
  let c64_i32_46 : BitVec 32 := 64#32
  let v99 : BitVec 32 := Scalar.muli v84 c64_i32_46
  let v100 : BitVec 32 := v99
  let v408 : Index := Scalar.indexCast v100
  let c0_159 : Index := 0#32
  ![0, v408.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32768x1536 : Shape := ⟨2, ![32768, 1536]⟩
abbrev S64 : Shape := ⟨1, ![64]⟩
abbrev S8x257 : Shape := ⟨2, ![8, 257]⟩
abbrev S16x2048x1536 : Shape := ⟨3, ![16, 2048, 1536]⟩
abbrev S16x2048x512 : Shape := ⟨3, ![16, 2048, 512]⟩
abbrev S16x2048x8x64 : Shape := ⟨4, ![16, 2048, 8, 64]⟩
abbrev S_ : Shape := ⟨0, ![]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x32x64x8x64 : Shape := ⟨5, ![16, 32, 64, 8, 64]⟩
abbrev S16x40x64x8x64 : Shape := ⟨5, ![16, 40, 64, 8, 64]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x1 : Shape := ⟨3, ![32, 9, 1]⟩
abbrev S16x32x9x64x8x64 : Shape := ⟨6, ![16, 32, 9, 64, 8, 64]⟩
abbrev S16x32x576x8x64 : Shape := ⟨5, ![16, 32, 576, 8, 64]⟩
abbrev S16x8x32x64x576 : Shape := ⟨5, ![16, 8, 32, 64, 576]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S32x576 : Shape := ⟨2, ![32, 576]⟩
abbrev S1x1x32x1x576 : Shape := ⟨5, ![1, 1, 32, 1, 576]⟩
abbrev S1x8x1x64x576 : Shape := ⟨5, ![1, 8, 1, 64, 576]⟩
abbrev S16x8x32x64 : Shape := ⟨4, ![16, 8, 32, 64]⟩
abbrev S16x8x32x64x1 : Shape := ⟨5, ![16, 8, 32, 64, 1]⟩
abbrev S16x32x8x64x64 : Shape := ⟨5, ![16, 32, 8, 64, 64]⟩

abbrev nBuf : Space → Nat
  | .hbm => 167
  | .vmem => 0
  | .smem => 0
  | _ => 0

abbrev hbmTy0_0 (i : Nat) : BufTy := match i % 128 with
  | 0 => ⟨S32768x1536, .bf16⟩
  | 1 => ⟨S64, .f32⟩
  | 2 => ⟨S64, .f32⟩
  | 3 => ⟨S8x257, .f32⟩
  | 4 => ⟨S32768x1536, .f32⟩
  | 5 => ⟨S16x2048x1536, .f32⟩
  | 6 => ⟨S16x2048x512, .f32⟩
  | 7 => ⟨S16x2048x512, .f32⟩
  | 8 => ⟨S16x2048x512, .f32⟩
  | 9 => ⟨S16x2048x8x64, .f32⟩
  | 10 => ⟨S16x2048x8x64, .f32⟩
  | 11 => ⟨S_, .f32⟩
  | 12 => ⟨S16x2048x8, .f32⟩
  | 13 => ⟨S16x2048x8x1, .f32⟩
  | 14 => ⟨S_, .f32⟩
  | 15 => ⟨S16x2048x8x1, .f32⟩
  | 16 => ⟨S16x2048x8x1, .f32⟩
  | 17 => ⟨S_, .f32⟩
  | 18 => ⟨S16x2048x8x1, .f32⟩
  | 19 => ⟨S16x2048x8x1, .f32⟩
  | 20 => ⟨S16x2048x8x1, .f32⟩
  | 21 => ⟨S16x2048x8x64, .f32⟩
  | 22 => ⟨S16x2048x8x64, .f32⟩
  | 23 => ⟨S1x1x1x64, .f32⟩
  | 24 => ⟨S16x2048x8x64, .f32⟩
  | 25 => ⟨S16x2048x8x64, .f32⟩
  | 26 => ⟨S16x32x64x8x64, .f32⟩
  | 27 => ⟨S16x2048x8x64, .f32⟩
  | 28 => ⟨S16x2048x8x64, .f32⟩
  | 29 => ⟨S_, .f32⟩
  | 30 => ⟨S16x2048x8, .f32⟩
  | 31 => ⟨S16x2048x8x1, .f32⟩
  | 32 => ⟨S_, .f32⟩
  | 33 => ⟨S16x2048x8x1, .f32⟩
  | 34 => ⟨S16x2048x8x1, .f32⟩
  | 35 => ⟨S_, .f32⟩
  | 36 => ⟨S16x2048x8x1, .f32⟩
  | 37 => ⟨S16x2048x8x1, .f32⟩
  | 38 => ⟨S16x2048x8x1, .f32⟩
  | 39 => ⟨S16x2048x8x64, .f32⟩
  | 40 => ⟨S16x2048x8x64, .f32⟩
  | 41 => ⟨S1x1x1x64, .f32⟩
  | 42 => ⟨S16x2048x8x64, .f32⟩
  | 43 => ⟨S16x2048x8x64, .f32⟩
  | 44 => ⟨S16x32x64x8x64, .f32⟩
  | 45 => ⟨S_, .i32⟩
  | 46 => ⟨S_, .f32⟩
  | 47 => ⟨S16x40x64x8x64, .f32⟩
  | 48 => ⟨S16x32x64x8x64, .f32⟩
  | 49 => ⟨S_, .i32⟩
  | 50 => ⟨S_, .f32⟩
  | 51 => ⟨S16x40x64x8x64, .f32⟩
  | 52 => ⟨S32, .i32⟩
  | 53 => ⟨S32x1, .i32⟩
  | 54 => ⟨S9, .i32⟩
  | 55 => ⟨S1x9, .i32⟩
  | 56 => ⟨S32x9, .i32⟩
  | 57 => ⟨S32x9, .i32⟩
  | 58 => ⟨S32x9, .i32⟩
  | 59 => ⟨S_, .i32⟩
  | 60 => ⟨S32x9, .i32⟩
  | 61 => ⟨S32x9, .i1⟩
  | 62 => ⟨S_, .i32⟩
  | 63 => ⟨S32x9, .i32⟩
  | 64 => ⟨S32x9, .i32⟩
  | 65 => ⟨S32x9, .i32⟩
  | 66 => ⟨S32x9x1, .i32⟩
  | 67 => ⟨S16x32x9x64x8x64, .f32⟩
  | 68 => ⟨S16x32x576x8x64, .f32⟩
  | 69 => ⟨S_, .i32⟩
  | 70 => ⟨S32x9, .i32⟩
  | 71 => ⟨S32x9, .i1⟩
  | 72 => ⟨S_, .i32⟩
  | 73 => ⟨S32x9, .i32⟩
  | 74 => ⟨S32x9, .i32⟩
  | 75 => ⟨S32x9, .i32⟩
  | 76 => ⟨S32x9x1, .i32⟩
  | 77 => ⟨S16x32x9x64x8x64, .f32⟩
  | 78 => ⟨S16x32x576x8x64, .f32⟩
  | 79 => ⟨S16x8x32x64x576, .f32⟩
  | 80 => ⟨S_, .f32⟩
  | 81 => ⟨S16x8x32x64x576, .f32⟩
  | 82 => ⟨S16x8x32x64x576, .f32⟩
  | 83 => ⟨S64, .i32⟩
  | 84 => ⟨S64x1, .i32⟩
  | 85 => ⟨S_, .i32⟩
  | 86 => ⟨S64x1, .i32⟩
  | 87 => ⟨S64x1, .i32⟩
  | 88 => ⟨S576, .i32⟩
  | 89 => ⟨S1x576, .i32⟩
  | 90 => ⟨S64x576, .i32⟩
  | 91 => ⟨S64x576, .i32⟩
  | 92 => ⟨S64x576, .i32⟩
  | 93 => ⟨S_, .i32⟩
  | 94 => ⟨S_, .i32⟩
  | 95 => ⟨S_, .i32⟩
  | 96 => ⟨S64x576, .i32⟩
  | 97 => ⟨S64x576, .i32⟩
  | 98 => ⟨S_, .i32⟩
  | 99 => ⟨S64x576, .i32⟩
  | 100 => ⟨S64x576, .i32⟩
  | 101 => ⟨S_, .i32⟩
  | 102 => ⟨S64x576, .i32⟩
  | 103 => ⟨S64x576, .i32⟩
  | 104 => ⟨S_, .i32⟩
  | 105 => ⟨S64x576, .i32⟩
  | 106 => ⟨S64x576, .i1⟩
  | 107 => ⟨S_, .i32⟩
  | 108 => ⟨S64x576, .i32⟩
  | 109 => ⟨S64x576, .i32⟩
  | 110 => ⟨S64x576, .i32⟩
  | 111 => ⟨S64x576x1, .i32⟩
  | 112 => ⟨S8x64x576, .f32⟩
  | 113 => ⟨S32, .i32⟩
  | 114 => ⟨S32x1, .i32⟩
  | 115 => ⟨S576, .i32⟩
  | 116 => ⟨S1x576, .i32⟩
  | 117 => ⟨S_, .i32⟩
  | 118 => ⟨S_, .i32⟩
  | 119 => ⟨S1x576, .i32⟩
  | 120 => ⟨S1x576, .i32⟩
  | 121 => ⟨S1x576, .i32⟩
  | 122 => ⟨S_, .i32⟩
  | 123 => ⟨S1x576, .i32⟩
  | 124 => ⟨S1x576, .i1⟩
  | 125 => ⟨S1x576, .i32⟩
  | 126 => ⟨S1x576, .i32⟩
  | 127 => ⟨S_, .i32⟩
  | _ => ⟨S32768x1536, .bf16⟩

abbrev hbmTy0_1 (i : Nat) : BufTy := match i % 128 with
  | 0 => ⟨S1x576, .i32⟩
  | 1 => ⟨S1x576, .i1⟩
  | 2 => ⟨S1x576, .i1⟩
  | 3 => ⟨S_, .i32⟩
  | 4 => ⟨S1x576, .i32⟩
  | 5 => ⟨S1x576, .i32⟩
  | 6 => ⟨S1x576, .i32⟩
  | 7 => ⟨S32x576, .i32⟩
  | 8 => ⟨S32x576, .i32⟩
  | 9 => ⟨S32x576, .i32⟩
  | 10 => ⟨S_, .i32⟩
  | 11 => ⟨S32x576, .i32⟩
  | 12 => ⟨S32x576, .i1⟩
  | 13 => ⟨S1x1x32x1x576, .i1⟩
  | 14 => ⟨S1x8x1x64x576, .f32⟩
  | 15 => ⟨S16x8x32x64x576, .f32⟩
  | 16 => ⟨S16x8x32x64x576, .f32⟩
  | 17 => ⟨S_, .f32⟩
  | 18 => ⟨S_, .f32⟩
  | 19 => ⟨S16x8x32x64x576, .i1⟩
  | 20 => ⟨S16x8x32x64x576, .f32⟩
  | 21 => ⟨S16x8x32x64x576, .f32⟩
  | 22 => ⟨S_, .f32⟩
  | 23 => ⟨S16x8x32x64, .f32⟩
  | 24 => ⟨S_, .f32⟩
  | 25 => ⟨S16x8x32x64, .f32⟩
  | 26 => ⟨S16x8x32x64, .f32⟩
  | 27 => ⟨S16x8x32x64x1, .f32⟩
  | 28 => ⟨S16x8x32x64x576, .f32⟩
  | 29 => ⟨S16x8x32x64x576, .f32⟩
  | 30 => ⟨S16x8x32x64x576, .f32⟩
  | 31 => ⟨S_, .f32⟩
  | 32 => ⟨S16x8x32x64, .f32⟩
  | 33 => ⟨S16x8x32x64x1, .f32⟩
  | 34 => ⟨S16x8x32x64x576, .f32⟩
  | 35 => ⟨S16x8x32x64x576, .f32⟩
  | 36 => ⟨S16x32x8x64x64, .f32⟩
  | 37 => ⟨S16x32x64x8x64, .f32⟩
  | 38 => ⟨S16x2048x512, .f32⟩
  | _ => ⟨S32768x1536, .bf16⟩

abbrev hbmTy (i : Nat) : BufTy := match i / 128 with
  | 0 => hbmTy0_0 i
  | 1 => hbmTy0_1 i
  | _ => ⟨S32768x1536, .bf16⟩

abbrev bufTy : (tb : Table) → Fin (tcTables nBuf tb) → BufTy
  | .hbm, ⟨i, _⟩ => hbmTy i
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_call1_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_6 : Ref sig .tc := ⟨.hbm, 59, rfl⟩
abbrev main_v45 : Ref sig .tc := ⟨.hbm, 60, rfl⟩
abbrev main_v46 : Ref sig .tc := ⟨.hbm, 61, rfl⟩
abbrev main_c_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_8 : Ref sig .tc := ⟨.hbm, 69, rfl⟩
abbrev main_v53 : Ref sig .tc := ⟨.hbm, 70, rfl⟩
abbrev main_v54 : Ref sig .tc := ⟨.hbm, 71, rfl⟩
abbrev main_c_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_11 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_12 : Ref sig .tc := ⟨.hbm, 93, rfl⟩
abbrev main_c_13 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_c_15 : Ref sig .tc := ⟨.hbm, 104, rfl⟩
abbrev main_v76 : Ref sig .tc := ⟨.hbm, 105, rfl⟩
abbrev main_v77 : Ref sig .tc := ⟨.hbm, 106, rfl⟩
abbrev main_c_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_17 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_c : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_c_0 : Ref sig .tc := ⟨.hbm, 131, rfl⟩
abbrev main_call3_v12 : Ref sig .tc := ⟨.hbm, 132, rfl⟩
abbrev main_call3_v13 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_c_18 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_19 : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_v97 : Ref sig .tc := ⟨.hbm, 149, rfl⟩
abbrev main_cst_20 : Ref sig .tc := ⟨.hbm, 150, rfl⟩
abbrev main_v98 : Ref sig .tc := ⟨.hbm, 151, rfl⟩
abbrev main_cst_21 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_22 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x6144 : Shape := ⟨2, ![16, 6144]⟩
abbrev S1024 : Shape := ⟨1, ![1024]⟩
abbrev S1024x3592 : Shape := ⟨2, ![1024, 3592]⟩
abbrev S32768x1024 : Shape := ⟨2, ![32768, 1024]⟩
abbrev S16x6x1024 : Shape := ⟨3, ![16, 6, 1024]⟩
abbrev S1024x1536 : Shape := ⟨2, ![1024, 1536]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S32768x1536 : Shape := ⟨2, ![32768, 1536]⟩
abbrev S32768x512 : Shape := ⟨2, ![32768, 512]⟩
abbrev S32768x128 : Shape := ⟨2, ![32768, 128]⟩
abbrev S512x1024 : Shape := ⟨2, ![512, 1024]⟩
abbrev S1x6x1024 : Shape := ⟨3, ![1, 6, 1024]⟩
abbrev S512x1536 : Shape := ⟨2, ![512, 1536]⟩
abbrev S512x512 : Shape := ⟨2, ![512, 512]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩

abbrev nBuf : Space → Nat
  | .hbm => 25
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x3592, .f32⟩
  | .hbm, ⟨4, _⟩ => ⟨S32768x1024, .f32⟩
  | .hbm, ⟨5, _⟩ => ⟨S16x6x1024, .f32⟩
  | .hbm, ⟨6, _⟩ => ⟨S1024x1536, .f32⟩
  | .hbm, ⟨7, _⟩ => ⟨S1024x1536, .bf16⟩
  | .hbm, ⟨8, _⟩ => ⟨S1024x1536, .f32⟩
  | .hbm, ⟨9, _⟩ => ⟨S1024x1536, .bf16⟩
  | .hbm, ⟨10, _⟩ => ⟨S1024x512, .f32⟩
  | .hbm, ⟨11, _⟩ => ⟨S1024x512, .bf16⟩
  | .hbm, ⟨12, _⟩ => ⟨S1024x8, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S1x1024, .f32⟩
  | .hbm, ⟨21, _⟩ => ⟨S32768x1536, .bf16⟩
  | .hbm, ⟨22, _⟩ => ⟨S32768x1536, .bf16⟩
  | .hbm, ⟨23, _⟩ => ⟨S32768x512, .bf16⟩
  | .hbm, ⟨24, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1536, .bf16⟩
  | .local _ .vmem, ⟨6, _⟩ => ⟨S1024x1536, .bf16⟩
  | .local _ .vmem, ⟨7, _⟩ => ⟨S1024x512, .bf16⟩
  | .local _ .vmem, ⟨8, _⟩ => ⟨S1024x128, .bf16⟩
  | .local _ .vmem, ⟨9, _⟩ => ⟨S1024x128, .bf16⟩
  | .local _ .vmem, ⟨10, _⟩ => ⟨S512x1536, .bf16⟩
  | .local _ .vmem, ⟨11, _⟩ => ⟨S512x1536, .bf16⟩
  | .local _ .vmem, ⟨12, _⟩ => ⟨S512x1536, .bf16⟩
  | .local _ .vmem, ⟨13, _⟩ => ⟨S512x1536, .bf16⟩
  | .local _ .vmem, ⟨14, _⟩ => ⟨S512x512, .bf16⟩
  | .local _ .vmem, ⟨15, _⟩ => ⟨S512x512, .bf16⟩
  | .local _ .vmem, ⟨16, _⟩ => ⟨S512x128, .f32⟩
  | .local _ .vmem, ⟨17, _⟩ => ⟨S512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16x2048x1024 : Shape := ⟨3, ![16, 2048, 1024]⟩
abbrev S16x6144 : Shape := ⟨2, ![16, 6144]⟩
abbrev S1024 : Shape := ⟨1, ![1024]⟩
abbrev S1024x3592 : Shape := ⟨2, ![1024, 3592]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3592 : Shape := ⟨3, ![16, 2048, 3592]⟩
abbrev S32768x3592 : Shape := ⟨2, ![32768, 3592]⟩
abbrev S32768x1536 : Shape := ⟨2, ![32768, 1536]⟩
abbrev S32768x512 : Shape := ⟨2, ![32768, 512]⟩
abbrev S32768x8 : Shape := ⟨2, ![32768, 8]⟩
abbrev S32768x128 : Shape := ⟨2, ![32768, 128]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x3592, .f32⟩
  | .hbm, ⟨4, _⟩ => ⟨S16x1024, .f32⟩
  | .hbm, ⟨5, _⟩ => ⟨S16x1x1024, .f32⟩
  | .hbm, ⟨6, _⟩ => ⟨S16x1024, .f32⟩
  | .hbm, ⟨7, _⟩ => ⟨S16x1x1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x3592, .f32⟩
  | .hbm, ⟨32, _⟩ => ⟨S32768x3592, .f32⟩
  | .hbm, ⟨33, _⟩ => ⟨S32768x1536, .f32⟩
  | .hbm, ⟨34, _⟩ => ⟨S32768x1536, .f32⟩
  | .hbm, ⟨35, _⟩ => ⟨S32768x512, .f32⟩
  | .hbm, ⟨36, _⟩ => ⟨S32768x8, .f32⟩
  | .hbm, ⟨37, _⟩ => ⟨S32768x1536, .bf16⟩
  | .hbm, ⟨38, _⟩ => ⟨S32768x1536, .bf16⟩
  | .hbm, ⟨39, _⟩ => ⟨S32768x512, .bf16⟩
  | .hbm, ⟨40, _⟩ => ⟨S_, .i32⟩
  | .hbm, ⟨41, _⟩ => ⟨S_, .f32⟩
  | .hbm, ⟨42, _⟩ => ⟨S32768x128, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_call0_v0 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel3.lean ====
abbrev S16x2048x512 : Shape := ⟨3, ![16, 2048, 512]⟩
abbrev S16x2048x1024 : Shape := ⟨3, ![16, 2048, 1024]⟩
abbrev S16x6144 : Shape := ⟨2, ![16, 6144]⟩
abbrev S512 : Shape := ⟨1, ![512]⟩
abbrev S1024x1024 : Shape := ⟨2, ![1024, 1024]⟩
abbrev S1024 : Shape := ⟨1, ![1024]⟩
abbrev S1024x2048 : Shape := ⟨2, ![1024, 2048]⟩
abbrev S256 : Shape := ⟨1, ![256]⟩
abbrev S128x128 : Shape := ⟨2, ![128, 128]⟩
abbrev S32768x512 : Shape := ⟨2, ![32768, 512]⟩
abbrev S32768x1024 : Shape := ⟨2, ![32768, 1024]⟩
abbrev S16x6x1024 : Shape := ⟨3, ![16, 6, 1024]⟩
abbrev S512x1024 : Shape := ⟨2, ![512, 1024]⟩
abbrev S1x512 : Shape := ⟨2, ![1, 512]⟩
abbrev S1x1024 : Shape := ⟨2, ![1, 1024]⟩
abbrev S1x256 : Shape := ⟨2, ![1, 256]⟩
abbrev S2048x32768 : Shape := ⟨2, ![2048, 32768]⟩
abbrev S512x512 : Shape := ⟨2, ![512, 512]⟩
abbrev S1x6x1024 : Shape := ⟨3, ![1, 6, 1024]⟩
abbrev S2048x512 : Shape := ⟨2, ![2048, 512]⟩
abbrev S512x1 : Shape := ⟨2, ![512, 1]⟩
abbrev S1x1x1024 : Shape := ⟨3, ![1, 1, 1024]⟩
abbrev S512x2048 : Shape := ⟨2, ![512, 2048]⟩
abbrev S512x256 : Shape := ⟨2, ![512, 256]⟩
abbrev S512x128 : Shape := ⟨2, ![512, 128]⟩
abbrev S128x512 : Shape := ⟨2, ![128, 512]⟩

abbrev nBuf : Space → Nat
  | .hbm => 26
  | .vmem => 22
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .bf16⟩
  | .hbm, ⟨2, _⟩ => ⟨S16x2048x1024, .f32⟩
  | .hbm, ⟨3, _⟩ => ⟨S16x6144, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S256, .f32⟩
  | .hbm, ⟨9, _⟩ => ⟨S128x128, .f32⟩
  | .hbm, ⟨10, _⟩ => ⟨S128x128, .f32⟩
  | .hbm, ⟨11, _⟩ => ⟨S32768x512, .f32⟩
  | .hbm, ⟨12, _⟩ => ⟨S32768x512, .bf16⟩
  | .hbm, ⟨13, _⟩ => ⟨S32768x1024, .f32⟩
  | .hbm, ⟨14, _⟩ => ⟨S16x6x1024, .f32⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S1024x2048, .bf16⟩
  | .hbm, ⟨20, _⟩ => ⟨S1x512, .f32⟩
  | .hbm, ⟨21, _⟩ => ⟨S1x1024, .f32⟩
  | .hbm, ⟨22, _⟩ => ⟨S1x256, .f32⟩
  | .hbm, ⟨23, _⟩ => ⟨S32768x1024, .f32⟩
  | .hbm, ⟨24, _⟩ => ⟨S32768x1024, .bf16⟩
  | .hbm, ⟨25, _⟩ => ⟨S2048x32768, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1024x2048, .bf16⟩
  | .local _ .vmem, ⟨13, _⟩ => ⟨S1x256, .f32⟩
  | .local _ .vmem, ⟨14, _⟩ => ⟨S128x128, .f32⟩
  | .local _ .vmem, ⟨15, _⟩ => ⟨S128x128, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S2048x512, .f32⟩
  | .local _ .vmem, ⟨21, _⟩ => ⟨S2048x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S16x2048x512 : Shape := ⟨3, ![16, 2048, 512]⟩
abbrev S16x2048x1024 : Shape := ⟨3, ![16, 2048, 1024]⟩
abbrev S16x6144 : Shape := ⟨2, ![16, 6144]⟩
abbrev S512 : Shape := ⟨1, ![512]⟩
abbrev S1024x1024 : Shape := ⟨2, ![1024, 1024]⟩
abbrev S1024 : Shape := ⟨1, ![1024]⟩
abbrev S1024x2048 : Shape := ⟨2, ![1024, 2048]⟩
abbrev S256 : Shape := ⟨1, ![256]⟩
abbrev S128x128 : Shape := ⟨2, ![128, 128]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x512 : Shape := ⟨3, ![1, 1, 512]⟩
abbrev S1x1x1024 : Shape := ⟨3, ![1, 1, 1024]⟩
abbrev S16x2048x2048 : Shape := ⟨3, ![16, 2048, 2048]⟩
abbrev S32768x8x256 : Shape := ⟨3, ![32768, 8, 256]⟩
abbrev S32768x8 : Shape := ⟨2, ![32768, 8]⟩
abbrev S32768x8x1 : Shape := ⟨3, ![32768, 8, 1]⟩
abbrev S1x1x256 : Shape := ⟨3, ![1, 1, 256]⟩
abbrev S32768x8x128 : Shape := ⟨3, ![32768, 8, 128]⟩
abbrev S32768x8x1x128 : Shape := ⟨4, ![32768, 8, 1, 128]⟩
abbrev S32768x8x2x128 : Shape := ⟨4, ![32768, 8, 2, 128]⟩
abbrev S32768x2048 : Shape := ⟨2, ![32768, 2048]⟩
abbrev S2048x32768 : Shape := ⟨2, ![2048, 32768]⟩
abbrev S32768x1024 : Shape := ⟨2, ![32768, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .bf16⟩
  | .hbm, ⟨2, _⟩ => ⟨S16x2048x1024, .f32⟩
  | .hbm, ⟨3, _⟩ => ⟨S16x6144, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S256, .f32⟩
  | .hbm, ⟨9, _⟩ => ⟨S128x128, .f32⟩
  | .hbm, ⟨10, _⟩ => ⟨S128x128, .f32⟩
  | .hbm, ⟨11, _⟩ => ⟨S16x1024, .f32⟩
  | .hbm, ⟨12, _⟩ => ⟨S16x1x1024, .f32⟩
  | .hbm, ⟨13, _⟩ => ⟨S16x1024, .f32⟩
  | .hbm, ⟨14, _⟩ => ⟨S16x1x1024, .f32⟩
  | .hbm, ⟨15, _⟩ => ⟨S16x1024, .f32⟩
  | .hbm, ⟨16, _⟩ => ⟨S16x1x1024, .f32⟩
  | .hbm, ⟨17, _⟩ => ⟨S16x2048x512, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x512, .f32⟩
  | .hbm, ⟨29, _⟩ => ⟨S16x2048x512, .f32⟩
  | .hbm, ⟨30, _⟩ => ⟨S1x1x512, .f32⟩
  | .hbm, ⟨31, _⟩ => ⟨S16x2048x512, .f32⟩
  | .hbm, ⟨32, _⟩ => ⟨S16x2048x512, .f32⟩
  | .hbm, ⟨33, _⟩ => ⟨S16x2048x512, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S16x2048x1, .f32⟩
  | .hbm, ⟨50, _⟩ => ⟨S16x2048x1024, .f32⟩
  | .hbm, ⟨51, _⟩ => ⟨S16x2048x1024, .f32⟩
  | .hbm, ⟨52, _⟩ => ⟨S1x1x1024, .f32⟩
  | .hbm, ⟨53, _⟩ => ⟨S16x2048x1024, .f32⟩
  | .hbm, ⟨54, _⟩ => ⟨S16x2048x1024, .f32⟩
  | .hbm, ⟨55, _⟩ => ⟨S_, .f32⟩
  | .hbm, ⟨56, _⟩ => ⟨S16x1x1024, .f32⟩
  | .hbm, ⟨57, _⟩ => ⟨S16x1x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S16x2048x2048, .f32⟩
  | .hbm, ⟨63, _⟩ => ⟨S32768x8x256, .f32⟩
  | .hbm, ⟨64, _⟩ => ⟨S32768x8x256, .f32⟩
  | .hbm, ⟨65, _⟩ => ⟨S_, .f32⟩
  | .hbm, ⟨66, _⟩ => ⟨S32768x8, .f32⟩
  | .hbm, ⟨67, _⟩ => ⟨S32768x8x1, .f32⟩
  | .hbm, ⟨68, _⟩ => ⟨S_, .f32⟩
  | .hbm, ⟨69, _⟩ => ⟨S32768x8x1, .f32⟩
  | .hbm, ⟨70, _⟩ => ⟨S32768x8x1, .f32⟩
  | .hbm, ⟨71, _⟩ => ⟨S_, .f32⟩
  | .hbm, ⟨72, _⟩ => ⟨S32768x8x1, .f32⟩
  | .hbm, ⟨73, _⟩ => ⟨S32768x8x1, .f32⟩
  | .hbm, ⟨74, _⟩ => ⟨S32768x8x1, .f32⟩
  | .hbm, ⟨75, _⟩ => ⟨S32768x8x256, .f32⟩
  | .hbm, ⟨76, _⟩ => ⟨S32768x8x256, .f32⟩
  | .hbm, ⟨77, _⟩ => ⟨S1x1x256, .f32⟩
  | .hbm, ⟨78, _⟩ => ⟨S32768x8x256, .f32⟩
  | .hbm, ⟨79, _⟩ => ⟨S32768x8x256, .f32⟩
  | .hbm, ⟨80, _⟩ => ⟨S32768x8x128, .f32⟩
  | .hbm, ⟨81, _⟩ => ⟨S32768x8x128, .f32⟩
  | .hbm, ⟨82, _⟩ => ⟨S32768x8x128, .f32⟩
  | .hbm, ⟨83, _⟩ => ⟨S32768x8x128, .f32⟩
  | .hbm, ⟨84, _⟩ => ⟨S32768x8x1x128, .f32⟩
  | .hbm, ⟨85, _⟩ => ⟨S32768x8x1x128, .f32⟩
  | .hbm, ⟨86, _⟩ => ⟨S32768x8x2x128, .f32⟩
  | .hbm, ⟨87, _⟩ => ⟨S32768x2048, .f32⟩
  | .hbm, ⟨88, _⟩ => ⟨S2048x32768, .f32⟩
  | .hbm, ⟨89, _⟩ => ⟨S32768x1024, .f32⟩
  | .hbm, ⟨90, _⟩ => ⟨S32768x1024, .f32⟩
  | .hbm, ⟨91, _⟩ => ⟨S32768x1024, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel4.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Math.lean ====
/-
  The attention's mathematics over the extended reals: the quantities both programs compute, entry by entry, and the
  equations between the kernel's way of writing them and the reference's.
-/
module

public import Idealize.ShloMosaic.Lib.Pointwise

@[expose] public section

noncomputable section

namespace Cert.Proof.Attn

open Idealize.ShloMosaic

/-! ## Constants -/

/-- The normalisation's epsilon. -/
abbrev epsC : EReal := Ideal.ofBits .f32 897988541#32

theorem c64 : Ideal.ofBits .f32 1115684864#32 = ((64 : ℝ) : EReal) := by
  simp [Ideal.ofBits, Ideal.ieee]; norm_num; rw [← EReal.coe_mul]; norm_num
theorem cinv64 : Ideal.ofBits .f32 1015021568#32 = ((1 / 64 : ℝ) : EReal) := by
  simp [Ideal.ofBits, Ideal.ieee]; norm_num; rw [← EReal.coe_mul]; norm_num
theorem ceighth : Ideal.ofBits .f32 1040187392#32 = ((1 / 8 : ℝ) : EReal) := by
  simp [Ideal.ofBits, Ideal.ieee]; norm_num; rw [← EReal.coe_mul]; norm_num
theorem cbot : Ideal.ofBits .f32 4286578688#32 = (⊥ : EReal) := by
  simp [Ideal.ofBits, Ideal.ieee]
theorem ceps : ∃ r : ℝ, 0 < r ∧ epsC = (r : EReal) := by
  refine ⟨(8796093 : ℝ) * 2 ^ (-43 : ℤ), by positivity, ?_⟩
  simp [epsC, Ideal.ofBits, Ideal.ieee]

/-! ## Sums and positive constants -/

/-- A nonnegative constant that is not infinite distributes over any sum. -/
theorem sum_mul_const {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- A value that is neither infinity. -/
def Fin' (x : EReal) : Prop := x ≠ ⊥ ∧ x ≠ ⊤

theorem Fin'.coe (r : ℝ) : Fin' (r : EReal) := ⟨EReal.coe_ne_bot r, EReal.coe_ne_top r⟩

theorem Fin'.exists {x : EReal} (h : Fin' x) : ∃ r : ℝ, x = (r : EReal) := ⟨x.toReal, (EReal.coe_toReal h.2 h.1).symm⟩

theorem Fin'.zero : Fin' 0 := Fin'.coe 0

theorem Fin'.mul {x y : EReal} (hx : Fin' x) (hy : Fin' y) : Fin' (x * y) := by
  obtain ⟨a, rfl⟩ := hx.exists; obtain ⟨b, rfl⟩ := hy.exists
  rw [← EReal.coe_mul]; exact Fin'.coe _

theorem Fin'.add {x y : EReal} (hx : Fin' x) (hy : Fin' y) : Fin' (x + y) := by
  obtain ⟨a, rfl⟩ := hx.exists; obtain ⟨b, rfl⟩ := hy.exists
  rw [← EReal.coe_add]; exact Fin'.coe _

theorem Fin'.sub_self {x : EReal} (hx : Fin' x) : x - x = 0 := by
  obtain ⟨a, rfl⟩ := hx.exists
  rw [← EReal.coe_sub, _root_.sub_self]; rfl

theorem Fin'.sum {ι : Type*} (s : Finset ι) (f : ι → EReal) (h : ∀ i, Fin' (f i)) : Fin' (∑ i ∈ s, f i) := by
  classical
  induction s using Finset.induction_on with
  | empty => simpa using Fin'.zero
  | insert a s ha ih => rw [Finset.sum_insert ha]; exact (h a).add ih

theorem sum_sq_nonneg {ι : Type*} (s : Finset ι) (f : ι → EReal) : 0 ≤ ∑ i ∈ s, f i * f i :=
  Finset.sum_nonneg fun i _ => by
    rcases le_total 0 (f i) with h | h
    · exact mul_nonneg h h
    · exact EReal.mul_nonneg_iff.mpr (Or.inr ⟨h, h⟩)

/-! ## The normalisation -/

/-- A row of 64 entries divided by its root mean square, times a gain. -/
def nrm (x g : Fin 64 → EReal) (d : Fin 64) : EReal :=
  x d * Ideal.rsqrt (Ideal.div (∑ e, x e * x e) (Ideal.ofBits .f32 1115684864#32) + epsC) * g d

theorem nrm_fin {x g : Fin 64 → EReal} (hx : ∀ d, Fin' (x d)) (hg : ∀ d, Fin' (g d)) (d : Fin 64) : Fin' (nrm x g d) := by
  obtain ⟨r, hr⟩ := (Fin'.sum Finset.univ (fun e => x e * x e) fun e => (hx e).mul (hx e)).exists
  have h0 : 0 ≤ r := by
    have := sum_sq_nonneg Finset.univ x
    rw [hr] at this; exact_mod_cast this
  obtain ⟨p, hp, he⟩ := ceps
  unfold nrm
  rw [hr, he, c64, Ideal.div_coe (by norm_num), ← EReal.coe_mul, ← EReal.coe_add, Ideal.rsqrt_coe]
  have hpos : 0 < r * (1 / 64) + p := by positivity
  rw [if_neg (not_lt.mpr hpos.le), if_neg hpos.ne']
  exact ((hx d).mul (Fin'.coe _)).mul (hg d)

/-! ## Softmax -/

theorem exp_nonneg (x : EReal) : 0 ≤ Ideal.exp x := by
  induction x with
  | bot => simp
  | top => simp
  | coe r => rw [Ideal.exp_coe]; exact_mod_cast (Real.exp_pos r).le

theorem fold_max_bot {n : Nat} (s : Fin n → EReal) : Finset.fold max ⊥ s Finset.univ = Finset.univ.sup s := rfl

theorem inv_ne_top (x : EReal) : x⁻¹ ≠ ⊤ := by
  induction x with
  | bot => rw [EReal.inv_bot]; exact EReal.zero_ne_top
  | top => rw [EReal.inv_top]; exact EReal.zero_ne_top
  | coe r => rw [← EReal.coe_inv]; exact EReal.coe_ne_top _

/-- Dividing the weighted sum by the weights' sum is weighting by the divided weights, as soon as no score is `⊤` and
    one is not `⊥`: the weights' sum is then not zero. -/
theorem softmax_div {n : Nat} (s v : Fin n → EReal) (ht : ∀ j, s j ≠ ⊤) (hb : ∃ j, s j ≠ ⊥) :
    Ideal.div (∑ j, Ideal.exp (s j - Finset.fold max ⊥ s Finset.univ) * v j) (∑ j, Ideal.exp (s j - Finset.fold max ⊥ s Finset.univ))
      = ∑ j, v j * Ideal.div (Ideal.exp (s j - max ⊥ (Finset.fold max ⊥ s Finset.univ)))
          (∑ i, Ideal.exp (s i - max ⊥ (Finset.fold max ⊥ s Finset.univ))) := by
  obtain ⟨j₀, hj₀⟩ := hb
  rw [max_eq_right bot_le, fold_max_bot]
  obtain ⟨j₁, -, hM⟩ := Finset.exists_mem_eq_sup (Finset.univ : Finset (Fin n)) ⟨j₀, Finset.mem_univ _⟩ s
  have hMb : s j₁ ≠ ⊥ := by
    intro h
    have := Finset.le_sup (f := s) (Finset.mem_univ j₀)
    rw [hM, h] at this
    exact hj₀ (le_bot_iff.mp this)
  rw [hM]
  have hF : Fin' (s j₁) := ⟨hMb, ht j₁⟩
  set L := ∑ j, Ideal.exp (s j - s j₁) with hL
  have hpos : 0 < L := by
    have h1 : Ideal.exp (s j₁ - s j₁) ≤ L := Finset.single_le_sum (f := fun j => Ideal.exp (s j - s j₁)) (fun j _ => exp_nonneg _) (Finset.mem_univ j₁)
    rw [hF.sub_self] at h1
    refine lt_of_lt_of_le ?_ h1
    have : Ideal.exp (0 : EReal) = ((Real.exp 0 : ℝ) : EReal) := Ideal.exp_coe (r := (0 : ℝ))
    rw [this]; exact_mod_cast Real.exp_pos 0
  have hne : L ≠ 0 := hpos.ne'
  have hi0 : 0 ≤ L⁻¹ := EReal.inv_nonneg_of_nonneg hpos.le
  have hit : L⁻¹ ≠ ⊤ := inv_ne_top _
  simp only [Ideal.div, if_neg hne]
  rw [sum_mul_const _ _ hi0 hit]
  refine Finset.sum_congr rfl fun j _ => ?_
  rw [mul_comm (Ideal.exp _) (v j), mul_assoc]

/-! ## The attention, entry by entry -/

section Spec

variable (X : Fin 32768 → Fin 1536 → EReal) (gq gk : Fin 64 → EReal) (rb : Fin 8 → Fin 257 → EReal)

def row (b : Fin 16) (t : Fin 2048) : Fin 32768 := ⟨b.val * 2048 + t.val, by omega⟩
def colQ (h : Fin 8) (e : Fin 64) : Fin 1536 := ⟨h.val * 64 + e.val, by omega⟩
def colK (h : Fin 8) (e : Fin 64) : Fin 1536 := ⟨512 + (h.val * 64 + e.val), by omega⟩
def colV (h : Fin 8) (e : Fin 64) : Fin 1536 := ⟨1024 + (h.val * 64 + e.val), by omega⟩
/-- Token `q` of chunk `n`. -/
def tok (n : Fin 32) (q : Fin 64) : Fin 2048 := ⟨n.val * 64 + q.val, by omega⟩
/-- Key `j` of chunk `n`'s band, in the sequence with 512 zero rows before it. -/
def bandTok (n : Fin 32) (j : Fin 576) : Fin 2560 := ⟨n.val * 64 + j.val, by omega⟩

/-- A normalised query entry. -/
def qAt (b : Fin 16) (t : Fin 2048) (h : Fin 8) (d : Fin 64) : EReal := nrm (fun e => X (row b t) (colQ h e)) gq d
/-- A normalised key entry. -/
def kRow (b : Fin 16) (t : Fin 2048) (h : Fin 8) (d : Fin 64) : EReal := nrm (fun e => X (row b t) (colK h e)) gk d
/-- The same, behind 512 rows of zeros. -/
def kAt (b : Fin 16) (u : Fin 2560) (h : Fin 8) (d : Fin 64) : EReal :=
  if hu : 512 ≤ u.val then kRow X gk b ⟨u.val - 512, by omega⟩ h d else 0
/-- A value entry, behind 512 rows of zeros. -/
def vAt (b : Fin 16) (u : Fin 2560) (h : Fin 8) (d : Fin 64) : EReal :=
  if hu : 512 ≤ u.val then X (row b ⟨u.val - 512, by omega⟩) (colV h d) else 0
/-- The bias of query `q` of a chunk and key `j` of its band. -/
def biasAt (h : Fin 8) (q : Fin 64) (j : Fin 576) : EReal := rb h ⟨min 256 (640 + q.val - j.val), by omega⟩
/-- The score of query `q` of chunk `n` and key `j` of its band. -/
def scoreAt (b : Fin 16) (h : Fin 8) (n : Fin 32) (q : Fin 64) (j : Fin 576) : EReal :=
  if 8 ≤ n.val + j.val / 64 then
    (∑ d, qAt X gq b (tok n q) h d * kAt X gk b (bandTok n j) h d) * Ideal.ofBits .f32 1040187392#32 + biasAt rb h q j
  else ⊥
/-- An entry of the attention's result. -/
def attnAt (b : Fin 16) (n : Fin 32) (q : Fin 64) (h : Fin 8) (d : Fin 64) : EReal :=
  ∑ j, vAt X b (bandTok n j) h d * Ideal.div
    (Ideal.exp (scoreAt X gq gk rb b h n q j - max ⊥ (Finset.fold max ⊥ (scoreAt X gq gk rb b h n q) Finset.univ)))
    (∑ i, Ideal.exp (scoreAt X gq gk rb b h n q i - max ⊥ (Finset.fold max ⊥ (scoreAt X gq gk rb b h n q) Finset.univ)))

end Spec

end Cert.Proof.Attn

end
-- ==== Proof.HostBias.lean ====
/-
  The kernel's bias table on the host: 64 shifted slices of one gathered row per head, stacked.
-/
module

public import proofs.«01_k».proof.Proof.Gen.KernelIdeal.Value
public import proofs.«01_k».proof.Proof.Math
public import Idealize.ShloMosaic.Lib.StableHlo.RunRead
public import Idealize.ShloMosaic.Lib.KernelVsHost

@[expose] public section

set_option maxRecDepth 8192
set_option maxHeartbeats 4000000

noncomputable section

namespace Cert.Proof.Attn

open Idealize.ShloMosaic Idealize.ShloMosaic.TcCoe Idealize.ShloMosaic.Tactic
open Cert.KernelIdeal Cert.KernelIdeal.Gen

section Stack
variable {α : Type} (G : S8x639.Idx → α)

/-- Row `q` of the stack: the gathered row, shifted by `63 - q`. -/
def rowFn (q : Fin 64) : S8x1x576.Idx → α := fun y => G (ix2 (y 0) ⟨63 - q.val + (y 2).val, by have : (y 2).val < 576 := (y 2).isLt; omega⟩)
/-- Sixteen rows of the stack. -/
def blkFn (s : Fin 4) : S8x16x576.Idx → α := fun y => G (ix2 (y 0) ⟨63 - (16 * s.val + (y 1).val) + (y 2).val, by have : (y 2).val < 576 := (y 2).isLt; omega⟩)
/-- The whole stack. -/
def stackFn : S8x64x576.Idx → α := fun y => G (ix2 (y 0) ⟨63 - (y 1).val + (y 2).val, by have : (y 2).val < 576 := (y 2).isLt; omega⟩)

theorem row_eq (o : Nat) (hs : S8x639.Slices ![0, o] S8x576) (q : Fin 64) (ho : o = 63 - q.val) :
    broadcastInDim S8x1x576 ![0, 2] bcast_S8x576_S8x1x576_0_2 (extractStridedSlice S8x576 ![0, o] G hs) = rowFn G q := by
  subst ho
  funext y
  unfold rowFn broadcastInDim extractStridedSlice
  refine congrArg G (funext fun a => Fin.ext ?_)
  match a with
  | ⟨0, _⟩ => show 0 + (y 0).val = (y 0).val; omega
  | ⟨1, _⟩ => rfl

theorem cat16 (s : Fin 4) (b0 b1 b2 b3 b4 b5 b6 b7 b8 b9 b10 b11 b12 b13 b14 b15 : S8x1x576.Idx → α)
    (h : Shape.Concatenates [S8x1x576, S8x1x576, S8x1x576, S8x1x576, S8x1x576, S8x1x576, S8x1x576, S8x1x576, S8x1x576, S8x1x576, S8x1x576, S8x1x576, S8x1x576, S8x1x576, S8x1x576, S8x1x576] S8x16x576 1)
    (h0 : b0 = rowFn G ⟨16 * s.val + 0, by omega⟩)
    (h1 : b1 = rowFn G ⟨16 * s.val + 1, by omega⟩)
    (h2 : b2 = rowFn G ⟨16 * s.val + 2, by omega⟩)
    (h3 : b3 = rowFn G ⟨16 * s.val + 3, by omega⟩)
    (h4 : b4 = rowFn G ⟨16 * s.val + 4, by omega⟩)
    (h5 : b5 = rowFn G ⟨16 * s.val + 5, by omega⟩)
    (h6 : b6 = rowFn G ⟨16 * s.val + 6, by omega⟩)
    (h7 : b7 = rowFn G ⟨16 * s.val + 7, by omega⟩)
    (h8 : b8 = rowFn G ⟨16 * s.val + 8, by omega⟩)
    (h9 : b9 = rowFn G ⟨16 * s.val + 9, by omega⟩)
    (h10 : b10 = rowFn G ⟨16 * s.val + 10, by omega⟩)
    (h11 : b11 = rowFn G ⟨16 * s.val + 11, by omega⟩)
    (h12 : b12 = rowFn G ⟨16 * s.val + 12, by omega⟩)
    (h13 : b13 = rowFn G ⟨16 * s.val + 13, by omega⟩)
    (h14 : b14 = rowFn G ⟨16 * s.val + 14, by omega⟩)
    (h15 : b15 = rowFn G ⟨16 * s.val + 15, by omega⟩) :
    concatenate S8x16x576 1 [⟨S8x1x576, b0⟩, ⟨S8x1x576, b1⟩, ⟨S8x1x576, b2⟩, ⟨S8x1x576, b3⟩, ⟨S8x1x576, b4⟩, ⟨S8x1x576, b5⟩, ⟨S8x1x576, b6⟩, ⟨S8x1x576, b7⟩, ⟨S8x1x576, b8⟩, ⟨S8x1x576, b9⟩, ⟨S8x1x576, b10⟩, ⟨S8x1x576, b11⟩, ⟨S8x1x576, b12⟩, ⟨S8x1x576, b13⟩, ⟨S8x1x576, b14⟩, ⟨S8x1x576, b15⟩] h = blkFn G s := by
  subst h0 h1 h2 h3 h4 h5 h6 h7 h8 h9 h10 h11 h12 h13 h14 h15
  funext y
  refine (concatenate_ofFn_unit_apply (s₁ := S8x1x576) 1 (fun i : Fin 16 => rowFn G ⟨16 * s.val + i.val, by omega⟩) h rfl rfl y (y 1) rfl (ix3 (y 0) 0 (y 2)) ?_).trans rfl
  intro b hb
  match b with
  | ⟨0, _⟩ => rfl
  | ⟨1, _⟩ => exact absurd rfl hb
  | ⟨2, _⟩ => rfl

theorem cat4 (b0 b1 b2 b3 : S8x16x576.Idx → α) (h : Shape.Concatenates [S8x16x576, S8x16x576, S8x16x576, S8x16x576] S8x64x576 1)
    (h0 : b0 = blkFn G 0) (h1 : b1 = blkFn G 1) (h2 : b2 = blkFn G 2) (h3 : b3 = blkFn G 3) :
    concatenate S8x64x576 1 [⟨S8x16x576, b0⟩, ⟨S8x16x576, b1⟩, ⟨S8x16x576, b2⟩, ⟨S8x16x576, b3⟩] h = stackFn G := by
  subst h0 h1 h2 h3
  funext y
  have h1 : (y 1).val < 64 := (y 1).isLt
  refine (concatenate_ofFn_apply (s₁ := S8x16x576) 1 (fun i : Fin 4 => blkFn G i) h rfl 16 rfl y ⟨(y 1).val / 16, by omega⟩ rfl
    (ix3 (y 0) ⟨(y 1).val % 16, by omega⟩ (y 2)) rfl ?_).trans ?_
  · intro b hb
    match b with
    | ⟨0, _⟩ => rfl
    | ⟨1, _⟩ => exact absurd rfl hb
    | ⟨2, _⟩ => rfl
  · unfold blkFn stackFn
    refine congrArg G (funext fun a => Fin.ext ?_)
    match a with
    | ⟨0, _⟩ => rfl
    | ⟨1, _⟩ =>
      show 63 - (16 * ((y 1).val / 16) + (y 1).val % 16) + (y 2).val = 63 - (y 1).val + (y 2).val
      omega

end Stack

section Reads
variable {F : FTy → Type} [FloatOps F] (W : (b : DevRef τ sig) → b.ty.Contents (Elt F))

/-- The host's operations after the gather. -/
def tailOps : List (HloOp τ sig (Elt F)) := hostOps0_2.drop 12

theorem rows0 : (StableHlo.upto tailOps W 132 (Proc.tc.devRef main_v143) : FVec F S8x16x576 .f32) = blkFn (W (Proc.tc.devRef main_v14)) 0 := by
  have h0 : (StableHlo.upto tailOps W 128 (Proc.tc.devRef main_v79) : FVec F S8x1x576 .f32) = broadcastInDim S8x1x576 ![0, 2] bcast_S8x576_S8x1x576_0_2 (extractStridedSlice S8x576 ![0, 63] (W (Proc.tc.devRef main_v14)) slices_S8x639_S8x576_0_63) := by
    simp only [tailOps, hostOps0_2, List.drop_succ_cons, List.drop_zero]
    after_reads_simp
  have h1 : (StableHlo.upto tailOps W 128 (Proc.tc.devRef main_v80) : FVec F S8x1x576 .f32) = broadcastInDim S8x1x576 ![0, 2] bcast_S8x576_S8x1x576_0_2 (extractStridedSlice S8x576 ![0, 62] (W (Proc.tc.devRef main_v14)) slices_S8x639_S8x576_0_62) := by
    simp only [tailOps, hostOps0_2, List.drop_succ_cons, List.drop_zero]
    after_reads_simp
  have h2 : (StableHlo.upto tailOps W 128 (Proc.tc.devRef main_v81) : FVec F S8x1x576 .f32) = broadcastInDim S8x1x576 ![0, 2] bcast_S8x576_S8x1x576_0_2 (extractStridedSlice S8x576 ![0, 61] (W (Proc.tc.devRef main_v14)) slices_S8x639_S8x576_0_61) := by
    simp only [tailOps, hostOps0_2, List.drop_succ_cons, List.drop_zero]
    after_reads_simp
  have h3 : (StableHlo.upto tailOps W 128 (Proc.tc.devRef main_v82) : FVec F S8x1x576 .f32) = broadcastInDim S8x1x576 ![0, 2] bcast_S8x576_S8x1x576_0_2 (extractStridedSlice S8x576 ![0, 60] (W (Proc.tc.devRef main_v14)) slices_S8x639_S8x576_0_60) := by
    simp only [tailOps, hostOps0_2, List.drop_succ_cons, List.drop_zero]
    after_reads_simp
  have h4 : (StableHlo.upto tailOps W 128 (Proc.tc.devRef main_v83) : FVec F S8x1x576 .f32) = broadcastInDim S8x1x576 ![0, 2] bcast_S8x576_S8x1x576_0_2 (extractStridedSlice S8x576 ![0, 59] (W (Proc.tc.devRef main_v14)) slices_S8x639_S8x576_0_59) := by
    simp only [tailOps, hostOps0_2, List.drop_succ_cons, List.drop_zero]
    after_reads_simp
  have h5 : (StableHlo.upto tailOps W 128 (Proc.tc.devRef main_v84) : FVec F S8x1x576 .f32) = broadcastInDim S8x1x576 ![0, 2] bcast_S8x576_S8x1x576_0_2 (extractStridedSlice S8x576 ![0, 58] (W (Proc.tc.devRef main_v14)) slices_S8x639_S8x576_0_58) := by
    simp only [tailOps, hostOps0_2, List.drop_succ_cons, List.drop_zero]
    after_reads_simp
  have h6 : (StableHlo.upto tailOps W 128 (Proc.tc.devRef main_v85) : FVec F S8x1x576 .f32) = broadcastInDim S8x1x576 ![0, 2] bcast_S8x576_S8x1x576_0_2 (extractStridedSlice S8x576 ![0, 57] (W (Proc.tc.devRef main_v14)) slices_S8x639_S8x576_0_57) := by
    simp only [tailOps, hostOps0_2, List.drop_succ_cons, List.drop_zero]
    after_reads_simp
  have h7 : (StableHlo.upto tailOps W 128 (Proc.tc.devRef main_v86) : FVec F S8x1x576 .f32) = broadcastInDim S8x1x576 ![0, 2] bcast_S8x576_S8x1x576_0_2 (extractStridedSlice S8x576 ![0, 56] (W (Proc.tc.devRef main_v14)) slices_S8x639_S8x576_0_56) := by
    simp only [tailOps, hostOps0_2, List.drop_succ_cons, List.drop_zero]
    after_reads_simp
  have h8 : (StableHlo.upto tailOps W 128 (Proc.tc.devRef main_v87) : FVec F S8x1x576 .f32) = broadcastInDim S8x1x576 ![0, 2] bcast_S8x576_S8x1x576_0_2 (extractStridedSlice S8x576 ![0, 55] (W (Proc.tc.devRef main_v14)) slices_S8x639_S8x576_0_55) := by
    simp only [tailOps, hostOps0_2, List.drop_succ_cons, List.drop_zero]
    after_reads_simp
  have h9 : (StableHlo.upto tailOps W 128 (Proc.tc.devRef main_v88) : FVec F S8x1x576 .f32) = broadcastInDim S8x1x576 ![0, 2] bcast_S8x576_S8x1x576_0_2 (extractStridedSlice S8x576 ![0, 54] (W (Proc.tc.devRef main_v14)) slices_S8x639_S8x576_0_54) := by
    simp only [tailOps, hostOps0_2, List.drop_succ_cons, List.drop_zero]
    after_reads_simp
  have h10 : (StableHlo.upto tailOps W 128 (Proc.tc.devRef main_v89) : FVec F S8x1x576 .f32) = broadcastInDim S8x1x576 ![0, 2] bcast_S8x576_S8x1x576_0_2 (extractStridedSlice S8x576 ![0, 53] (W (Proc.tc.devRef main_v14)) slices_S8x639_S8x576_0_53) := by
    simp only [tailOps, hostOps0_2, List.drop_succ_cons, List.drop_zero]
    after_reads_simp
  have h11 : (StableHlo.upto tailOps W 128 (Proc.tc.devRef main_v90) : FVec F S8x1x576 .f32) = broadcastInDim S8x1x576 ![0, 2] bcast_S8x576_S8x1x576_0_2 (extractStridedSlice S8x576 ![0, 52] (W (Proc.tc.devRef main_v14)) slices_S8x639_S8x576_0_52) := by
    simp only [tailOps, hostOps0_2, List.drop_succ_cons, List.drop_zero]
    after_reads_simp
  have h12 : (StableHlo.upto tailOps W 128 (Proc.tc.devRef main_v91) : FVec F S8x1x576 .f32) = broadcastInDim S8x1x576 ![0, 2] bcast_S8x576_S8x1x576_0_2 (extractStridedSlice S8x576 ![0, 51] (W (Proc.tc.devRef main_v14)) slices_S8x639_S8x576_0_51) := by
    simp only [tailOps, hostOps0_2, List.drop_succ_cons, List.drop_zero]
    after_reads_simp
  have h13 : (StableHlo.upto tailOps W 128 (Proc.tc.devRef main_v92) : FVec F S8x1x576 .f32) = broadcastInDim S8x1x576 ![0, 2] bcast_S8x576_S8x1x576_0_2 (extractStridedSlice S8x576 ![0, 50] (W (Proc.tc.devRef main_v14)) slices_S8x639_S8x576_0_50) := by
    simp only [tailOps, hostOps0_2, List.drop_succ_cons, List.drop_zero]
    after_reads_simp
  have h14 : (StableHlo.upto tailOps W 128 (Proc.tc.devRef main_v93) : FVec F S8x1x576 .f32) = broadcastInDim S8x1x576 ![0, 2] bcast_S8x576_S8x1x576_0_2 (extractStridedSlice S8x576 ![0, 49] (W (Proc.tc.devRef main_v14)) slices_S8x639_S8x576_0_49) := by
    simp only [tailOps, hostOps0_2, List.drop_succ_cons, List.drop_zero]
    after_reads_simp
  have h15 : (StableHlo.upto tailOps W 128 (Proc.tc.devRef main_v94) : FVec F S8x1x576 .f32) = broadcastInDim S8x1x576 ![0, 2] bcast_S8x576_S8x1x576_0_2 (extractStridedSlice S8x576 ![0, 48] (W (Proc.tc.devRef main_v14)) slices_S8x639_S8x576_0_48) := by
    simp only [tailOps, hostOps0_2, List.drop_succ_cons, List.drop_zero]
    after_reads_simp
  have e : (StableHlo.upto tailOps W 132 (Proc.tc.devRef main_v143) : FVec F S8x16x576 .f32) = concatenate S8x16x576 1 [⟨S8x1x576, (StableHlo.upto tailOps W 128 (Proc.tc.devRef main_v79) : FVec F S8x1x576 .f32)⟩, ⟨S8x1x576, (StableHlo.upto tailOps W 128 (Proc.tc.devRef main_v80) : FVec F S8x1x576 .f32)⟩, ⟨S8x1x576, (StableHlo.upto tailOps W 128 (Proc.tc.devRef main_v81) : FVec F S8x1x576 .f32)⟩, ⟨S8x1x576, (StableHlo.upto tailOps W 128 (Proc.tc.devRef main_v82) : FVec F S8x1x576 .f32)⟩, ⟨S8x1x576, (StableHlo.upto tailOps W 128 (Proc.tc.devRef main_v83) : FVec F S8x1x576 .f32)⟩, ⟨S8x1x576, (StableHlo.upto tailOps W 128 (Proc.tc.devRef main_v84) : FVec F S8x1x576 .f32)⟩, ⟨S8x1x576, (StableHlo.upto tailOps W 128 (Proc.tc.devRef main_v85) : FVec F S8x1x576 .f32)⟩, ⟨S8x1x576, (StableHlo.upto tailOps W 128 (Proc.tc.devRef main_v86) : FVec F S8x1x576 .f32)⟩, ⟨S8x1x576, (StableHlo.upto tailOps W 128 (Proc.tc.devRef main_v87) : FVec F S8x1x576 .f32)⟩, ⟨S8x1x576, (StableHlo.upto tailOps W 128 (Proc.tc.devRef main_v88) : FVec F S8x1x576 .f32)⟩, ⟨S8x1x576, (StableHlo.upto tailOps W 128 (Proc.tc.devRef main_v89) : FVec F S8x1x576 .f32)⟩, ⟨S8x1x576, (StableHlo.upto tailOps W 128 (Proc.tc.devRef main_v90) : FVec F S8x1x576 .f32)⟩, ⟨S8x1x576, (StableHlo.upto tailOps W 128 (Proc.tc.devRef main_v91) : FVec F S8x1x576 .f32)⟩, ⟨S8x1x576, (StableHlo.upto tailOps W 128 (Proc.tc.devRef main_v92) : FVec F S8x1x576 .f32)⟩, ⟨S8x1x576, (StableHlo.upto tailOps W 128 (Proc.tc.devRef main_v93) : FVec F S8x1x576 .f32)⟩, ⟨S8x1x576, (StableHlo.upto tailOps W 128 (Proc.tc.devRef main_v94) : FVec F S8x1x576 .f32)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 := by
    simp only [tailOps, hostOps0_2, List.drop_succ_cons, List.drop_zero]
    after_reads_simp
    rfl
  exact e.trans (cat16 _ 0 _ _ _ _ _ _ _ _ _ _ _ _ _ _ _ _ _ (h0.trans (row_eq _ 63 _ _ rfl)) (h1.trans (row_eq _ 62 _ _ rfl)) (h2.trans (row_eq _ 61 _ _ rfl)) (h3.trans (row_eq _ 60 _ _ rfl)) (h4.trans (row_eq _ 59 _ _ rfl)) (h5.trans (row_eq _ 58 _ _ rfl)) (h6.trans (row_eq _ 57 _ _ rfl)) (h7.trans (row_eq _ 56 _ _ rfl)) (h8.trans (row_eq _ 55 _ _ rfl)) (h9.trans (row_eq _ 54 _ _ rfl)) (h10.trans (row_eq _ 53 _ _ rfl)) (h11.trans (row_eq _ 52 _ _ rfl)) (h12.trans (row_eq _ 51 _ _ rfl)) (h13.trans (row_eq _ 50 _ _ rfl)) (h14.trans (row_eq _ 49 _ _ rfl)) (h15.trans (row_eq _ 48 _ _ rfl)))

theorem rows1 : (StableHlo.upto tailOps W 132 (Proc.tc.devRef main_v144) : FVec F S8x16x576 .f32) = blkFn (W (Proc.tc.devRef main_v14)) 1 := by
  have h0 : (StableHlo.upto tailOps W 129 (Proc.tc.devRef main_v95) : FVec F S8x1x576 .f32) = broadcastInDim S8x1x576 ![0, 2] bcast_S8x576_S8x1x576_0_2 (extractStridedSlice S8x576 ![0, 47] (W (Proc.tc.devRef main_v14)) slices_S8x639_S8x576_0_47) := by
    simp only [tailOps, hostOps0_2, List.drop_succ_cons, List.drop_zero]
    after_reads_simp
  have h1 : (StableHlo.upto tailOps W 129 (Proc.tc.devRef main_v96) : FVec F S8x1x576 .f32) = broadcastInDim S8x1x576 ![0, 2] bcast_S8x576_S8x1x576_0_2 (extractStridedSlice S8x576 ![0, 46] (W (Proc.tc.devRef main_v14)) slices_S8x639_S8x576_0_46) := by
    simp only [tailOps, hostOps0_2, List.drop_succ_cons, List.drop_zero]
    after_reads_simp
  have h2 : (StableHlo.upto tailOps W 129 (Proc.tc.devRef main_v97) : FVec F S8x1x576 .f32) = broadcastInDim S8x1x576 ![0, 2] bcast_S8x576_S8x1x576_0_2 (extractStridedSlice S8x576 ![0, 45] (W (Proc.tc.devRef main_v14)) slices_S8x639_S8x576_0_45) := by
    simp only [tailOps, hostOps0_2, List.drop_succ_cons, List.drop_zero]
    after_reads_simp
  have h3 : (StableHlo.upto tailOps W 129 (Proc.tc.devRef main_v98) : FVec F S8x1x576 .f32) = broadcastInDim S8x1x576 ![0, 2] bcast_S8x576_S8x1x576_0_2 (extractStridedSlice S8x576 ![0, 44] (W (Proc.tc.devRef main_v14)) slices_S8x639_S8x576_0_44) := by
    simp only [tailOps, hostOps0_2, List.drop_succ_cons, List.drop_zero]
    after_reads_simp
  have h4 : (StableHlo.upto tailOps W 129 (Proc.tc.devRef main_v99) : FVec F S8x1x576 .f32) = broadcastInDim S8x1x576 ![0, 2] bcast_S8x576_S8x1x576_0_2 (extractStridedSlice S8x576 ![0, 43] (W (Proc.tc.devRef main_v14)) slices_S8x639_S8x576_0_43) := by
    simp only [tailOps, hostOps0_2, List.drop_succ_cons, List.drop_zero]
    after_reads_simp
  have h5 : (StableHlo.upto tailOps W 129 (Proc.tc.devRef main_v100) : FVec F S8x1x576 .f32) = broadcastInDim S8x1x576 ![0, 2] bcast_S8x576_S8x1x576_0_2 (extractStridedSlice S8x576 ![0, 42] (W (Proc.tc.devRef main_v14)) slices_S8x639_S8x576_0_42) := by
    simp only [tailOps, hostOps0_2, List.drop_succ_cons, List.drop_zero]
    after_reads_simp
  have h6 : (StableHlo.upto tailOps W 129 (Proc.tc.devRef main_v101) : FVec F S8x1x576 .f32) = broadcastInDim S8x1x576 ![0, 2] bcast_S8x576_S8x1x576_0_2 (extractStridedSlice S8x576 ![0, 41] (W (Proc.tc.devRef main_v14)) slices_S8x639_S8x576_0_41) := by
    simp only [tailOps, hostOps0_2, List.drop_succ_cons, List.drop_zero]
    after_reads_simp
  have h7 : (StableHlo.upto tailOps W 129 (Proc.tc.devRef main_v102) : FVec F S8x1x576 .f32) = broadcastInDim S8x1x576 ![0, 2] bcast_S8x576_S8x1x576_0_2 (extractStridedSlice S8x576 ![0, 40] (W (Proc.tc.devRef main_v14)) slices_S8x639_S8x576_0_40) := by
    simp only [tailOps, hostOps0_2, List.drop_succ_cons, List.drop_zero]
    after_reads_simp
  have h8 : (StableHlo.upto tailOps W 129 (Proc.tc.devRef main_v103) : FVec F S8x1x576 .f32) = broadcastInDim S8x1x576 ![0, 2] bcast_S8x576_S8x1x576_0_2 (extractStridedSlice S8x576 ![0, 39] (W (Proc.tc.devRef main_v14)) slices_S8x639_S8x576_0_39) := by
    simp only [tailOps, hostOps0_2, List.drop_succ_cons, List.drop_zero]
    after_reads_simp
  have h9 : (StableHlo.upto tailOps W 129 (Proc.tc.devRef main_v104) : FVec F S8x1x576 .f32) = broadcastInDim S8x1x576 ![0, 2] bcast_S8x576_S8x1x576_0_2 (extractStridedSlice S8x576 ![0, 38] (W (Proc.tc.devRef main_v14)) slices_S8x639_S8x576_0_38) := by
    simp only [tailOps, hostOps0_2, List.drop_succ_cons, List.drop_zero]
    after_reads_simp
  have h10 : (StableHlo.upto tailOps W 129 (Proc.tc.devRef main_v105) : FVec F S8x1x576 .f32) = broadcastInDim S8x1x576 ![0, 2] bcast_S8x576_S8x1x576_0_2 (extractStridedSlice S8x576 ![0, 37] (W (Proc.tc.devRef main_v14)) slices_S8x639_S8x576_0_37) := by
    simp only [tailOps, hostOps0_2, List.drop_succ_cons, List.drop_zero]
    after_reads_simp
  have h11 : (StableHlo.upto tailOps W 129 (Proc.tc.devRef main_v106) : FVec F S8x1x576 .f32) = broadcastInDim S8x1x576 ![0, 2] bcast_S8x576_S8x1x576_0_2 (extractStridedSlice S8x576 ![0, 36] (W (Proc.tc.devRef main_v14)) slices_S8x639_S8x576_0_36) := by
    simp only [tailOps, hostOps0_2, List.drop_succ_cons, List.drop_zero]
    after_reads_simp
  have h12 : (StableHlo.upto tailOps W 129 (Proc.tc.devRef main_v107) : FVec F S8x1x576 .f32) = broadcastInDim S8x1x576 ![0, 2] bcast_S8x576_S8x1x576_0_2 (extractStridedSlice S8x576 ![0, 35] (W (Proc.tc.devRef main_v14)) slices_S8x639_S8x576_0_35) := by
    simp only [tailOps, hostOps0_2, List.drop_succ_cons, List.drop_zero]
    after_reads_simp
  have h13 : (StableHlo.upto tailOps W 129 (Proc.tc.devRef main_v108) : FVec F S8x1x576 .f32) = broadcastInDim S8x1x576 ![0, 2] bcast_S8x576_S8x1x576_0_2 (extractStridedSlice S8x576 ![0, 34] (W (Proc.tc.devRef main_v14)) slices_S8x639_S8x576_0_34) := by
    simp only [tailOps, hostOps0_2, List.drop_succ_cons, List.drop_zero]
    after_reads_simp
  have h14 : (StableHlo.upto tailOps W 129 (Proc.tc.devRef main_v109) : FVec F S8x1x576 .f32) = broadcastInDim S8x1x576 ![0, 2] bcast_S8x576_S8x1x576_0_2 (extractStridedSlice S8x576 ![0, 33] (W (Proc.tc.devRef main_v14)) slices_S8x639_S8x576_0_33) := by
    simp only [tailOps, hostOps0_2, List.drop_succ_cons, List.drop_zero]
    after_reads_simp
  have h15 : (StableHlo.upto tailOps W 129 (Proc.tc.devRef main_v110) : FVec F S8x1x576 .f32) = broadcastInDim S8x1x576 ![0, 2] bcast_S8x576_S8x1x576_0_2 (extractStridedSlice S8x576 ![0, 32] (W (Proc.tc.devRef main_v14)) slices_S8x639_S8x576_0_32) := by
    simp only [tailOps, hostOps0_2, List.drop_succ_cons, List.drop_zero]
    after_reads_simp
  have e : (StableHlo.upto tailOps W 132 (Proc.tc.devRef main_v144) : FVec F S8x16x576 .f32) = concatenate S8x16x576 1 [⟨S8x1x576, (StableHlo.upto tailOps W 129 (Proc.tc.devRef main_v95) : FVec F S8x1x576 .f32)⟩, ⟨S8x1x576, (StableHlo.upto tailOps W 129 (Proc.tc.devRef main_v96) : FVec F S8x1x576 .f32)⟩, ⟨S8x1x576, (StableHlo.upto tailOps W 129 (Proc.tc.devRef main_v97) : FVec F S8x1x576 .f32)⟩, ⟨S8x1x576, (StableHlo.upto tailOps W 129 (Proc.tc.devRef main_v98) : FVec F S8x1x576 .f32)⟩, ⟨S8x1x576, (StableHlo.upto tailOps W 129 (Proc.tc.devRef main_v99) : FVec F S8x1x576 .f32)⟩, ⟨S8x1x576, (StableHlo.upto tailOps W 129 (Proc.tc.devRef main_v100) : FVec F S8x1x576 .f32)⟩, ⟨S8x1x576, (StableHlo.upto tailOps W 129 (Proc.tc.devRef main_v101) : FVec F S8x1x576 .f32)⟩, ⟨S8x1x576, (StableHlo.upto tailOps W 129 (Proc.tc.devRef main_v102) : FVec F S8x1x576 .f32)⟩, ⟨S8x1x576, (StableHlo.upto tailOps W 129 (Proc.tc.devRef main_v103) : FVec F S8x1x576 .f32)⟩, ⟨S8x1x576, (StableHlo.upto tailOps W 129 (Proc.tc.devRef main_v104) : FVec F S8x1x576 .f32)⟩, ⟨S8x1x576, (StableHlo.upto tailOps W 129 (Proc.tc.devRef main_v105) : FVec F S8x1x576 .f32)⟩, ⟨S8x1x576, (StableHlo.upto tailOps W 129 (Proc.tc.devRef main_v106) : FVec F S8x1x576 .f32)⟩, ⟨S8x1x576, (StableHlo.upto tailOps W 129 (Proc.tc.devRef main_v107) : FVec F S8x1x576 .f32)⟩, ⟨S8x1x576, (StableHlo.upto tailOps W 129 (Proc.tc.devRef main_v108) : FVec F S8x1x576 .f32)⟩, ⟨S8x1x576, (StableHlo.upto tailOps W 129 (Proc.tc.devRef main_v109) : FVec F S8x1x576 .f32)⟩, ⟨S8x1x576, (StableHlo.upto tailOps W 129 (Proc.tc.devRef main_v110) : FVec F S8x1x576 .f32)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 := by
    simp only [tailOps, hostOps0_2, List.drop_succ_cons, List.drop_zero]
    after_reads_simp
    rfl
  exact e.trans (cat16 _ 1 _ _ _ _ _ _ _ _ _ _ _ _ _ _ _ _ _ (h0.trans (row_eq _ 47 _ _ rfl)) (h1.trans (row_eq _ 46 _ _ rfl)) (h2.trans (row_eq _ 45 _ _ rfl)) (h3.trans (row_eq _ 44 _ _ rfl)) (h4.trans (row_eq _ 43 _ _ rfl)) (h5.trans (row_eq _ 42 _ _ rfl)) (h6.trans (row_eq _ 41 _ _ rfl)) (h7.trans (row_eq _ 40 _ _ rfl)) (h8.trans (row_eq _ 39 _ _ rfl)) (h9.trans (row_eq _ 38 _ _ rfl)) (h10.trans (row_eq _ 37 _ _ rfl)) (h11.trans (row_eq _ 36 _ _ rfl)) (h12.trans (row_eq _ 35 _ _ rfl)) (h13.trans (row_eq _ 34 _ _ rfl)) (h14.trans (row_eq _ 33 _ _ rfl)) (h15.trans (row_eq _ 32 _ _ rfl)))

theorem rows2 : (StableHlo.upto tailOps W 132 (Proc.tc.devRef main_v145) : FVec F S8x16x576 .f32) = blkFn (W (Proc.tc.devRef main_v14)) 2 := by
  have h0 : (StableHlo.upto tailOps W 130 (Proc.tc.devRef main_v111) : FVec F S8x1x576 .f32) = broadcastInDim S8x1x576 ![0, 2] bcast_S8x576_S8x1x576_0_2 (extractStridedSlice S8x576 ![0, 31] (W (Proc.tc.devRef main_v14)) slices_S8x639_S8x576_0_31) := by
    simp only [tailOps, hostOps0_2, List.drop_succ_cons, List.drop_zero]
    after_reads_simp
  have h1 : (StableHlo.upto tailOps W 130 (Proc.tc.devRef main_v112) : FVec F S8x1x576 .f32) = broadcastInDim S8x1x576 ![0, 2] bcast_S8x576_S8x1x576_0_2 (extractStridedSlice S8x576 ![0, 30] (W (Proc.tc.devRef main_v14)) slices_S8x639_S8x576_0_30) := by
    simp only [tailOps, hostOps0_2, List.drop_succ_cons, List.drop_zero]
    after_reads_simp
  have h2 : (StableHlo.upto tailOps W 130 (Proc.tc.devRef main_v113) : FVec F S8x1x576 .f32) = broadcastInDim S8x1x576 ![0, 2] bcast_S8x576_S8x1x576_0_2 (extractStridedSlice S8x576 ![0, 29] (W (Proc.tc.devRef main_v14)) slices_S8x639_S8x576_0_29) := by
    simp only [tailOps, hostOps0_2, List.drop_succ_cons, List.drop_zero]
    after_reads_simp
  have h3 : (StableHlo.upto tailOps W 130 (Proc.tc.devRef main_v114) : FVec F S8x1x576 .f32) = broadcastInDim S8x1x576 ![0, 2] bcast_S8x576_S8x1x576_0_2 (extractStridedSlice S8x576 ![0, 28] (W (Proc.tc.devRef main_v14)) slices_S8x639_S8x576_0_28) := by
    simp only [tailOps, hostOps0_2, List.drop_succ_cons, List.drop_zero]
    after_reads_simp
  have h4 : (StableHlo.upto tailOps W 130 (Proc.tc.devRef main_v115) : FVec F S8x1x576 .f32) = broadcastInDim S8x1x576 ![0, 2] bcast_S8x576_S8x1x576_0_2 (extractStridedSlice S8x576 ![0, 27] (W (Proc.tc.devRef main_v14)) slices_S8x639_S8x576_0_27) := by
    simp only [tailOps, hostOps0_2, List.drop_succ_cons, List.drop_zero]
    after_reads_simp
  have h5 : (StableHlo.upto tailOps W 130 (Proc.tc.devRef main_v116) : FVec F S8x1x576 .f32) = broadcastInDim S8x1x576 ![0, 2] bcast_S8x576_S8x1x576_0_2 (extractStridedSlice S8x576 ![0, 26] (W (Proc.tc.devRef main_v14)) slices_S8x639_S8x576_0_26) := by
    simp only [tailOps, hostOps0_2, List.drop_succ_cons, List.drop_zero]
    after_reads_simp
  have h6 : (StableHlo.upto tailOps W 130 (Proc.tc.devRef main_v117) : FVec F S8x1x576 .f32) = broadcastInDim S8x1x576 ![0, 2] bcast_S8x576_S8x1x576_0_2 (extractStridedSlice S8x576 ![0, 25] (W (Proc.tc.devRef main_v14)) slices_S8x639_S8x576_0_25) := by
    simp only [tailOps, hostOps0_2, List.drop_succ_cons, List.drop_zero]
    after_reads_simp
  have h7 : (StableHlo.upto tailOps W 130 (Proc.tc.devRef main_v118) : FVec F S8x1x576 .f32) = broadcastInDim S8x1x576 ![0, 2] bcast_S8x576_S8x1x576_0_2 (extractStridedSlice S8x576 ![0, 24] (W (Proc.tc.devRef main_v14)) slices_S8x639_S8x576_0_24) := by
    simp only [tailOps, hostOps0_2, List.drop_succ_cons, List.drop_zero]
    after_reads_simp
  have h8 : (StableHlo.upto tailOps W 130 (Proc.tc.devRef main_v119) : FVec F S8x1x576 .f32) = broadcastInDim S8x1x576 ![0, 2] bcast_S8x576_S8x1x576_0_2 (extractStridedSlice S8x576 ![0, 23] (W (Proc.tc.devRef main_v14)) slices_S8x639_S8x576_0_23) := by
    simp only [tailOps, hostOps0_2, List.drop_succ_cons, List.drop_zero]
    after_reads_simp
  have h9 : (StableHlo.upto tailOps W 130 (Proc.tc.devRef main_v120) : FVec F S8x1x576 .f32) = broadcastInDim S8x1x576 ![0, 2] bcast_S8x576_S8x1x576_0_2 (extractStridedSlice S8x576 ![0, 22] (W (Proc.tc.devRef main_v14)) slices_S8x639_S8x576_0_22) := by
    simp only [tailOps, hostOps0_2, List.drop_succ_cons, List.drop_zero]
    after_reads_simp
  have h10 : (StableHlo.upto tailOps W 130 (Proc.tc.devRef main_v121) : FVec F S8x1x576 .f32) = broadcastInDim S8x1x576 ![0, 2] bcast_S8x576_S8x1x576_0_2 (extractStridedSlice S8x576 ![0, 21] (W (Proc.tc.devRef main_v14)) slices_S8x639_S8x576_0_21) := by
    simp only [tailOps, hostOps0_2, List.drop_succ_cons, List.drop_zero]
    after_reads_simp
  have h11 : (StableHlo.upto tailOps W 130 (Proc.tc.devRef main_v122) : FVec F S8x1x576 .f32) = broadcastInDim S8x1x576 ![0, 2] bcast_S8x576_S8x1x576_0_2 (extractStridedSlice S8x576 ![0, 20] (W (Proc.tc.devRef main_v14)) slices_S8x639_S8x576_0_20) := by
    simp only [tailOps, hostOps0_2, List.drop_succ_cons, List.drop_zero]
    after_reads_simp
  have h12 : (StableHlo.upto tailOps W 130 (Proc.tc.devRef main_v123) : FVec F S8x1x576 .f32) = broadcastInDim S8x1x576 ![0, 2] bcast_S8x576_S8x1x576_0_2 (extractStridedSlice S8x576 ![0, 19] (W (Proc.tc.devRef main_v14)) slices_S8x639_S8x576_0_19) := by
    simp only [tailOps, hostOps0_2, List.drop_succ_cons, List.drop_zero]
    after_reads_simp
  have h13 : (StableHlo.upto tailOps W 130 (Proc.tc.devRef main_v124) : FVec F S8x1x576 .f32) = broadcastInDim S8x1x576 ![0, 2] bcast_S8x576_S8x1x576_0_2 (extractStridedSlice S8x576 ![0, 18] (W (Proc.tc.devRef main_v14)) slices_S8x639_S8x576_0_18) := by
    simp only [tailOps, hostOps0_2, List.drop_succ_cons, List.drop_zero]
    after_reads_simp
  have h14 : (StableHlo.upto tailOps W 130 (Proc.tc.devRef main_v125) : FVec F S8x1x576 .f32) = broadcastInDim S8x1x576 ![0, 2] bcast_S8x576_S8x1x576_0_2 (extractStridedSlice S8x576 ![0, 17] (W (Proc.tc.devRef main_v14)) slices_S8x639_S8x576_0_17) := by
    simp only [tailOps, hostOps0_2, List.drop_succ_cons, List.drop_zero]
    after_reads_simp
  have h15 : (StableHlo.upto tailOps W 130 (Proc.tc.devRef main_v126) : FVec F S8x1x576 .f32) = broadcastInDim S8x1x576 ![0, 2] bcast_S8x576_S8x1x576_0_2 (extractStridedSlice S8x576 ![0, 16] (W (Proc.tc.devRef main_v14)) slices_S8x639_S8x576_0_16) := by
    simp only [tailOps, hostOps0_2, List.drop_succ_cons, List.drop_zero]
    after_reads_simp
  have e : (StableHlo.upto tailOps W 132 (Proc.tc.devRef main_v145) : FVec F S8x16x576 .f32) = concatenate S8x16x576 1 [⟨S8x1x576, (StableHlo.upto tailOps W 130 (Proc.tc.devRef main_v111) : FVec F S8x1x576 .f32)⟩, ⟨S8x1x576, (StableHlo.upto tailOps W 130 (Proc.tc.devRef main_v112) : FVec F S8x1x576 .f32)⟩, ⟨S8x1x576, (StableHlo.upto tailOps W 130 (Proc.tc.devRef main_v113) : FVec F S8x1x576 .f32)⟩, ⟨S8x1x576, (StableHlo.upto tailOps W 130 (Proc.tc.devRef main_v114) : FVec F S8x1x576 .f32)⟩, ⟨S8x1x576, (StableHlo.upto tailOps W 130 (Proc.tc.devRef main_v115) : FVec F S8x1x576 .f32)⟩, ⟨S8x1x576, (StableHlo.upto tailOps W 130 (Proc.tc.devRef main_v116) : FVec F S8x1x576 .f32)⟩, ⟨S8x1x576, (StableHlo.upto tailOps W 130 (Proc.tc.devRef main_v117) : FVec F S8x1x576 .f32)⟩, ⟨S8x1x576, (StableHlo.upto tailOps W 130 (Proc.tc.devRef main_v118) : FVec F S8x1x576 .f32)⟩, ⟨S8x1x576, (StableHlo.upto tailOps W 130 (Proc.tc.devRef main_v119) : FVec F S8x1x576 .f32)⟩, ⟨S8x1x576, (StableHlo.upto tailOps W 130 (Proc.tc.devRef main_v120) : FVec F S8x1x576 .f32)⟩, ⟨S8x1x576, (StableHlo.upto tailOps W 130 (Proc.tc.devRef main_v121) : FVec F S8x1x576 .f32)⟩, ⟨S8x1x576, (StableHlo.upto tailOps W 130 (Proc.tc.devRef main_v122) : FVec F S8x1x576 .f32)⟩, ⟨S8x1x576, (StableHlo.upto tailOps W 130 (Proc.tc.devRef main_v123) : FVec F S8x1x576 .f32)⟩, ⟨S8x1x576, (StableHlo.upto tailOps W 130 (Proc.tc.devRef main_v124) : FVec F S8x1x576 .f32)⟩, ⟨S8x1x576, (StableHlo.upto tailOps W 130 (Proc.tc.devRef main_v125) : FVec F S8x1x576 .f32)⟩, ⟨S8x1x576, (StableHlo.upto tailOps W 130 (Proc.tc.devRef main_v126) : FVec F S8x1x576 .f32)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 := by
    simp only [tailOps, hostOps0_2, List.drop_succ_cons, List.drop_zero]
    after_reads_simp
    rfl
  exact e.trans (cat16 _ 2 _ _ _ _ _ _ _ _ _ _ _ _ _ _ _ _ _ (h0.trans (row_eq _ 31 _ _ rfl)) (h1.trans (row_eq _ 30 _ _ rfl)) (h2.trans (row_eq _ 29 _ _ rfl)) (h3.trans (row_eq _ 28 _ _ rfl)) (h4.trans (row_eq _ 27 _ _ rfl)) (h5.trans (row_eq _ 26 _ _ rfl)) (h6.trans (row_eq _ 25 _ _ rfl)) (h7.trans (row_eq _ 24 _ _ rfl)) (h8.trans (row_eq _ 23 _ _ rfl)) (h9.trans (row_eq _ 22 _ _ rfl)) (h10.trans (row_eq _ 21 _ _ rfl)) (h11.trans (row_eq _ 20 _ _ rfl)) (h12.trans (row_eq _ 19 _ _ rfl)) (h13.trans (row_eq _ 18 _ _ rfl)) (h14.trans (row_eq _ 17 _ _ rfl)) (h15.trans (row_eq _ 16 _ _ rfl)))

theorem rows3 : (StableHlo.upto tailOps W 132 (Proc.tc.devRef main_v146) : FVec F S8x16x576 .f32) = blkFn (W (Proc.tc.devRef main_v14)) 3 := by
  have h0 : (StableHlo.upto tailOps W 131 (Proc.tc.devRef main_v127) : FVec F S8x1x576 .f32) = broadcastInDim S8x1x576 ![0, 2] bcast_S8x576_S8x1x576_0_2 (extractStridedSlice S8x576 ![0, 15] (W (Proc.tc.devRef main_v14)) slices_S8x639_S8x576_0_15) := by
    simp only [tailOps, hostOps0_2, List.drop_succ_cons, List.drop_zero]
    after_reads_simp
  have h1 : (StableHlo.upto tailOps W 131 (Proc.tc.devRef main_v128) : FVec F S8x1x576 .f32) = broadcastInDim S8x1x576 ![0, 2] bcast_S8x576_S8x1x576_0_2 (extractStridedSlice S8x576 ![0, 14] (W (Proc.tc.devRef main_v14)) slices_S8x639_S8x576_0_14) := by
    simp only [tailOps, hostOps0_2, List.drop_succ_cons, List.drop_zero]
    after_reads_simp
  have h2 : (StableHlo.upto tailOps W 131 (Proc.tc.devRef main_v129) : FVec F S8x1x576 .f32) = broadcastInDim S8x1x576 ![0, 2] bcast_S8x576_S8x1x576_0_2 (extractStridedSlice S8x576 ![0, 13] (W (Proc.tc.devRef main_v14)) slices_S8x639_S8x576_0_13) := by
    simp only [tailOps, hostOps0_2, List.drop_succ_cons, List.drop_zero]
    after_reads_simp
  have h3 : (StableHlo.upto tailOps W 131 (Proc.tc.devRef main_v130) : FVec F S8x1x576 .f32) = broadcastInDim S8x1x576 ![0, 2] bcast_S8x576_S8x1x576_0_2 (extractStridedSlice S8x576 ![0, 12] (W (Proc.tc.devRef main_v14)) slices_S8x639_S8x576_0_12) := by
    simp only [tailOps, hostOps0_2, List.drop_succ_cons, List.drop_zero]
    after_reads_simp
  have h4 : (StableHlo.upto tailOps W 131 (Proc.tc.devRef main_v131) : FVec F S8x1x576 .f32) = broadcastInDim S8x1x576 ![0, 2] bcast_S8x576_S8x1x576_0_2 (extractStridedSlice S8x576 ![0, 11] (W (Proc.tc.devRef main_v14)) slices_S8x639_S8x576_0_11) := by
    simp only [tailOps, hostOps0_2, List.drop_succ_cons, List.drop_zero]
    after_reads_simp
  have h5 : (StableHlo.upto tailOps W 131 (Proc.tc.devRef main_v132) : FVec F S8x1x576 .f32) = broadcastInDim S8x1x576 ![0, 2] bcast_S8x576_S8x1x576_0_2 (extractStridedSlice S8x576 ![0, 10] (W (Proc.tc.devRef main_v14)) slices_S8x639_S8x576_0_10) := by
    simp only [tailOps, hostOps0_2, List.drop_succ_cons, List.drop_zero]
    after_reads_simp
  have h6 : (StableHlo.upto tailOps W 131 (Proc.tc.devRef main_v133) : FVec F S8x1x576 .f32) = broadcastInDim S8x1x576 ![0, 2] bcast_S8x576_S8x1x576_0_2 (extractStridedSlice S8x576 ![0, 9] (W (Proc.tc.devRef main_v14)) slices_S8x639_S8x576_0_9) := by
    simp only [tailOps, hostOps0_2, List.drop_succ_cons, List.drop_zero]
    after_reads_simp
  have h7 : (StableHlo.upto tailOps W 131 (Proc.tc.devRef main_v134) : FVec F S8x1x576 .f32) = broadcastInDim S8x1x576 ![0, 2] bcast_S8x576_S8x1x576_0_2 (extractStridedSlice S8x576 ![0, 8] (W (Proc.tc.devRef main_v14)) slices_S8x639_S8x576_0_8) := by
    simp only [tailOps, hostOps0_2, List.drop_succ_cons, List.drop_zero]
    after_reads_simp
  have h8 : (StableHlo.upto tailOps W 131 (Proc.tc.devRef main_v135) : FVec F S8x1x576 .f32) = broadcastInDim S8x1x576 ![0, 2] bcast_S8x576_S8x1x576_0_2 (extractStridedSlice S8x576 ![0, 7] (W (Proc.tc.devRef main_v14)) slices_S8x639_S8x576_0_7) := by
    simp only [tailOps, hostOps0_2, List.drop_succ_cons, List.drop_zero]
    after_reads_simp
  have h9 : (StableHlo.upto tailOps W 131 (Proc.tc.devRef main_v136) : FVec F S8x1x576 .f32) = broadcastInDim S8x1x576 ![0, 2] bcast_S8x576_S8x1x576_0_2 (extractStridedSlice S8x576 ![0, 6] (W (Proc.tc.devRef main_v14)) slices_S8x639_S8x576_0_6) := by
    simp only [tailOps, hostOps0_2, List.drop_succ_cons, List.drop_zero]
    after_reads_simp
  have h10 : (StableHlo.upto tailOps W 131 (Proc.tc.devRef main_v137) : FVec F S8x1x576 .f32) = broadcastInDim S8x1x576 ![0, 2] bcast_S8x576_S8x1x576_0_2 (extractStridedSlice S8x576 ![0, 5] (W (Proc.tc.devRef main_v14)) slices_S8x639_S8x576_0_5) := by
    simp only [tailOps, hostOps0_2, List.drop_succ_cons, List.drop_zero]
    after_reads_simp
  have h11 : (StableHlo.upto tailOps W 131 (Proc.tc.devRef main_v138) : FVec F S8x1x576 .f32) = broadcastInDim S8x1x576 ![0, 2] bcast_S8x576_S8x1x576_0_2 (extractStridedSlice S8x576 ![0, 4] (W (Proc.tc.devRef main_v14)) slices_S8x639_S8x576_0_4) := by
    simp only [tailOps, hostOps0_2, List.drop_succ_cons, List.drop_zero]
    after_reads_simp
  have h12 : (StableHlo.upto tailOps W 131 (Proc.tc.devRef main_v139) : FVec F S8x1x576 .f32) = broadcastInDim S8x1x576 ![0, 2] bcast_S8x576_S8x1x576_0_2 (extractStridedSlice S8x576 ![0, 3] (W (Proc.tc.devRef main_v14)) slices_S8x639_S8x576_0_3) := by
    simp only [tailOps, hostOps0_2, List.drop_succ_cons, List.drop_zero]
    after_reads_simp
  have h13 : (StableHlo.upto tailOps W 131 (Proc.tc.devRef main_v140) : FVec F S8x1x576 .f32) = broadcastInDim S8x1x576 ![0, 2] bcast_S8x576_S8x1x576_0_2 (extractStridedSlice S8x576 ![0, 2] (W (Proc.tc.devRef main_v14)) slices_S8x639_S8x576_0_2) := by
    simp only [tailOps, hostOps0_2, List.drop_succ_cons, List.drop_zero]
    after_reads_simp
  have h14 : (StableHlo.upto tailOps W 131 (Proc.tc.devRef main_v141) : FVec F S8x1x576 .f32) = broadcastInDim S8x1x576 ![0, 2] bcast_S8x576_S8x1x576_0_2 (extractStridedSlice S8x576 ![0, 1] (W (Proc.tc.devRef main_v14)) slices_S8x639_S8x576_0_1) := by
    simp only [tailOps, hostOps0_2, List.drop_succ_cons, List.drop_zero]
    after_reads_simp
  have h15 : (StableHlo.upto tailOps W 131 (Proc.tc.devRef main_v142) : FVec F S8x1x576 .f32) = broadcastInDim S8x1x576 ![0, 2] bcast_S8x576_S8x1x576_0_2 (extractStridedSlice S8x576 ![0, 0] (W (Proc.tc.devRef main_v14)) slices_S8x639_S8x576_0_0) := by
    simp only [tailOps, hostOps0_2, List.drop_succ_cons, List.drop_zero]
    after_reads_simp
  have e : (StableHlo.upto tailOps W 132 (Proc.tc.devRef main_v146) : FVec F S8x16x576 .f32) = concatenate S8x16x576 1 [⟨S8x1x576, (StableHlo.upto tailOps W 131 (Proc.tc.devRef main_v127) : FVec F S8x1x576 .f32)⟩, ⟨S8x1x576, (StableHlo.upto tailOps W 131 (Proc.tc.devRef main_v128) : FVec F S8x1x576 .f32)⟩, ⟨S8x1x576, (StableHlo.upto tailOps W 131 (Proc.tc.devRef main_v129) : FVec F S8x1x576 .f32)⟩, ⟨S8x1x576, (StableHlo.upto tailOps W 131 (Proc.tc.devRef main_v130) : FVec F S8x1x576 .f32)⟩, ⟨S8x1x576, (StableHlo.upto tailOps W 131 (Proc.tc.devRef main_v131) : FVec F S8x1x576 .f32)⟩, ⟨S8x1x576, (StableHlo.upto tailOps W 131 (Proc.tc.devRef main_v132) : FVec F S8x1x576 .f32)⟩, ⟨S8x1x576, (StableHlo.upto tailOps W 131 (Proc.tc.devRef main_v133) : FVec F S8x1x576 .f32)⟩, ⟨S8x1x576, (StableHlo.upto tailOps W 131 (Proc.tc.devRef main_v134) : FVec F S8x1x576 .f32)⟩, ⟨S8x1x576, (StableHlo.upto tailOps W 131 (Proc.tc.devRef main_v135) : FVec F S8x1x576 .f32)⟩, ⟨S8x1x576, (StableHlo.upto tailOps W 131 (Proc.tc.devRef main_v136) : FVec F S8x1x576 .f32)⟩, ⟨S8x1x576, (StableHlo.upto tailOps W 131 (Proc.tc.devRef main_v137) : FVec F S8x1x576 .f32)⟩, ⟨S8x1x576, (StableHlo.upto tailOps W 131 (Proc.tc.devRef main_v138) : FVec F S8x1x576 .f32)⟩, ⟨S8x1x576, (StableHlo.upto tailOps W 131 (Proc.tc.devRef main_v139) : FVec F S8x1x576 .f32)⟩, ⟨S8x1x576, (StableHlo.upto tailOps W 131 (Proc.tc.devRef main_v140) : FVec F S8x1x576 .f32)⟩, ⟨S8x1x576, (StableHlo.upto tailOps W 131 (Proc.tc.devRef main_v141) : FVec F S8x1x576 .f32)⟩, ⟨S8x1x576, (StableHlo.upto tailOps W 131 (Proc.tc.devRef main_v142) : FVec F S8x1x576 .f32)⟩] concatenates_S8x1x576_S8x1x576_S8x1x576_S8x1x576_S8x1x576_S8x1x576_S8x1x576_S8x1x576_S8x1x576_S8x1x576_S8x1x576_S8x1x576_S8x1x576_S8x1x576_S8x1x576_S8x1x576_S8x16x576_d1 := by
    simp only [tailOps, hostOps0_2, List.drop_succ_cons, List.drop_zero]
    after_reads_simp
    rfl
  exact e.trans (cat16 _ 3 _ _ _ _ _ _ _ _ _ _ _ _ _ _ _ _ _ (h0.trans (row_eq _ 15 _ _ rfl)) (h1.trans (row_eq _ 14 _ _ rfl)) (h2.trans (row_eq _ 13 _ _ rfl)) (h3.trans (row_eq _ 12 _ _ rfl)) (h4.trans (row_eq _ 11 _ _ rfl)) (h5.trans (row_eq _ 10 _ _ rfl)) (h6.trans (row_eq _ 9 _ _ rfl)) (h7.trans (row_eq _ 8 _ _ rfl)) (h8.trans (row_eq _ 7 _ _ rfl)) (h9.trans (row_eq _ 6 _ _ rfl)) (h10.trans (row_eq _ 5 _ _ rfl)) (h11.trans (row_eq _ 4 _ _ rfl)) (h12.trans (row_eq _ 3 _ _ rfl)) (h13.trans (row_eq _ 2 _ _ rfl)) (h14.trans (row_eq _ 1 _ _ rfl)) (h15.trans (row_eq _ 0 _ _ rfl)))

theorem stack_read : (StableHlo.after tailOps W (Proc.tc.devRef main_v148) : FVec F S512x576 .f32) = shapeCast S512x576 (stackFn (W (Proc.tc.devRef main_v14))) shapeCasts_S8x64x576_S512x576 := by
  have e : (StableHlo.after tailOps W (Proc.tc.devRef main_v148) : FVec F S512x576 .f32) = shapeCast S512x576 (concatenate S8x64x576 1 [⟨S8x16x576, (StableHlo.upto tailOps W 132 (Proc.tc.devRef main_v143) : FVec F S8x16x576 .f32)⟩, ⟨S8x16x576, (StableHlo.upto tailOps W 132 (Proc.tc.devRef main_v144) : FVec F S8x16x576 .f32)⟩, ⟨S8x16x576, (StableHlo.upto tailOps W 132 (Proc.tc.devRef main_v145) : FVec F S8x16x576 .f32)⟩, ⟨S8x16x576, (StableHlo.upto tailOps W 132 (Proc.tc.devRef main_v146) : FVec F S8x16x576 .f32)⟩] concatenates_S8x16x576_S8x16x576_S8x16x576_S8x16x576_S8x64x576_d1) shapeCasts_S8x64x576_S512x576 := by
    simp only [tailOps, hostOps0_2, List.drop_succ_cons, List.drop_zero]
    after_reads_simp
    rfl
  rw [e, cat4 _ _ _ _ _ _ (rows0 W) (rows1 W) (rows2 W) (rows3 W)]

end Reads

end Cert.Proof.Attn

end
-- ==== Proof.Trip.lean ====
/-
  The attention kernel's stores: one trip of its loop writes eight chunks of 64 query rows, each the same function
  `chunkVal` of its rows of the scratch buffers; so what a grid point leaves in its output block is, row by row,
  that function's value.
-/
module

public import proofs.«01_k».proof.Proof.Gen.KernelIdeal.Value

@[expose] public section

set_option maxRecDepth 8192
set_option maxHeartbeats 4000000

noncomputable section

namespace Cert.Proof.Attn

open Idealize.ShloMosaic Idealize.ShloMosaic.TcCoe Idealize.ShloMosaic.Tactic
open Cert.KernelIdeal Cert.KernelIdeal.Gen

variable {F : FTy → Type} [FloatOps F]

/-- The scores of one chunk: 64 queries of each of the two heads against their 576 keys. -/
def chunkScore (lane : IVec S1x128 1) (q : Vec F S64x128 .bf16) (k : Vec F S576x128 .bf16) (bias : Vec F S128x576 .f32) :
    FVec F S128x576 .f32 :=
  k0_pay21 k (k0_pay12 lane q) bias

/-- One chunk of the attention: its masked softmax over the band, applied to the band's values. -/
def chunkVal (msk : IVec S128x576 1) (lane : IVec S1x128 1) (q : Vec F S64x128 .bf16) (k v : Vec F S576x128 .bf16)
    (bias : Vec F S128x576 .f32) : FVec F S1x64x128 .f32 :=
  k0_pay63 lane (k0_pay55 v (k0_pay27 msk (chunkScore lane q k bias)) (k0_pay35 msk (chunkScore lane q k bias)))

/-- Which of the band's keys chunk `g` of trip `k` may see. -/
def chunkMask (k : Fin k0_t1_loop.trips) (g : Fin 8) : IVec S128x576 1 :=
  k0_pay4 k0_pay2 (Scalar.addi (Scalar.muli (Scf.iv 0#32 1#32 k) 8#32) (BitVec.ofNat 32 g.val))

/-- The query rows of chunk `g` of trip `k`. -/
abbrev rq (k : Fin k0_t1_loop.trips) (g : Fin 8) : Rect S2048x128 := Rect.unit (k0_off1 k (BitVec.ofNat 32 g.val)) S64x128.size (k0_off1_inb k g)
/-- The band rows of chunk `g` of trip `k`. -/
abbrev rb (k : Fin k0_t1_loop.trips) (g : Fin 8) : Rect S2560x128 := Rect.unit (k0_off2 k (BitVec.ofNat 32 g.val)) S576x128.size (k0_off2_inb k g)
/-- The output rows of chunk `g` of trip `k`. -/
abbrev ro (k : Fin k0_t1_loop.trips) (g : Fin 8) : Rect S1x2048x128 := Rect.unit (k0_off3 k (BitVec.ofNat 32 g.val)) S1x64x128.size (k0_off3_inb k g)

/-- The store of chunk `g` of trip `k`. -/
def chunkPiece (lane : IVec S1x128 1) (bias : Vec F S128x576 .f32) (q : Vec F S2048x128 .bf16) (kk vv : Vec F S2560x128 .bf16)
    (k : Fin k0_t1_loop.trips) (g : Fin 8) : View.Piece (Elt F) S1x2048x128 .f32 :=
  ⟨ro k g, chunkVal (chunkMask k g) lane (View.ld q (rq k g)) (View.ld kk (rb k g)) (View.ld vv (rb k g))
    (View.ld bias (Rect.unit ![0, 0] S128x576.size inb_S128x576_S128x576_0_0))⟩

/-- Every store of a trip is the store of one of its chunks. -/
theorem mem_tripL (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S128x576 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2560x128 .bf16) (harg10 : arg10.IsWhole) (arg11 : Memref sig .tc .vmem S2560x128 .bf16) (harg11 : arg11.IsWhole) (v2 : IVec S1x128 1) (X_arg7 : BufTy.Contents (Elt F) arg7.view.ty) (X_arg9 : BufTy.Contents (Elt F) arg9.view.ty) (X_arg10 : BufTy.Contents (Elt F) arg10.view.ty) (X_arg11 : BufTy.Contents (Elt F) arg11.view.ty) (k : Fin k0_t1_loop.trips) (p : View.Piece (Elt F) S1x2048x128 .f32)
    (hp : p ∈ tripL_k0_t1 (F := F) 𝒱 c bd i arg2 harg2 arg3 harg3 arg4 harg4 arg5 harg5 arg6 harg6 arg7 harg7 arg8 harg8 arg9 harg9 arg10 harg10 arg11 harg11 v2 X_arg7 X_arg9 X_arg10 X_arg11 k) :
    ∃ g : Fin 8, p = chunkPiece v2 (arg7.view.read (Elt F) X_arg7) (arg9.view.read (Elt F) X_arg9) (arg10.view.read (Elt F) X_arg10) (arg11.view.read (Elt F) X_arg11) k g := by
  unfold tripL_k0_t1 trip_k0_t1 at hp
  dsimp only at hp
  simp only [List.mem_cons, List.not_mem_nil, or_false] at hp
  rcases hp with h | h | h | h | h | h | h | h
  · exact ⟨7, h.trans rfl⟩
  · exact ⟨6, h.trans rfl⟩
  · exact ⟨5, h.trans rfl⟩
  · exact ⟨4, h.trans rfl⟩
  · exact ⟨3, h.trans rfl⟩
  · exact ⟨2, h.trans rfl⟩
  · exact ⟨1, h.trans rfl⟩
  · exact ⟨0, h.trans rfl⟩

/-- Every store before trip `n` is the store of a chunk. -/
theorem mem_pb (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S128x576 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2560x128 .bf16) (harg10 : arg10.IsWhole) (arg11 : Memref sig .tc .vmem S2560x128 .bf16) (harg11 : arg11.IsWhole) (v2 : IVec S1x128 1) (X_arg7 : BufTy.Contents (Elt F) arg7.view.ty) (X_arg9 : BufTy.Contents (Elt F) arg9.view.ty) (X_arg10 : BufTy.Contents (Elt F) arg10.view.ty) (X_arg11 : BufTy.Contents (Elt F) arg11.view.ty) (p : View.Piece (Elt F) S1x2048x128 .f32) :
    ∀ (n : Nat) (hn : n ≤ k0_t1_loop.trips) (hp : p ∈ pb_k0_t1 (F := F) 𝒱 c bd i arg2 harg2 arg3 harg3 arg4 harg4 arg5 harg5 arg6 harg6 arg7 harg7 arg8 harg8 arg9 harg9 arg10 harg10 arg11 harg11 v2 X_arg7 X_arg9 X_arg10 X_arg11 n),
    ∃ (k : Fin k0_t1_loop.trips) (g : Fin 8), p = chunkPiece v2 (arg7.view.read (Elt F) X_arg7) (arg9.view.read (Elt F) X_arg9) (arg10.view.read (Elt F) X_arg10) (arg11.view.read (Elt F) X_arg11) k g
  | 0, _, hp => by
    rw [pb_k0_t1.eq_1] at hp
    exact absurd hp List.not_mem_nil
  | n + 1, hn, hp => by
    have e := pb_k0_t1_succ (F := F) 𝒱 c bd i arg2 harg2 arg3 harg3 arg4 harg4 arg5 harg5 arg6 harg6 arg7 harg7 arg8 harg8 arg9 harg9 arg10 harg10 arg11 harg11 v2 X_arg7 X_arg9 X_arg10 X_arg11 ⟨n, hn⟩
    change pb_k0_t1 (F := F) 𝒱 c bd i arg2 harg2 arg3 harg3 arg4 harg4 arg5 harg5 arg6 harg6 arg7 harg7 arg8 harg8 arg9 harg9 arg10 harg10 arg11 harg11 v2 X_arg7 X_arg9 X_arg10 X_arg11 (n + 1) = _ at e
    rw [e] at hp
    rcases List.mem_append.mp hp with h | h
    · obtain ⟨g, hg⟩ := mem_tripL (F := F) 𝒱 c bd i arg2 harg2 arg3 harg3 arg4 harg4 arg5 harg5 arg6 harg6 arg7 harg7 arg8 harg8 arg9 harg9 arg10 harg10 arg11 harg11 v2 X_arg7 X_arg9 X_arg10 X_arg11 ⟨n, hn⟩ p h
      exact ⟨_, g, hg⟩
    · exact mem_pb 𝒱 c bd i arg2 harg2 arg3 harg3 arg4 harg4 arg5 harg5 arg6 harg6 arg7 harg7 arg8 harg8 arg9 harg9 arg10 harg10 arg11 harg11 v2 X_arg7 X_arg9 X_arg10 X_arg11 p n (Nat.le_of_succ_le hn) h

variable [∀ e, Nonempty (Elt F e)]

/-- The scratch buffer of the keys: 512 rows of zeros, then the keys. -/
def kScr (x1 : Vec F S1x2048x128 .bf16) (x4 : Vec F S1x128 .f32) : Vec F S2560x128 .bf16 :=
  View.canon [⟨Rect.unit ![512, 0] S2048x128.size inb_S2560x128_S2048x128_512_0, k0_pay77 k0_pay73 x1 x4⟩,
    ⟨Rect.unit ![0, 0] S512x128.size inb_S2560x128_S512x128_0_0, k0_pay75⟩]

/-- The scratch buffer of the values: 512 rows of zeros, then the values. -/
def vScr (x2 : Vec F S1x2048x128 .bf16) : Vec F S2560x128 .bf16 :=
  View.canon [⟨Rect.unit ![512, 0] S2048x128.size inb_S2560x128_S2048x128_512_0, k0_pay1 (k0_pay78 x2)⟩,
    ⟨Rect.unit ![0, 0] S512x128.size inb_S2560x128_S512x128_0_0, k0_pay76⟩]

theorem zero3 : (![0, 0, 0] : Fin 3 → Nat) = fun _ => 0 := by decide
theorem zero2 : (![0, 0] : Fin 2 → Nat) = fun _ => 0 := by decide

/-- What a grid point leaves in its output block agrees with any function of the block's index that every chunk agrees with. -/
theorem out_eq (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S128x576 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2560x128 .bf16) (harg10 : arg10.IsWhole) (arg11 : Memref sig .tc .vmem S2560x128 .bf16) (harg11 : arg11.IsWhole)
    (x0 : Vec F S1x2048x128 .bf16) (x1 : Vec F S1x2048x128 .bf16) (x2 : Vec F S1x2048x128 .bf16) (x3 : Vec F S1x128 .f32) (x4 : Vec F S1x128 .f32) (x5 : Vec F S128x576 .f32) (G : S1x2048x128.Idx → Elt F .f32)
    (hG : ∀ (k : Fin k0_t1_loop.trips) (g : Fin 8) (x : S1x64x128.Idx),
      chunkVal (chunkMask k g) k0_pay72 (View.ld (k0_pay74 x0 x3) (rq k g)) (View.ld (kScr x1 x4) (rb k g)) (View.ld (vScr x2) (rb k g)) x5 x
        = G ((ro k g).emb x)) :
    out0_A_6 (F := F) c i arg2 harg2 arg3 harg3 arg4 harg4 arg5 harg5 arg6 harg6 arg7 harg7 arg8 harg8 arg9 harg9 arg10 harg10 arg11 harg11 x0 x1 x2 x3 x4 x5 = G := by
  have hc := cover0_A_6 (F := F) c i arg2 harg2 arg3 harg3 arg4 harg4 arg5 harg5 arg6 harg6 arg7 harg7 arg8 harg8 arg9 harg9 arg10 harg10 arg11 harg11 x0 x1 x2 x3 x4 x5
  unfold out0_A_6
  rw [View.read_writes_junk_eq_canon]
  funext y
  refine View.canon_apply_of_pieces G _ ?_ y (hc y)
  intro p hp x
  unfold kernelRun0_A at hp
  dsimp only at hp
  obtain ⟨k, g, rfl⟩ := mem_pb (F := F) _ _ _ _ _ _ _ _ _ _ _ _ _ _ _ _ _ _ _ _ _ _ _ _ _ _ _ _ _ p _ (by decide) hp
  refine Eq.trans ?_ (hG k g x)
  unfold chunkPiece
  dsimp only
  sl_unfold_run_names
  simp only [View.readAt_eq_ld, Memref.IsWhole.read_unread, View.read_writes_junk_eq_canon]
  rw [View.ld_unit_zero (S := S1x2048x128) zero3, View.ld_unit_zero (S := S1x2048x128) zero3, View.ld_unit_zero (S := S1x2048x128) zero3,
    View.ld_unit_zero (S := S1x128) zero2, View.ld_unit_zero (S := S1x128) zero2, View.ld_unit_zero (S := S128x576) zero2,
    View.canon_unit_zero (S := S2048x128) zero2]
  rfl

end Cert.Proof.Attn

end
-- ==== Proof.Chunk.lean ====
/-
  One chunk of the kernel's attention, entry by entry: it is `attnAt`.
-/
module

public import proofs.«01_k».proof.Proof.Trip
public import proofs.«01_k».proof.Proof.Math
public import Idealize.ShloMosaic.Lib.KernelVsHost
public import Idealize.ShloMosaic.Lib.Pipeline.ValueKit.Tiles

@[expose] public section

set_option maxRecDepth 8192
set_option maxHeartbeats 4000000

noncomputable section

namespace Cert.Proof.Attn

open Idealize.ShloMosaic Idealize.ShloMosaic.TcCoe Idealize.ShloMosaic.Tactic
open Cert.KernelIdeal Cert.KernelIdeal.Gen

/-! ## The two heads' lanes -/

/-- Lane `e` of head `s` of a block's two. -/
def lane (s : Fin 2) (e : Fin 64) : Fin 128 := ⟨s.val * 64 + e.val, by omega⟩
def half (l : Fin 128) : Fin 2 := ⟨l.val / 64, by omega⟩
def rest (l : Fin 128) : Fin 64 := ⟨l.val % 64, by omega⟩

theorem lane_half (l : Fin 128) : lane (half l) (rest l) = l := Fin.ext (by simp only [lane, half, rest]; omega)

theorem sum_lanes (f : Fin 128 → EReal) : ∑ x, f x = ∑ e, f (lane 0 e) + ∑ e, f (lane 1 e) := by
  rw [show (∑ x, f x) = _ from Fin.sum_univ_add (a := 64) (b := 64) f]
  refine congrArg₂ (· + ·) (Finset.sum_congr rfl fun e _ => congrArg f (Fin.ext ?_)) (Finset.sum_congr rfl fun e _ => congrArg f (Fin.ext ?_))
  · show e.val = 0 * 64 + e.val; omega
  · show 64 + e.val = 1 * 64 + e.val; omega

/-- A sum in which only one head's lanes count. -/
theorem sum_half (f : Fin 128 → EReal) (s : Fin 2) : (∑ x, if x.val / 64 = s.val then f x else 0) = ∑ e, f (lane s e) := by
  rw [sum_lanes]
  have h0 : ∀ e : Fin 64, (lane 0 e).val / 64 = 0 := fun e => by simp only [lane]; show (0 * 64 + e.val) / 64 = 0; omega
  have h1 : ∀ e : Fin 64, (lane 1 e).val / 64 = 1 := fun e => by simp only [lane]; show (1 * 64 + e.val) / 64 = 1; omega
  simp only [h0, h1]
  match s with
  | ⟨0, _⟩ => simp
  | ⟨1, _⟩ => simp

theorem mask_word : ∀ x l : Fin 128, BitVec.setWidth 32 (IntOp.xori (IntOp.xori (IntOp.cmpi .slt (BitVec.ofNat 32 x.val) 64#32)
    (IntOp.cmpi .slt (BitVec.ofNat 32 l.val) 64#32)) 1#1) = if x.val / 64 = l.val / 64 then 1#32 else 0#32 := by
  decide +kernel

theorem mask_val (x l : Fin 128) : (FloatOps.sitofp (F := Ideal) .f32 (BitVec.setWidth 32 (IntOp.xori (IntOp.xori (IntOp.cmpi .slt (BitVec.ofNat 32 x.val) 64#32)
    (IntOp.cmpi .slt (BitVec.ofNat 32 l.val) 64#32)) 1#1)) : EReal) = if x.val / 64 = l.val / 64 then 1 else 0 := by
  rw [mask_word]
  by_cases h : x.val / 64 = l.val / 64
  · rw [if_pos h, if_pos h]
    show (((1#32 : BitVec 32).toInt : ℝ) : EReal) = 1
    norm_num
  · rw [if_neg h, if_neg h]
    exact sitofp_zero (φ := .f32)

/-- The mean of one head's squares, as the kernel takes it from all lanes. -/
theorem mean_lanes (y : Fin 128 → EReal) (hy : ∀ x, Fin' (y x)) (l : Fin 128) :
    (∑ x : Fin 128, y x * y x * (FloatOps.sitofp (F := Ideal) .f32 (BitVec.setWidth 32 (IntOp.xori (IntOp.xori (IntOp.cmpi .slt (BitVec.ofNat 32 x.val) 64#32)
        (IntOp.cmpi .slt (BitVec.ofNat 32 l.val) 64#32)) 1#1)) : EReal)
      + ∑ x : Fin 128, (y x * y x - y x * y x) * (FloatOps.sitofp (F := Ideal) .f32 (BitVec.setWidth 32 (IntOp.xori (IntOp.xori (IntOp.cmpi .slt (BitVec.ofNat 32 x.val) 64#32)
        (IntOp.cmpi .slt (BitVec.ofNat 32 l.val) 64#32)) 1#1)) : EReal)) * Ideal.ofBits .f32 1015021568#32
      = Ideal.div (∑ e, y (lane (half l) e) * y (lane (half l) e)) (Ideal.ofBits .f32 1115684864#32) := by
  simp only [mask_val, ((hy _).mul (hy _)).sub_self, zero_mul, Finset.sum_const_zero, add_zero, mul_ite, mul_one, mul_zero, ite_self]
  rw [show (∑ x : Fin 128, if x.val / 64 = l.val / 64 then y x * y x else 0) = _ from sum_half (fun x => y x * y x) (half l), cinv64, c64]
  unfold Ideal.div
  rw [if_neg (by norm_num), ← EReal.coe_inv]
  norm_num

theorem norm_lanes (y : Fin 128 → EReal) (hy : ∀ x, Fin' (y x)) (g : Fin 128 → EReal) (g' : Fin 64 → EReal) (hg : ∀ x, g x = g' (rest x)) (l : Fin 128) :
    y l * Ideal.rsqrt ((∑ x : Fin 128, y x * y x * (FloatOps.sitofp (F := Ideal) .f32 (BitVec.setWidth 32 (IntOp.xori (IntOp.xori (IntOp.cmpi .slt (BitVec.ofNat 32 x.val) 64#32)
        (IntOp.cmpi .slt (BitVec.ofNat 32 l.val) 64#32)) 1#1)) : EReal)
      + ∑ x : Fin 128, (y x * y x - y x * y x) * (FloatOps.sitofp (F := Ideal) .f32 (BitVec.setWidth 32 (IntOp.xori (IntOp.xori (IntOp.cmpi .slt (BitVec.ofNat 32 x.val) 64#32)
        (IntOp.cmpi .slt (BitVec.ofNat 32 l.val) 64#32)) 1#1)) : EReal)) * Ideal.ofBits .f32 1015021568#32 + Ideal.ofBits .f32 897988541#32) * g l
      = nrm (fun e => y (lane (half l) e)) g' (rest l) := by
  rw [mean_lanes y hy l, hg]
  unfold nrm
  simp only [lane_half]

/-! ## The scratch buffers -/

variable (x0 x1 x2 : FVec Ideal S1x2048x128 .bf16) (x3 x4 : FVec Ideal S1x128 .f32) (x5 : FVec Ideal S128x576 .f32) (gq gk : Fin 64 → EReal)

theorem q_at (hx : ∀ t l, Fin' (x0 (ix3 0 t l))) (hg : ∀ l, x3 (ix2 0 l) = gq (rest l)) (t : Fin 2048) (l : Fin 128) :
    k0_pay74 (F := Ideal) x0 x3 (ix2 t l) = nrm (fun e => x0 (ix3 0 t (lane (half l) e))) gq (rest l) * Ideal.ofBits .f32 1040187392#32 := by
  pointwise [k0_pay74, k0_pay73]
  exact congrArg (· * _) (norm_lanes (fun l => x0 (ix3 0 t l)) (hx t) (fun l => x3 (ix2 0 l)) gq hg l)

theorem k_at (hx : ∀ t l, Fin' (x1 (ix3 0 t l))) (hg : ∀ l, x4 (ix2 0 l) = gk (rest l)) (t : Fin 2048) (l : Fin 128) :
    k0_pay77 (F := Ideal) k0_pay73 x1 x4 (ix2 t l) = nrm (fun e => x1 (ix3 0 t (lane (half l) e))) gk (rest l) := by
  pointwise [k0_pay77, k0_pay73]
  exact norm_lanes (fun l => x1 (ix3 0 t l)) (hx t) (fun l => x4 (ix2 0 l)) gk hg l

theorem v_at (t : Fin 2048) (l : Fin 128) : k0_pay1 (k0_pay78 (F := Ideal) x2) (ix2 t l) = x2 (ix3 0 t l) := by
  pointwise [k0_pay78, k0_pay1]

theorem zk_at (t : Fin 512) (l : Fin 128) : k0_pay75 (F := Ideal) (ix2 t l) = (0 : EReal) := by pointwise [k0_pay75]
theorem zv_at (t : Fin 512) (l : Fin 128) : k0_pay76 (F := Ideal) (ix2 t l) = (0 : EReal) := by pointwise [k0_pay76]

/-- A buffer of 512 rows followed by 2048, at an index. -/
theorem scr_at (G : S2560x128.Idx → EReal) (P : Vec Ideal S2048x128 .bf16) (Z : Vec Ideal S512x128 .bf16)
    (hP : ∀ (t : Fin 2048) (l : Fin 128), P (ix2 t l) = G (ix2 ⟨512 + t.val, by omega⟩ l))
    (hZ : ∀ (t : Fin 512) (l : Fin 128), Z (ix2 t l) = G (ix2 ⟨t.val, by omega⟩ l)) :
    View.canon (Val := Elt Ideal) (s := S2560x128) (e := .bf16) [⟨Rect.unit ![512, 0] S2048x128.size inb_S2560x128_S2048x128_512_0, P⟩,
      ⟨Rect.unit ![0, 0] S512x128.size inb_S2560x128_S512x128_0_0, Z⟩] = G := by
  funext y
  refine View.canon_apply_of_pieces (Val := Elt Ideal) (e := .bf16) G _ ?_ y ?_
  · intro p hp x
    rcases List.mem_cons.mp hp with rfl | hp
    · refine Eq.trans (congrArg P (ix2_eta x).symm) ((hP (x 0) (x 1)).trans (congrArg G ?_))
      funext a
      match a with
      | ⟨0, _⟩ => exact Fin.ext (by show 512 + (x 0).val = 512 + 1 * (x 0).val; omega)
      | ⟨1, _⟩ => exact Fin.ext (by show (x 1).val = 0 + 1 * (x 1).val; omega)
    · obtain rfl := List.mem_singleton.mp hp
      refine Eq.trans (congrArg Z (ix2_eta x).symm) ((hZ (x 0) (x 1)).trans (congrArg G ?_))
      funext a
      match a with
      | ⟨0, _⟩ => exact Fin.ext (by show (x 0).val = 0 + 1 * (x 0).val; omega)
      | ⟨1, _⟩ => exact Fin.ext (by show (x 1).val = 0 + 1 * (x 1).val; omega)
  · have h0 : (y 0).val < 2560 := (y 0).isLt
    have h1 : (y 1).val < 128 := (y 1).isLt
    by_cases h : 512 ≤ (y 0).val
    · refine ⟨⟨Rect.unit ![512, 0] S2048x128.size inb_S2560x128_S2048x128_512_0, P⟩, List.mem_cons_self, ?_⟩
      rw [Rect.mem_set_unit]
      intro a
      match a with
      | ⟨0, _⟩ => exact ⟨h, by show (y 0).val < 512 + 2048; omega⟩
      | ⟨1, _⟩ => exact ⟨Nat.zero_le _, by show (y 1).val < 0 + 128; omega⟩
    · refine ⟨⟨Rect.unit ![0, 0] S512x128.size inb_S2560x128_S512x128_0_0, Z⟩, List.mem_cons_of_mem _ List.mem_cons_self, ?_⟩
      rw [Rect.mem_set_unit]
      intro a
      match a with
      | ⟨0, _⟩ => exact ⟨Nat.zero_le _, by show (y 0).val < 0 + 512; omega⟩
      | ⟨1, _⟩ => exact ⟨Nat.zero_le _, by show (y 1).val < 0 + 128; omega⟩

theorem kScr_at (hx : ∀ t l, Fin' (x1 (ix3 0 t l))) (hg : ∀ l, x4 (ix2 0 l) = gk (rest l)) (u : Fin 2560) (l : Fin 128) :
    kScr (F := Ideal) x1 x4 (ix2 u l) = if h : 512 ≤ u.val then nrm (fun e => x1 (ix3 0 ⟨u.val - 512, by omega⟩ (lane (half l) e))) gk (rest l) else 0 := by
  have := scr_at (fun y => if h : 512 ≤ (y 0).val then nrm (fun e => x1 (ix3 0 ⟨(y 0).val - 512, by have : (y 0).val < 2560 := (y 0).isLt; omega⟩ (lane (half (y 1)) e))) gk (rest (y 1)) else 0)
    (k0_pay77 (F := Ideal) k0_pay73 x1 x4) (k0_pay75 (F := Ideal)) (fun t l => ?_) (fun t l => ?_)
  · exact congrFun this (ix2 u l)
  · refine (k_at x1 x4 gk hx hg t l).trans (Eq.trans ?_ (dif_pos (show 512 ≤ 512 + t.val by omega)).symm)
    refine congrArg (fun f => nrm f gk (rest l)) (funext fun e => ?_)
    exact congrArg (fun t => x1 (ix3 0 t (lane (half l) e))) (Fin.ext (by show t.val = 512 + t.val - 512; omega))
  · exact (zk_at t l).trans (Eq.symm (dif_neg (fun hc : 512 ≤ t.val => by omega)))

theorem vScr_at (u : Fin 2560) (l : Fin 128) :
    vScr (F := Ideal) x2 (ix2 u l) = if h : 512 ≤ u.val then x2 (ix3 0 ⟨u.val - 512, by omega⟩ l) else 0 := by
  have := scr_at (fun y => if h : 512 ≤ (y 0).val then x2 (ix3 0 ⟨(y 0).val - 512, by have : (y 0).val < 2560 := (y 0).isLt; omega⟩ (y 1)) else 0)
    (k0_pay1 (k0_pay78 (F := Ideal) x2)) (k0_pay76 (F := Ideal)) (fun t l => ?_) (fun t l => ?_)
  · exact congrFun this (ix2 u l)
  · refine (v_at x2 t l).trans (Eq.trans ?_ (dif_pos (show 512 ≤ 512 + t.val by omega)).symm)
    exact congrArg (fun t => x2 (ix3 0 t l)) (Fin.ext (by show t.val = 512 + t.val - 512; omega))
  · exact (zv_at t l).trans (Eq.symm (dif_neg (fun hc : 512 ≤ t.val => by omega)))

/-! ## The chunk -/

theorem lane_bit : ∀ l : Fin 128, k0_pay72 (ix2 0 l) = if l.val / 64 = 0 then 1#1 else 0#1 := by
  intro l
  pointwise [k0_pay72]
  revert l
  decide +kernel

theorem score_at (q : Vec Ideal S64x128 .bf16) (k : Vec Ideal S576x128 .bf16) (s : Fin 2) (i : Fin 64) (j : Fin 576) :
    chunkScore (F := Ideal) k0_pay72 q k x5 (ix2 (lane s i) j)
      = ∑ d, q (ix2 i (lane s d)) * k (ix2 j (lane s d)) + x5 (ix2 (lane s i) j) := by
  pointwise [chunkScore, k0_pay21, k0_pay12]
  refine congrArg (· + _) ?_
  simp only [lane_bit]
  rw [← sum_half (fun x => q (ix2 i x) * k (ix2 j x)) s]
  refine Finset.sum_congr rfl fun x _ => ?_
  match s with
  | ⟨0, _⟩ =>
    rw [dif_pos (show (lane ⟨0, by omega⟩ i).val < 64 by simp only [lane]; omega)]
    by_cases hx : x.val / 64 = 0
    · rw [if_pos hx, if_pos hx]
      exact congrArg (· * _) (congrArg (fun i => q (ix2 i x)) (Fin.ext (by simp only [lane]; omega)))
    · rw [if_neg hx, if_neg hx]; exact zero_mul _
  | ⟨1, _⟩ =>
    rw [dif_neg (show ¬ (lane ⟨1, by omega⟩ i).val < 64 by simp only [lane]; omega)]
    by_cases hx : x.val / 64 = 0
    · rw [if_pos hx, if_neg (show ¬ x.val / 64 = 1 by omega)]; exact zero_mul _
    · rw [if_neg hx, if_pos (show x.val / 64 = 1 by omega)]
      exact congrArg (· * _) (congrArg (fun i => q (ix2 i x)) (Fin.ext (by simp only [lane]; omega)))

theorem val_at (msk : IVec S128x576 1) (S : FVec Ideal S128x576 .f32) (v : Vec Ideal S576x128 .bf16) (q : Fin 64) (c : Fin 128) (sc : Fin 576 → EReal)
    (hs : ∀ j, sc j = Scalar.select (msk (ix2 (lane (half c) q) j)) (S (ix2 (lane (half c) q) j)) (Ideal.ofBits .f32 4286578688#32)) :
    k0_pay63 (F := Ideal) k0_pay72 (k0_pay55 v (k0_pay27 msk S) (k0_pay35 msk S)) (ix3 0 q c)
      = Ideal.div (∑ j, Ideal.exp (sc j - Finset.fold max ⊥ sc Finset.univ) * v (ix2 j c)) (∑ j, Ideal.exp (sc j - Finset.fold max ⊥ sc Finset.univ)) := by
  obtain rfl : sc = _ := funext hs
  pointwise [k0_pay63, k0_pay55, k0_pay27, k0_pay35]
  rw [lane_bit]
  by_cases hc : c.val / 64 = 0
  · have e : lane (half c) q = ⟨q.val, by omega⟩ := Fin.ext (by simp only [lane, half]; omega)
    rw [if_pos hc, e]
    simp only [cbot]
    rfl
  · have e : lane (half c) q = ⟨64 + q.val, by omega⟩ := Fin.ext (by simp only [lane, half]; omega)
    rw [if_neg hc, e]
    simp only [cbot]
    rfl

theorem shr_word : ∀ j : Fin 576, IntOp.shrsi .vector (BitVec.ofNat 32 j.val) 6#32 = BitVec.ofNat 32 (j.val / 64) := by decide +kernel
theorem mask_cmp : ∀ (k : Fin k0_t1_loop.trips) (g : Fin 8) (n : Fin 9),
    IntOp.cmpi .sge (IntOp.addi (BitVec.ofNat 32 n.val) (Scalar.addi (Scalar.muli (Scf.iv 0#32 1#32 k) 8#32) (BitVec.ofNat 32 g.val))) 8#32
      = if 8 ≤ 8 * k.val + g.val + n.val then 1#1 else 0#1 := by decide +kernel

theorem mask_at (k : Fin k0_t1_loop.trips) (g : Fin 8) (r : Fin 128) (j : Fin 576) :
    chunkMask k g (ix2 r j) = if 8 ≤ 8 * k.val + g.val + j.val / 64 then 1#1 else 0#1 := by
  pointwise [chunkMask, k0_pay4, k0_pay2]
  rw [shr_word]
  exact mask_cmp k g ⟨j.val / 64, by omega⟩

variable (X : Fin 32768 → Fin 1536 → EReal) (bias : Fin 8 → Fin 257 → EReal)

theorem trips_eq : k0_t1_loop.trips = 4 := by decide

/-- Chunk `g` of trip `k`. -/
def chunkNo (k : Fin k0_t1_loop.trips) (g : Fin 8) : Fin 32 := ⟨8 * k.val + g.val, by have := lt_of_lt_of_eq k.isLt trips_eq; omega⟩
/-- Head `s` of the pair `p`. -/
def head (p : Fin 4) (s : Fin 2) : Fin 8 := ⟨2 * p.val + s.val, by omega⟩

/-- One chunk of the kernel, at an index: the attention's entry. -/
theorem chunk_at (b : Fin 16) (p : Fin 4)
    (hx0 : ∀ t l, x0 (ix3 0 t l) = X (row b t) (colQ (head p (half l)) (rest l)))
    (hx1 : ∀ t l, x1 (ix3 0 t l) = X (row b t) (colK (head p (half l)) (rest l)))
    (hx2 : ∀ t l, x2 (ix3 0 t l) = X (row b t) (colV (head p (half l)) (rest l)))
    (hx3 : ∀ l, x3 (ix2 0 l) = gq (rest l)) (hx4 : ∀ l, x4 (ix2 0 l) = gk (rest l))
    (hx5 : ∀ r j, x5 (ix2 r j) = biasAt bias (head p (half r)) (rest r) j)
    (hXq : ∀ r h e, Fin' (X r (colQ h e))) (hXk : ∀ r h e, Fin' (X r (colK h e))) (hgq : ∀ d, Fin' (gq d)) (hgk : ∀ d, Fin' (gk d)) (hb : ∀ h t, Fin' (bias h t))
    (k : Fin k0_t1_loop.trips) (g : Fin 8) (q : Fin 64) (c : Fin 128) :
    (chunkVal (F := Ideal) (chunkMask k g) k0_pay72 (View.ld (Val := Elt Ideal) (e' := .bf16) (k0_pay74 (F := Ideal) x0 x3 : Vec Ideal S2048x128 .bf16) (rq k g)) (View.ld (Val := Elt Ideal) (e' := .bf16) (kScr (F := Ideal) x1 x4) (rb k g)) (View.ld (Val := Elt Ideal) (e' := .bf16) (vScr (F := Ideal) x2) (rb k g)) x5 (ix3 0 q c) : EReal)
      = attnAt X gq gk bias b (chunkNo k g) q (head p (half c)) (rest c) := by
  have hlane : ∀ (s : Fin 2) (e : Fin 64), half (lane s e) = s ∧ rest (lane s e) = e := fun s e =>
    ⟨Fin.ext (by simp only [half, lane]; omega), Fin.ext (by simp only [rest, lane]; omega)⟩
  have hk4 := lt_of_lt_of_eq k.isLt trips_eq
  have hq : ∀ (s : Fin 2) (d : Fin 64), View.ld (Val := Elt Ideal) (e' := .bf16) (k0_pay74 (F := Ideal) x0 x3 : Vec Ideal S2048x128 .bf16) (rq k g) (ix2 q (lane s d)) = qAt X gq b (tok (chunkNo k g) q) (head p s) d * Ideal.ofBits .f32 1040187392#32 := by
    intro s d
    refine (View.ld_unit_apply_of _ _ _ _ _ (ix2 (tok (chunkNo k g) q) (lane s d)) ?_).trans ?_
    · intro a
      refine Eq.trans ?_ (congrArg (· + _) (congrFun (k0_off1_eq k g) a).symm)
      match a with
      | ⟨0, _⟩ => show (8 * k.val + g.val) * 64 + q.val = 512 * k.val + 64 * g.val + q.val; omega
      | ⟨1, _⟩ => show (lane s d).val = 0 + (lane s d).val; omega
    · rw [q_at x0 x3 gq (fun t l => by rw [hx0]; exact hXq _ _ _) hx3]
      unfold qAt
      simp only [hx0, hlane]
  have hk : ∀ (j : Fin 576) (s : Fin 2) (d : Fin 64), View.ld (Val := Elt Ideal) (e' := .bf16) (kScr x1 x4) (rb k g) (ix2 j (lane s d)) = kAt X gk b (bandTok (chunkNo k g) j) (head p s) d := by
    intro j s d
    refine (View.ld_unit_apply_of _ _ _ _ _ (ix2 (bandTok (chunkNo k g) j) (lane s d)) ?_).trans ?_
    · intro a
      refine Eq.trans ?_ (congrArg (· + _) (congrFun (k0_off2_eq k g) a).symm)
      match a with
      | ⟨0, _⟩ => show (8 * k.val + g.val) * 64 + j.val = 512 * k.val + 64 * g.val + j.val; omega
      | ⟨1, _⟩ => show (lane s d).val = 0 + (lane s d).val; omega
    · rw [kScr_at x1 x4 gk (fun t l => by rw [hx1]; exact hXk _ _ _) hx4]
      unfold kAt kRow
      simp only [hx1, hlane]
  have hv : ∀ (j : Fin 576), View.ld (Val := Elt Ideal) (e' := .bf16) (vScr (F := Ideal) x2) (rb k g) (ix2 j c) = vAt X b (bandTok (chunkNo k g) j) (head p (half c)) (rest c) := by
    intro j
    refine (View.ld_unit_apply_of _ _ _ _ _ (ix2 (bandTok (chunkNo k g) j) c) ?_).trans ?_
    · intro a
      refine Eq.trans ?_ (congrArg (· + _) (congrFun (k0_off2_eq k g) a).symm)
      match a with
      | ⟨0, _⟩ => show (8 * k.val + g.val) * 64 + j.val = 512 * k.val + 64 * g.val + j.val; omega
      | ⟨1, _⟩ => show c.val = 0 + c.val; omega
    · rw [vScr_at]
      unfold vAt
      simp only [hx2]
  have hs : ∀ j, scoreAt X gq gk bias b (head p (half c)) (chunkNo k g) q j = Scalar.select (chunkMask k g (ix2 (lane (half c) q) j))
      (chunkScore (F := Ideal) k0_pay72 (View.ld (Val := Elt Ideal) (e' := .bf16) (k0_pay74 (F := Ideal) x0 x3 : Vec Ideal S2048x128 .bf16) (rq k g)) (View.ld (Val := Elt Ideal) (e' := .bf16) (kScr (F := Ideal) x1 x4) (rb k g)) x5 (ix2 (lane (half c) q) j)) (Ideal.ofBits .f32 4286578688#32) := by
    intro j
    rw [mask_at, score_at, hx5]
    simp only [hq, hk, hlane]
    unfold scoreAt
    by_cases hc : 8 ≤ 8 * k.val + g.val + j.val / 64
    · have hc' : 8 ≤ (chunkNo k g).val + j.val / 64 := hc
      rw [if_pos hc, if_pos hc', sum_mul_const _ _ (by rw [ceighth]; exact_mod_cast (by norm_num : (0 : ℝ) ≤ 1 / 8)) (by rw [ceighth]; exact EReal.coe_ne_top _)]
      refine congrArg (· + _) (Finset.sum_congr rfl fun d _ => ?_)
      exact mul_right_comm _ _ _
    · have hc' : ¬ 8 ≤ (chunkNo k g).val + j.val / 64 := hc
      rw [if_neg hc, if_neg hc']; exact cbot.symm
  have hqf : ∀ t h d, Fin' (qAt X gq b t h d) := fun t h d => nrm_fin (fun e => hXq _ _ _) hgq d
  have hkf : ∀ u h d, Fin' (kAt X gk b u h d) := by
    intro u h d
    unfold kAt
    by_cases hu : 512 ≤ u.val
    · rw [dif_pos hu]; exact nrm_fin (fun e => hXk _ _ _) hgk d
    · rw [dif_neg hu]; exact Fin'.zero
  have hsf : ∀ j, Fin' ((∑ d, qAt X gq b (tok (chunkNo k g) q) (head p (half c)) d * kAt X gk b (bandTok (chunkNo k g) j) (head p (half c)) d) * Ideal.ofBits .f32 1040187392#32
      + biasAt bias (head p (half c)) q j) := fun j =>
    ((Fin'.sum _ _ fun d => (hqf _ _ _).mul (hkf _ _ _)).mul (by rw [ceighth]; exact Fin'.coe _)).add (hb _ _)
  unfold chunkVal
  rw [val_at _ _ _ q c _ hs]
  simp only [hv]
  rw [softmax_div]
  · rfl
  · intro j
    unfold scoreAt
    by_cases hc : 8 ≤ (chunkNo k g).val + j.val / 64
    · rw [if_pos hc]; exact (hsf j).2
    · rw [if_neg hc]; exact bot_ne_top
  · refine ⟨⟨512, by omega⟩, ?_⟩
    unfold scoreAt
    rw [if_pos (show 8 ≤ (chunkNo k g).val + 512 / 64 by omega)]
    exact (hsf _).1

end Cert.Proof.Attn

end
-- ==== Proof.Host.lean ====
/-
  The kernel's host arrays and the blocks its grid points read, at an index.
-/
module

public import proofs.«01_k».proof.Proof.HostBias
public import proofs.«01_k».proof.Proof.Chunk

@[expose] public section

set_option maxRecDepth 8192
set_option maxHeartbeats 4000000

noncomputable section

namespace Cert.Proof.Attn

open Idealize.ShloMosaic Idealize.ShloMosaic.TcCoe Idealize.ShloMosaic.Tactic
open Cert.KernelIdeal Cert.KernelIdeal.Gen

section Table

/-- A scalar over the 639 offsets. -/
abbrev splat639 (w : BitVec 32) : IVec S639 32 := broadcastInDim S639 ![] bcast_S_S639 (constantI S_ 32 w)

/-- The relative position of offset `t`, clipped and shifted to be an index. -/
def relW : IVec S639 32 :=
  addi (minsi (splat639 128#32) (maxsi (splat639 4294967168#32) (subi (splat639 512#32) (addi (splat639 4294967233#32) (iotaInDim S639 32 0))))) (splat639 128#32)

/-- The index array of the gather. -/
def relIdx : IVec S639x1 32 :=
  broadcastInDim S639x1 ![0] bcast_S639_S639x1_0 (select (cmpi .slt relW (splat639 0#32)) (addi relW (splat639 257#32)) relW)

theorem relIdx_tab : ∀ t : Fin 639, (relIdx (ix2 t 0)).toInt.toNat = min 256 (703 - t.val) := by decide +kernel

variable {α : Type}

/-- The kernel's gather at an index. -/
theorem gather_row (x : S8x257.Idx → α) (idx : IVec S639x1 32) (h : Fin 8) (t : Fin 639) (k : Fin 257) (hk : (idx (ix2 t 0)).toInt.toNat = k.val) :
    Host.gather gather_S8x257_S639x1_S8x639_0_1_n_n_1_1_81 x idx (ix2 h t) = x (ix2 h k) := by
  unfold Host.gather
  refine congrArg x (funext fun a => Fin.ext ?_)
  show gather_S8x257_S639x1_S8x639_0_1_n_n_1_1_81.start (ix2 h t) idx a
      + gather_S8x257_S639x1_S8x639_0_1_n_n_1_1_81.batchCoord (ix2 h t) a
      + gather_S8x257_S639x1_S8x639_0_1_n_n_1_1_81.offCoord (ix2 h t) a = _
  rw [GatherDims.batchCoord_eq_zero _ _ _ List.not_mem_nil]
  match a with
  | ⟨1, h1⟩ =>
    rw [GatherDims.offCoord_eq_zero _ _ _ (fun h => ((GatherDims.mem_sKept _ _).mp h).1 (List.mem_singleton.mpr rfl))]
    unfold GatherDims.start
    rw [dif_pos (show (⟨1, h1⟩ : Fin 2) ∈ gather_S8x257_S639x1_S8x639_0_1_n_n_1_1_81.startIndexMap from List.mem_singleton.mpr rfl)]
    have hsi : gather_S8x257_S639x1_S8x639_0_1_n_n_1_1_81.siIdx (ix2 h t)
        ⟨List.idxOf (⟨1, by decide⟩ : Fin 2) gather_S8x257_S639x1_S8x639_0_1_n_n_1_1_81.startIndexMap,
          List.idxOf_lt_length_iff.2 (List.mem_singleton.mpr rfl)⟩ = ix2 t 0 := by
      funext c; refine Fin.ext ?_
      match c with
      | ⟨0, _⟩ => rfl
      | ⟨1, _⟩ => rfl
    rw [hsi]
    show min (idx (ix2 t 0)).toInt.toNat 256 + 0 + 0 = k.val
    rw [hk]; omega
  | ⟨0, h1⟩ => rw [GatherDims.start, dif_neg (show (⟨0, h1⟩ : Fin 2) ∉ gather_S8x257_S639x1_S8x639_0_1_n_n_1_1_81.startIndexMap from (by simp [Fin.ext_iff] : (⟨0, h1⟩ : Fin 2) ∉ ([1] : List (Fin 2))))]; simp only [Nat.zero_add]; rfl

end Table

section Entry
variable {F : FTy → Type} [FloatOps F] (m : (ℓ : Loc nD τ sig) → Buf (Elt F) ℓ) (c : Dev nD)

/-- The host's operations up to the gather. -/
def headOps : List (HloOp τ sig (Elt F)) := hostOps0 ++ (hostOps0_1 ++ hostOps0_2.take 12)

theorem head_read (W : (b : DevRef τ sig) → b.ty.Contents (Elt F)) :
    (StableHlo.after headOps W (Proc.tc.devRef main_v14) : FVec F S8x639 .f32)
      = Host.gather gather_S8x257_S639x1_S8x639_0_1_n_n_1_1_81 (W (Proc.tc.devRef main_arg3) : FVec F S8x257 .f32) relIdx := by
  simp only [headOps, hostOps0, hostOps0_1, hostOps0_2, List.take_succ_cons, List.take_zero, List.cons_append, List.nil_append]
  after_reads_simp
  rfl

theorem entry_bias : (V m c main_v148 : FVec F S512x576 .f32)
    = shapeCast S512x576 (stackFn (Host.gather gather_S8x257_S639x1_S8x639_0_1_n_n_1_1_81 (m ((c : Thread nD τ).loc main_arg3) : FVec F S8x257 .f32) relIdx)) shapeCasts_S8x64x576_S512x576 := by
  have e : (V m c main_v148 : FVec F S512x576 .f32) = StableHlo.after (headOps ++ tailOps) (fun b => m (c, b)) (Proc.tc.devRef main_v148) := rfl
  rw [e, StableHlo.after_append, stack_read, head_read]

theorem entry_x : (V m c main_v157 : FVec F S16x2048x1536 .bf16) = shapeCast S16x2048x1536 (m ((c : Thread nD τ).loc main_arg0) : FVec F S32768x1536 .bf16) shapeCasts_S32768x1536_S16x2048x1536 := by
  show StableHlo.after (hostOps0 ++ (hostOps0_1 ++ (hostOps0_2 ++ []))) (fun b => m (c, b)) (Proc.tc.devRef main_v157) = _
  simp only [hostOps0, hostOps0_1, hostOps0_2, List.cons_append, List.nil_append]
  after_reads_simp
  rfl

theorem entry_gq : (V m c main_v152 : FVec F S1x128 .f32) = shapeCast S1x128 (shapeCast S128 (broadcastInDim S2x64 ![0, 1] bcast_S1x64_S2x64_0_1 (shapeCast S1x64 (m ((c : Thread nD τ).loc main_arg1) : FVec F S64 .f32) shapeCasts_S64_S1x64)) shapeCasts_S2x64_S128) shapeCasts_S128_S1x128 := by
  show StableHlo.after (hostOps0 ++ (hostOps0_1 ++ (hostOps0_2 ++ []))) (fun b => m (c, b)) (Proc.tc.devRef main_v152) = _
  simp only [hostOps0, hostOps0_1, hostOps0_2, List.cons_append, List.nil_append]
  after_reads_simp
  rfl

theorem entry_gk : (V m c main_v156 : FVec F S1x128 .f32) = shapeCast S1x128 (shapeCast S128 (broadcastInDim S2x64 ![0, 1] bcast_S1x64_S2x64_0_1 (shapeCast S1x64 (m ((c : Thread nD τ).loc main_arg2) : FVec F S64 .f32) shapeCasts_S64_S1x64)) shapeCasts_S2x64_S128) shapeCasts_S128_S1x128 := by
  show StableHlo.after (hostOps0 ++ (hostOps0_1 ++ (hostOps0_2 ++ []))) (fun b => m (c, b)) (Proc.tc.devRef main_v156) = _
  simp only [hostOps0, hostOps0_1, hostOps0_2, List.cons_append, List.nil_append]
  after_reads_simp
  rfl

end Entry

section Arrays
variable {α : Type}

theorem x_at (x : S32768x1536.Idx → α) (b : Fin 16) (t : Fin 2048) (l : Fin 1536) :
    shapeCast S16x2048x1536 x shapeCasts_S32768x1536_S16x2048x1536 (ix3 b t l) = x (ix2 (row b t) l) := by
  unfold row
  pointwise

theorem gain_at (g : S64.Idx → α) (l : Fin 128) :
    shapeCast S1x128 (shapeCast S128 (broadcastInDim S2x64 ![0, 1] bcast_S1x64_S2x64_0_1 (shapeCast S1x64 g shapeCasts_S64_S1x64)) shapeCasts_S2x64_S128) shapeCasts_S128_S1x128 (ix2 0 l) = g (ix1 (rest l)) := by
  unfold rest
  pointwise

theorem stack_at (x : S8x257.Idx → α) (r : Fin 512) (k : Fin 576) :
    shapeCast S512x576 (stackFn (Host.gather gather_S8x257_S639x1_S8x639_0_1_n_n_1_1_81 x relIdx)) shapeCasts_S8x64x576_S512x576 (ix2 r k)
      = x (ix2 ⟨r.val / 64, by omega⟩ ⟨min 256 (640 + r.val % 64 - k.val), by omega⟩) := by
  have e : shapeCast S512x576 (stackFn (Host.gather gather_S8x257_S639x1_S8x639_0_1_n_n_1_1_81 x relIdx)) shapeCasts_S8x64x576_S512x576 (ix2 r k)
      = stackFn (Host.gather gather_S8x257_S639x1_S8x639_0_1_n_n_1_1_81 x relIdx) (ix3 ⟨r.val / 64, by omega⟩ ⟨r.val % 64, by omega⟩ k) := by
    generalize stackFn (Host.gather gather_S8x257_S639x1_S8x639_0_1_n_n_1_1_81 x relIdx) = G
    pointwise
  refine e.trans ((gather_row x relIdx ⟨r.val / 64, by omega⟩ ⟨63 - r.val % 64 + k.val, by omega⟩ ⟨min 256 (640 + r.val % 64 - k.val), by omega⟩ ?_))
  rw [relIdx_tab]
  show min 256 (703 - (63 - r.val % 64 + k.val)) = min 256 (640 + r.val % 64 - k.val)
  omega

end Arrays

section Blocks
variable {F : FTy → Type} [FloatOps F] (m : (ℓ : Loc nD τ sig) → Buf (Elt F) ℓ) (c : Dev nD)

/-- The grid point of batch entry `b` and head pair `p`. -/
def point (b : Fin 16) (p : Fin 4) : Fin cfg0.N := ⟨b.val * 4 + p.val, (by omega : b.val * 4 + p.val < 64)⟩

theorem idx_facts : ∀ (b : Fin 16) (p : Fin 4),
    (win0_0.index (point b p) 0 = b.val ∧ win0_0.index (point b p) 1 = 0 ∧ win0_0.index (point b p) 2 = p.val)
    ∧ (win0_1.index (point b p) 0 = b.val ∧ win0_1.index (point b p) 1 = 0 ∧ win0_1.index (point b p) 2 = 4 + p.val)
    ∧ (win0_2.index (point b p) 0 = b.val ∧ win0_2.index (point b p) 1 = 0 ∧ win0_2.index (point b p) 2 = 8 + p.val)
    ∧ (win0_3.index (point b p) 0 = 0 ∧ win0_3.index (point b p) 1 = 0)
    ∧ (win0_4.index (point b p) 0 = 0 ∧ win0_4.index (point b p) 1 = 0)
    ∧ (win0_5.index (point b p) 0 = p.val ∧ win0_5.index (point b p) 1 = 0)
    ∧ (win0_6.index (point b p) 0 = b.val ∧ win0_6.index (point b p) 1 = 0 ∧ win0_6.index (point b p) 2 = p.val) := by
  decide +kernel

theorem blk0_at (b : Fin 16) (p : Fin 4) (t : Fin 2048) (l : Fin 128) :
    (iblk m c 0 (point b p) : FVec F S1x2048x128 .bf16) (ix3 0 t l) = (V m c main_v157 : FVec F S16x2048x1536 .bf16) (ix3 b t ⟨128 * p.val + l.val, by omega⟩) := by
  obtain ⟨⟨e0, e1, e2⟩, _⟩ := idx_facts b p
  show V m c main_v157 (((cfg0.win 0).blk (point b p)).view.emb (ix3 0 t l)) = _
  refine congrArg (V m c main_v157) (funext fun a => Fin.ext ?_)
  match a with
  | ⟨0, _⟩ => show win0_0.index (point b p) 0 * 1 + 1 * 0 = b.val; omega
  | ⟨1, _⟩ => show win0_0.index (point b p) 1 * 2048 + 1 * t.val = t.val; omega
  | ⟨2, _⟩ => show win0_0.index (point b p) 2 * 128 + 1 * l.val = 128 * p.val + l.val; omega

theorem blk1_at (b : Fin 16) (p : Fin 4) (t : Fin 2048) (l : Fin 128) :
    (iblk m c 1 (point b p) : FVec F S1x2048x128 .bf16) (ix3 0 t l) = (V m c main_v157 : FVec F S16x2048x1536 .bf16) (ix3 b t ⟨512 + (128 * p.val + l.val), by omega⟩) := by
  obtain ⟨_, ⟨e0, e1, e2⟩, _⟩ := idx_facts b p
  show V m c main_v157 (((cfg0.win 1).blk (point b p)).view.emb (ix3 0 t l)) = _
  refine congrArg (V m c main_v157) (funext fun a => Fin.ext ?_)
  match a with
  | ⟨0, _⟩ => show win0_1.index (point b p) 0 * 1 + 1 * 0 = b.val; omega
  | ⟨1, _⟩ => show win0_1.index (point b p) 1 * 2048 + 1 * t.val = t.val; omega
  | ⟨2, _⟩ => show win0_1.index (point b p) 2 * 128 + 1 * l.val = 512 + (128 * p.val + l.val); omega

theorem blk2_at (b : Fin 16) (p : Fin 4) (t : Fin 2048) (l : Fin 128) :
    (iblk m c 2 (point b p) : FVec F S1x2048x128 .bf16) (ix3 0 t l) = (V m c main_v157 : FVec F S16x2048x1536 .bf16) (ix3 b t ⟨1024 + (128 * p.val + l.val), by omega⟩) := by
  obtain ⟨_, _, ⟨e0, e1, e2⟩, _⟩ := idx_facts b p
  show V m c main_v157 (((cfg0.win 2).blk (point b p)).view.emb (ix3 0 t l)) = _
  refine congrArg (V m c main_v157) (funext fun a => Fin.ext ?_)
  match a with
  | ⟨0, _⟩ => show win0_2.index (point b p) 0 * 1 + 1 * 0 = b.val; omega
  | ⟨1, _⟩ => show win0_2.index (point b p) 1 * 2048 + 1 * t.val = t.val; omega
  | ⟨2, _⟩ => show win0_2.index (point b p) 2 * 128 + 1 * l.val = 1024 + (128 * p.val + l.val); omega

theorem blk3_at (b : Fin 16) (p : Fin 4) (l : Fin 128) :
    (iblk m c 3 (point b p) : FVec F S1x128 .f32) (ix2 0 l) = (V m c main_v152 : FVec F S1x128 .f32) (ix2 0 l) := by
  obtain ⟨_, _, _, ⟨e0, e1⟩, _⟩ := idx_facts b p
  show V m c main_v152 (((cfg0.win 3).blk (point b p)).view.emb (ix2 0 l)) = _
  refine congrArg (V m c main_v152) (funext fun a => Fin.ext ?_)
  match a with
  | ⟨0, _⟩ => show win0_3.index (point b p) 0 * 1 + 1 * 0 = 0; omega
  | ⟨1, _⟩ => show win0_3.index (point b p) 1 * 128 + 1 * l.val = l.val; omega

theorem blk4_at (b : Fin 16) (p : Fin 4) (l : Fin 128) :
    (iblk m c 4 (point b p) : FVec F S1x128 .f32) (ix2 0 l) = (V m c main_v156 : FVec F S1x128 .f32) (ix2 0 l) := by
  obtain ⟨_, _, _, _, ⟨e0, e1⟩, _⟩ := idx_facts b p
  show V m c main_v156 (((cfg0.win 4).blk (point b p)).view.emb (ix2 0 l)) = _
  refine congrArg (V m c main_v156) (funext fun a => Fin.ext ?_)
  match a with
  | ⟨0, _⟩ => show win0_4.index (point b p) 0 * 1 + 1 * 0 = 0; omega
  | ⟨1, _⟩ => show win0_4.index (point b p) 1 * 128 + 1 * l.val = l.val; omega

theorem blk5_at (b : Fin 16) (p : Fin 4) (r : Fin 128) (k : Fin 576) :
    (iblk m c 5 (point b p) : FVec F S128x576 .f32) (ix2 r k) = (V m c main_v148 : FVec F S512x576 .f32) (ix2 ⟨128 * p.val + r.val, by omega⟩ k) := by
  obtain ⟨_, _, _, _, _, ⟨e0, e1⟩, _⟩ := idx_facts b p
  show V m c main_v148 (((cfg0.win 5).blk (point b p)).view.emb (ix2 r k)) = _
  refine congrArg (V m c main_v148) (funext fun a => Fin.ext ?_)
  match a with
  | ⟨0, _⟩ => show win0_5.index (point b p) 0 * 128 + 1 * r.val = 128 * p.val + r.val; omega
  | ⟨1, _⟩ => show win0_5.index (point b p) 1 * 576 + 1 * k.val = k.val; omega

theorem emb6 (b : Fin 16) (p : Fin 4) (t : Fin 2048) (l : Fin 128) :
    ((cfg0.win 6).blk (point b p)).view.emb (ix3 0 t l) = (ix3 b t ⟨128 * p.val + l.val, by omega⟩ : S16x2048x512.Idx) := by
  obtain ⟨_, _, _, _, _, _, ⟨e0, e1, e2⟩⟩ := idx_facts b p
  funext a; refine Fin.ext ?_
  match a with
  | ⟨0, _⟩ => show win0_6.index (point b p) 0 * 1 + 1 * 0 = b.val; omega
  | ⟨1, _⟩ => show win0_6.index (point b p) 1 * 2048 + 1 * t.val = t.val; omega
  | ⟨2, _⟩ => show win0_6.index (point b p) 2 * 128 + 1 * l.val = 128 * p.val + l.val; omega

end Blocks

end Cert.Proof.Attn

end
-- ==== Proof.RefIdx.lean ====
/-
  The reference's gathers at an index.
-/
module

public import proofs.«01_k».proof.Proof.Gen.ReferenceIdeal.Read
public import proofs.«01_k».proof.Proof.Math
public import Idealize.ShloMosaic.Lib.KernelVsHost

@[expose] public section

set_option maxRecDepth 8192
set_option maxHeartbeats 4000000

noncomputable section

namespace Cert.Proof.Attn

open Idealize.ShloMosaic Idealize.ShloMosaic.TcCoe Idealize.ShloMosaic.Tactic
open Cert.ReferenceIdeal Cert.ReferenceIdeal.Gen Cert.ReferenceIdeal.Read

section Gathers
variable {α : Type}

/-- The band gather at an index: the chunk whose number the index array names. -/
theorem gather_band (x : S16x40x64x8x64.Idx → α) (idx : IVec S32x9x1 32) (b : Fin 16) (n : Fin 32) (m : Fin 9) (q : Fin 64) (h : Fin 8) (d : Fin 64) :
    Host.gather gather_S16x40x64x8x64_S32x9x1_S16x32x9x64x8x64_0345_1_n_n_1_2_16164864 x idx (ix6 b n m q h d)
      = x (ix5 b ⟨min (idx (ix3 n m 0)).toInt.toNat 39, by omega⟩ q h d) := by
  unfold Host.gather
  congr 1
  funext a
  refine Fin.ext ?_
  show gather_S16x40x64x8x64_S32x9x1_S16x32x9x64x8x64_0345_1_n_n_1_2_16164864.start (ix6 b n m q h d) idx a
      + gather_S16x40x64x8x64_S32x9x1_S16x32x9x64x8x64_0345_1_n_n_1_2_16164864.batchCoord (ix6 b n m q h d) a
      + gather_S16x40x64x8x64_S32x9x1_S16x32x9x64x8x64_0345_1_n_n_1_2_16164864.offCoord (ix6 b n m q h d) a = _
  rw [GatherDims.batchCoord_eq_zero _ _ _ List.not_mem_nil]
  match a with
  | ⟨1, h1⟩ =>
    rw [GatherDims.offCoord_eq_zero _ _ _ (fun h => ((GatherDims.mem_sKept _ _).mp h).1 (List.mem_singleton.mpr rfl))]
    unfold GatherDims.start
    rw [dif_pos (show (⟨1, h1⟩ : Fin 5) ∈ gather_S16x40x64x8x64_S32x9x1_S16x32x9x64x8x64_0345_1_n_n_1_2_16164864.startIndexMap from List.mem_singleton.mpr rfl)]
    have hsi : gather_S16x40x64x8x64_S32x9x1_S16x32x9x64x8x64_0345_1_n_n_1_2_16164864.siIdx (ix6 b n m q h d)
        ⟨List.idxOf (⟨1, by decide⟩ : Fin 5) gather_S16x40x64x8x64_S32x9x1_S16x32x9x64x8x64_0345_1_n_n_1_2_16164864.startIndexMap,
          List.idxOf_lt_length_iff.2 (List.mem_singleton.mpr rfl)⟩ = ix3 n m 0 := by
      funext c; refine Fin.ext ?_
      match c with
      | ⟨0, _⟩ => rfl
      | ⟨1, _⟩ => rfl
      | ⟨2, _⟩ => rfl
    rw [hsi]
    rfl
  | ⟨0, h1⟩ => rw [GatherDims.start, dif_neg (show (⟨0, h1⟩ : Fin 5) ∉ gather_S16x40x64x8x64_S32x9x1_S16x32x9x64x8x64_0345_1_n_n_1_2_16164864.startIndexMap from (by simp [Fin.ext_iff] : (⟨0, h1⟩ : Fin 5) ∉ ([1] : List (Fin 5))))]; simp only [Nat.zero_add]; rfl
  | ⟨2, h1⟩ => rw [GatherDims.start, dif_neg (show (⟨2, h1⟩ : Fin 5) ∉ gather_S16x40x64x8x64_S32x9x1_S16x32x9x64x8x64_0345_1_n_n_1_2_16164864.startIndexMap from (by simp [Fin.ext_iff] : (⟨2, h1⟩ : Fin 5) ∉ ([1] : List (Fin 5))))]; simp only [Nat.zero_add]; rfl
  | ⟨3, h1⟩ => rw [GatherDims.start, dif_neg (show (⟨3, h1⟩ : Fin 5) ∉ gather_S16x40x64x8x64_S32x9x1_S16x32x9x64x8x64_0345_1_n_n_1_2_16164864.startIndexMap from (by simp [Fin.ext_iff] : (⟨3, h1⟩ : Fin 5) ∉ ([1] : List (Fin 5))))]; simp only [Nat.zero_add]; rfl
  | ⟨4, h1⟩ => rw [GatherDims.start, dif_neg (show (⟨4, h1⟩ : Fin 5) ∉ gather_S16x40x64x8x64_S32x9x1_S16x32x9x64x8x64_0345_1_n_n_1_2_16164864.startIndexMap from (by simp [Fin.ext_iff] : (⟨4, h1⟩ : Fin 5) ∉ ([1] : List (Fin 5))))]; simp only [Nat.zero_add]; rfl

/-- The bias gather at an index. -/
theorem gather_bias (x : S8x257.Idx → α) (idx : IVec S64x576x1 32) (h : Fin 8) (q : Fin 64) (j : Fin 576) :
    Host.gather gather_S8x257_S64x576x1_S8x64x576_0_1_n_n_1_2_81 x idx (ix3 h q j)
      = x (ix2 h ⟨min (idx (ix3 q j 0)).toInt.toNat 256, by omega⟩) := by
  unfold Host.gather
  congr 1
  funext a
  refine Fin.ext ?_
  show gather_S8x257_S64x576x1_S8x64x576_0_1_n_n_1_2_81.start (ix3 h q j) idx a
      + gather_S8x257_S64x576x1_S8x64x576_0_1_n_n_1_2_81.batchCoord (ix3 h q j) a
      + gather_S8x257_S64x576x1_S8x64x576_0_1_n_n_1_2_81.offCoord (ix3 h q j) a = _
  rw [GatherDims.batchCoord_eq_zero _ _ _ List.not_mem_nil]
  match a with
  | ⟨1, h1⟩ =>
    rw [GatherDims.offCoord_eq_zero _ _ _ (fun h => ((GatherDims.mem_sKept _ _).mp h).1 (List.mem_singleton.mpr rfl))]
    unfold GatherDims.start
    rw [dif_pos (show (⟨1, h1⟩ : Fin 2) ∈ gather_S8x257_S64x576x1_S8x64x576_0_1_n_n_1_2_81.startIndexMap from List.mem_singleton.mpr rfl)]
    have hsi : gather_S8x257_S64x576x1_S8x64x576_0_1_n_n_1_2_81.siIdx (ix3 h q j)
        ⟨List.idxOf (⟨1, by decide⟩ : Fin 2) gather_S8x257_S64x576x1_S8x64x576_0_1_n_n_1_2_81.startIndexMap,
          List.idxOf_lt_length_iff.2 (List.mem_singleton.mpr rfl)⟩ = ix3 q j 0 := by
      funext c; refine Fin.ext ?_
      match c with
      | ⟨0, _⟩ => rfl
      | ⟨1, _⟩ => rfl
      | ⟨2, _⟩ => rfl
    rw [hsi]
    rfl
  | ⟨0, h1⟩ => rw [GatherDims.start, dif_neg (show (⟨0, h1⟩ : Fin 2) ∉ gather_S8x257_S64x576x1_S8x64x576_0_1_n_n_1_2_81.startIndexMap from (by simp [Fin.ext_iff] : (⟨0, h1⟩ : Fin 2) ∉ ([1] : List (Fin 2))))]; simp only [Nat.zero_add]; rfl

/-- The band gather, where the index array's number is known. -/
theorem gather_band_at (x : S16x40x64x8x64.Idx → α) (idx : IVec S32x9x1 32) (b : Fin 16) (n : Fin 32) (m : Fin 9) (q : Fin 64) (h : Fin 8) (d : Fin 64)
    (k : Fin 40) (hk : (idx (ix3 n m 0)).toInt.toNat = k.val) :
    Host.gather gather_S16x40x64x8x64_S32x9x1_S16x32x9x64x8x64_0345_1_n_n_1_2_16164864 x idx (ix6 b n m q h d) = x (ix5 b k q h d) :=
  (gather_band x idx b n m q h d).trans (congrArg (fun k => x (ix5 b k q h d)) (Fin.ext (by show min _ 39 = k.val; rw [hk]; omega)))

/-- The bias gather, where the index array's number is known. -/
theorem gather_bias_at (x : S8x257.Idx → α) (idx : IVec S64x576x1 32) (h : Fin 8) (q : Fin 64) (j : Fin 576)
    (k : Fin 257) (hk : (idx (ix3 q j 0)).toInt.toNat = k.val) :
    Host.gather gather_S8x257_S64x576x1_S8x64x576_0_1_n_n_1_2_81 x idx (ix3 h q j) = x (ix2 h k) :=
  (gather_bias x idx h q j).trans (congrArg (fun k => x (ix2 h k)) (Fin.ext (by show min _ 256 = k.val; rw [hk]; omega)))

end Gathers

theorem ofNat_toNat (k : Nat) (hk : k < 1000) : (BitVec.ofNat 32 k).toInt.toNat = k := by
  rw [BitVec.toInt_ofNat']; simp [Int.bmod]; omega

end Cert.Proof.Attn

end
-- ==== Proof.RefTab.lean ====
/-
  The reference's index arrays, entry by entry.
-/
module

public import proofs.«01_k».proof.Proof.Gen.ReferenceIdeal.Read
public import proofs.«01_k».proof.Proof.Math
public import Idealize.ShloMosaic.Lib.KernelVsHost

@[expose] public section

set_option maxRecDepth 8192
set_option maxHeartbeats 4000000

noncomputable section

namespace Cert.Proof.Attn

open Idealize.ShloMosaic Idealize.ShloMosaic.TcCoe Idealize.ShloMosaic.Tactic
open Cert.ReferenceIdeal Cert.ReferenceIdeal.Gen Cert.ReferenceIdeal.Read

/-- The band's chunk numbers. -/
theorem ref_bandIdx : ∀ (n : Fin 32) (m : Fin 9), val_main_v50 (F := Ideal) (ix3 n m 0) = BitVec.ofNat 32 (n.val + m.val) := by
  intro n m
  pointwise [val_main_v50, val_main_v49, val_main_v48, val_main_v47, val_main_v46, val_main_v45, val_main_v44, val_main_v43, val_main_v42, val_main_v41, val_main_v40, val_main_v39, val_main_v38, val_main_c_6, val_main_c_7]
  revert n m
  decide +kernel

theorem ref_bandIdx' : ∀ (n : Fin 32) (m : Fin 9), val_main_v58 (F := Ideal) (ix3 n m 0) = BitVec.ofNat 32 (n.val + m.val) := by
  intro n m
  pointwise [val_main_v58, val_main_v57, val_main_v56, val_main_v55, val_main_v54, val_main_v53, val_main_v44, val_main_v43, val_main_v42, val_main_v41, val_main_v40, val_main_v39, val_main_v38, val_main_c_8, val_main_c_9]
  revert n m
  decide +kernel

/-- Which keys are in a chunk's band. -/
theorem ref_valid : ∀ (n : Fin 32) (j : Fin 576), val_main_v92 (F := Ideal) (ix2 n j) = if 8 ≤ n.val + j.val / 64 then 1#1 else 0#1 := by
  intro n j
  pointwise [val_main_v92, val_main_v91, val_main_v90, val_main_v89, val_main_v88, val_main_v87, val_main_v86, val_main_v85, val_main_v84, val_main_v83, val_main_c_18, val_main_c_17, val_main_call3_v0, val_main_call3_v1, val_main_call3_v2, val_main_call3_v3, val_main_call3_v4, val_main_call3_v5, val_main_call3_v6, val_main_call3_v7, val_main_call3_v8, val_main_call3_v9, val_main_call3_v10, val_main_call3_v11, val_main_call3_v12, val_main_call3_v13, val_main_call3_c, val_main_call3_c_0]
  revert n j
  decide +kernel

theorem ref_relIdx : ∀ (q : Fin 64) (j : Fin 576), val_main_v81 (F := Ideal) (ix3 q j 0) = BitVec.ofNat 32 (min 256 (640 + q.val - j.val)) := by
  intro n m
  pointwise [val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_c_11, val_main_c_12, val_main_c_13, val_main_c_14, val_main_c_15, val_main_c_16, val_main_call2_v0, val_main_call2_v1, val_main_call2_v2, val_main_call2_v3, val_main_call2_v4]
  revert n m
  decide +kernel

end Cert.Proof.Attn

end
-- ==== Proof.RefRead.lean ====
/-
  The reference's result, entry by entry: it is `attnAt`.
-/
module

public import proofs.«01_k».proof.Proof.Gen.ReferenceIdeal.Read
public import proofs.«01_k».proof.Proof.Math
public import Idealize.ShloMosaic.Lib.KernelVsHost
public import proofs.«01_k».proof.Proof.RefIdx
public import proofs.«01_k».proof.Proof.RefTab

@[expose] public section

set_option maxRecDepth 8192
set_option maxHeartbeats 4000000

noncomputable section

namespace Cert.Proof.Attn

open Idealize.ShloMosaic Idealize.ShloMosaic.TcCoe Idealize.ShloMosaic.Tactic
open Cert.ReferenceIdeal Cert.ReferenceIdeal.Gen Cert.ReferenceIdeal.Read

variable (x0 : (⟨S32768x1536, .bf16⟩ : BufTy).Contents (Elt Ideal)) (x1 x2 : (⟨S64, .f32⟩ : BufTy).Contents (Elt Ideal)) (x3 : (⟨S8x257, .f32⟩ : BufTy).Contents (Elt Ideal))

/-- The stacked queries, keys and values, by row and column. -/
abbrev arr2 (x : (⟨S32768x1536, .bf16⟩ : BufTy).Contents (Elt Ideal)) : Fin 32768 → Fin 1536 → EReal := fun r c => x (ix2 r c)
abbrev arr1 (x : (⟨S64, .f32⟩ : BufTy).Contents (Elt Ideal)) : Fin 64 → EReal := fun d => x (ix1 d)
abbrev arrB (x : (⟨S8x257, .f32⟩ : BufTy).Contents (Elt Ideal)) : Fin 8 → Fin 257 → EReal := fun h t => x (ix2 h t)

theorem ref_q (b : Fin 16) (n : Fin 32) (q : Fin 64) (h : Fin 8) (d : Fin 64) :
    val_main_v19 (F := Ideal) x0 x1 (ix5 b n q h d) = qAt (arr2 x0) (arr1 x1) b (tok n q) h d := by
  pointwise [val_main_v19, val_main_v18, val_main_v17, val_main_v16, val_main_v15, val_main_v14, val_main_v13, val_main_v12, val_main_v11, val_main_v10, val_main_v9, val_main_v8, val_main_v7, val_main_v6, val_main_v5, val_main_v2, val_main_v1, val_main_v0, val_main_cst, val_main_cst_0, val_main_cst_1]
  rfl

theorem ref_k (b : Fin 16) (n : Fin 32) (q : Fin 64) (h : Fin 8) (d : Fin 64) :
    val_main_v34 (F := Ideal) x0 x2 (ix5 b n q h d) = kRow (arr2 x0) (arr1 x2) b (tok n q) h d := by
  pointwise [val_main_v34, val_main_v33, val_main_v32, val_main_v31, val_main_v30, val_main_v29, val_main_v28, val_main_v27, val_main_v26, val_main_v25, val_main_v24, val_main_v23, val_main_v22, val_main_v21, val_main_v20, val_main_v3, val_main_v1, val_main_v0, val_main_cst_2, val_main_cst_3, val_main_cst_4]
  rfl

theorem ref_v (b : Fin 16) (n : Fin 32) (q : Fin 64) (h : Fin 8) (d : Fin 64) :
    val_main_v36 (F := Ideal) x0 (ix5 b n q h d) = arr2 x0 (row b (tok n q)) (colV h d) := by
  pointwise [val_main_v36, val_main_v4, val_main_v1, val_main_v0]
  rfl

theorem ref_kpad (b : Fin 16) (n : Fin 40) (q : Fin 64) (h : Fin 8) (d : Fin 64) (u : Fin 2560) (hu : u.val = n.val * 64 + q.val) :
    val_main_v35 (F := Ideal) x0 x2 (ix5 b n q h d) = kAt (arr2 x0) (arr1 x2) b u h d := by
  pointwise [val_main_v35]
  unfold kAt
  by_cases h8 : 8 ≤ n.val
  · rw [dif_pos ⟨h8, by omega⟩, dif_pos (by omega), ref_k]
    congr 1
    exact Fin.ext (by show (n.val - 8) * 64 + q.val = u.val - 512; omega)
  · rw [dif_neg (fun hc => h8 hc.1), dif_neg (by omega)]
    pointwise [val_main_call0_v0, val_main_c]
    exact sitofp_zero (φ := .f32)

theorem ref_vpad (b : Fin 16) (n : Fin 40) (q : Fin 64) (h : Fin 8) (d : Fin 64) (u : Fin 2560) (hu : u.val = n.val * 64 + q.val) :
    val_main_v37 (F := Ideal) x0 (ix5 b n q h d) = vAt (arr2 x0) b u h d := by
  pointwise [val_main_v37]
  unfold vAt
  by_cases h8 : 8 ≤ n.val
  · rw [dif_pos ⟨h8, by omega⟩, dif_pos (by omega), ref_v]
    congr 2
    exact Fin.ext (by show (n.val - 8) * 64 + q.val = u.val - 512; omega)
  · rw [dif_neg (fun hc => h8 hc.1), dif_neg (by omega)]
    pointwise [val_main_call1_v0, val_main_c_5]
    exact sitofp_zero (φ := .f32)

theorem ref_kband (b : Fin 16) (n : Fin 32) (j : Fin 576) (h : Fin 8) (d : Fin 64) :
    val_main_v52 (F := Ideal) x0 x2 (ix5 b n j h d) = kAt (arr2 x0) (arr1 x2) b (bandTok n j) h d := by
  have hi := ref_bandIdx n ⟨j.val / 64, by omega⟩
  have hp := ref_kpad x0 x2 b ⟨n.val + j.val / 64, by omega⟩ ⟨j.val % 64, by omega⟩ h d (bandTok n j)
    (by show n.val * 64 + j.val = (n.val + j.val / 64) * 64 + j.val % 64; omega)
  revert hi hp
  unfold val_main_v52 val_main_v51
  generalize val_main_v50 (F := Ideal) = w
  generalize val_main_v35 (F := Ideal) x0 x2 = P
  intro hi hp
  pointwise
  exact (gather_band_at P w b n _ _ h d ⟨n.val + j.val / 64, by omega⟩ (by rw [hi]; exact ofNat_toNat _ (by omega))).trans hp

theorem ref_vband (b : Fin 16) (n : Fin 32) (j : Fin 576) (h : Fin 8) (d : Fin 64) :
    val_main_v60 (F := Ideal) x0 (ix5 b n j h d) = vAt (arr2 x0) b (bandTok n j) h d := by
  have hi := ref_bandIdx' n ⟨j.val / 64, by omega⟩
  have hp := ref_vpad x0 b ⟨n.val + j.val / 64, by omega⟩ ⟨j.val % 64, by omega⟩ h d (bandTok n j)
    (by show n.val * 64 + j.val = (n.val + j.val / 64) * 64 + j.val % 64; omega)
  revert hi hp
  unfold val_main_v60 val_main_v59
  generalize val_main_v58 (F := Ideal) = w
  generalize val_main_v37 (F := Ideal) x0 = P
  intro hi hp
  pointwise
  exact (gather_band_at P w b n _ _ h d ⟨n.val + j.val / 64, by omega⟩ (by rw [hi]; exact ofNat_toNat _ (by omega))).trans hp

theorem ref_bias (h : Fin 8) (q : Fin 64) (j : Fin 576) :
    val_main_v82 (F := Ideal) x3 (ix3 h q j) = biasAt (arrB x3) h q j :=
  gather_bias_at x3 _ h q j ⟨min 256 (640 + q.val - j.val), by omega⟩ (by rw [ref_relIdx]; exact ofNat_toNat _ (by omega))

theorem czero : Ideal.ofBits .f32 0#32 = 0 := by simp [Ideal.ofBits, Ideal.ieee]

theorem cbot_ref : (id (constant (F := Ideal) S_ .f32 4286578688#32) ix0 : EReal) = ⊥ := cbot

theorem ref_score (b : Fin 16) (h : Fin 8) (n : Fin 32) (q : Fin 64) (j : Fin 576) :
    val_main_v97 (F := Ideal) x0 x1 x2 x3 (ix5 b h n q j) = scoreAt (arr2 x0) (arr1 x1) (arr1 x2) (arrB x3) b h n q j := by
  have hv := ref_valid n j
  have hb := ref_bias x3 h q j
  have hq := ref_q x0 x1 b n q h
  have hk := ref_kband x0 x2 b n j h
  revert hv hb hq hk
  unfold val_main_v97 val_main_v96 val_main_v95 val_main_v94 val_main_v63 val_main_v62 val_main_v61 val_main_call4_v1 val_main_v93 scoreAt
  generalize val_main_v92 (F := Ideal) = c
  generalize val_main_v82 (F := Ideal) x3 = e
  generalize val_main_v19 (F := Ideal) x0 x1 = Q
  generalize val_main_v52 (F := Ideal) x0 x2 = K
  intro hv hb hq hk
  pointwise [val_main_cst_10, val_main_cst_19, val_main_call4_v0, val_main_call4_v2]
  simp only [hv, hb, hq, hk, cbot_ref]
  by_cases hc : 8 ≤ n.val + j.val / 64
  · rw [if_pos hc, if_pos hc]; rfl
  · rw [if_neg hc, if_neg hc]; rfl

/-- The row maximum: a fold over the last axis. -/
theorem ref_max (s : S16x8x32x64x576.Idx → EReal) (b : Fin 16) (h : Fin 8) (n : Fin 32) (q : Fin 64) :
    Host.reduce (FloatOps.maximumf (F := Ideal) (φ := .f32)) s (val_main_cst_20 (F := Ideal)) reducesTo_S16x8x32x64x576_S16x8x32x64_d4 h_S_ (ix4 b h n q)
      = Finset.fold max ⊥ (fun j : Fin 576 => s (ix5 b h n q j)) Finset.univ := by
  refine (Host.reduce_eq_fold_single (FloatOps.maximumf (F := Ideal) (φ := .f32)) s (val_main_cst_20 (F := Ideal)) reducesTo_S16x8x32x64x576_S16x8x32x64_d4
    (show S16x8x32x64x576.Reduces [4] S16x8x32x64 by decide) h_S_ (ix4 b h n q)).trans ?_
  have hi : (val_main_cst_20 (F := Ideal)) (Shape.Idx.first h_S_) = (⊥ : EReal) := cbot
  rw [hi]
  refine congrArg (fun f : Fin 576 → EReal => Finset.fold max ⊥ f Finset.univ) (funext fun j => congrArg s ?_)
  funext a
  match a with
  | ⟨0, _⟩ => rfl
  | ⟨1, _⟩ => rfl
  | ⟨2, _⟩ => rfl
  | ⟨3, _⟩ => rfl
  | ⟨4, _⟩ => rfl

theorem ref_prob (b : Fin 16) (h : Fin 8) (n : Fin 32) (q : Fin 64) (j : Fin 576) :
    val_main_v108 (F := Ideal) x0 x1 x2 x3 (ix5 b h n q j) =
      Ideal.div (Ideal.exp (scoreAt (arr2 x0) (arr1 x1) (arr1 x2) (arrB x3) b h n q j - max ⊥ (Finset.fold max ⊥ (scoreAt (arr2 x0) (arr1 x1) (arr1 x2) (arrB x3) b h n q) Finset.univ)))
        (∑ i, Ideal.exp (scoreAt (arr2 x0) (arr1 x1) (arr1 x2) (arrB x3) b h n q i - max ⊥ (Finset.fold max ⊥ (scoreAt (arr2 x0) (arr1 x1) (arr1 x2) (arrB x3) b h n q) Finset.univ))) := by
  have hm : val_main_v98 (F := Ideal) x0 x1 x2 x3 (ix4 b h n q) = Finset.fold max ⊥ (scoreAt (arr2 x0) (arr1 x1) (arr1 x2) (arrB x3) b h n q) Finset.univ :=
    (ref_max _ b h n q).trans (congrArg (fun f => Finset.fold max ⊥ f Finset.univ) (funext fun j => ref_score x0 x1 x2 x3 b h n q j))
  have hM : val_main_v100 (F := Ideal) x0 x1 x2 x3 (ix4 b h n q) = max ⊥ (Finset.fold max ⊥ (scoreAt (arr2 x0) (arr1 x1) (arr1 x2) (arrB x3) b h n q) Finset.univ) := by
    rw [val_main_v100_apply, hm, val_main_v99_apply, show (val_main_cst_21 (F := Ideal)) (idx_main_v99 (ix4 b h n q)) = (⊥ : EReal) from cbot]
    rfl
  have he : ∀ j, val_main_v104 (F := Ideal) x0 x1 x2 x3 (ix5 b h n q j) = Ideal.exp (scoreAt (arr2 x0) (arr1 x1) (arr1 x2) (arrB x3) b h n q j - max ⊥ (Finset.fold max ⊥ (scoreAt (arr2 x0) (arr1 x1) (arr1 x2) (arrB x3) b h n q) Finset.univ)) := by
    intro j
    have ei : idx_main_v101 (idx_main_v102 (ix5 b h n q j)) = ix4 b h n q := by
      funext a; match a with
      | ⟨0, _⟩ => rfl
      | ⟨1, _⟩ => rfl
      | ⟨2, _⟩ => rfl
      | ⟨3, _⟩ => rfl
    rw [val_main_v104_apply, val_main_v103_apply, val_main_v102_apply, val_main_v101_apply, ei, hM, ref_score]
    rfl
  have hl : val_main_v105 (F := Ideal) x0 x1 x2 x3 (ix4 b h n q) = ∑ i, Ideal.exp (scoreAt (arr2 x0) (arr1 x1) (arr1 x2) (arrB x3) b h n q i - max ⊥ (Finset.fold max ⊥ (scoreAt (arr2 x0) (arr1 x1) (arr1 x2) (arrB x3) b h n q) Finset.univ)) := by
    rw [val_main_v105_apply, show (val_main_cst_22 (F := Ideal)) (Shape.Idx.first h_S_) = (0 : EReal) from czero, zero_add]
    refine Finset.sum_congr rfl fun k _ => ?_
    have ek : idx_main_v105 (ix4 b h n q) k = ix5 b h n q k := by
      funext a; match a with
      | ⟨0, _⟩ => rfl
      | ⟨1, _⟩ => rfl
      | ⟨2, _⟩ => rfl
      | ⟨3, _⟩ => rfl
      | ⟨4, _⟩ => rfl
    rw [ek, he k]
  have ei : idx_main_v106 (idx_main_v107 (ix5 b h n q j)) = ix4 b h n q := by
    funext a; match a with
    | ⟨0, _⟩ => rfl
    | ⟨1, _⟩ => rfl
    | ⟨2, _⟩ => rfl
    | ⟨3, _⟩ => rfl
  rw [val_main_v108_apply, he, val_main_v107_apply, val_main_v106_apply, ei, hl]
  rfl

theorem ref_out (b : Fin 16) (n : Fin 32) (q : Fin 64) (h : Fin 8) (d : Fin 64) (i : S16x2048x512.Idx)
    (h0 : (i 0).val = b.val) (h1 : (i 1).val = n.val * 64 + q.val) (h2 : (i 2).val = h.val * 64 + d.val) :
    val_main_v111 (F := Ideal) x0 x1 x2 x3 i = attnAt (arr2 x0) (arr1 x1) (arr1 x2) (arrB x3) b n q h d := by
  have e : idx_main_v111 i = ix5 b n q h d := by
    funext a
    refine Fin.ext ?_
    match a with
    | ⟨0, _⟩ => show (((i 0).val * 2048 + (i 1).val) * 512 + (i 2).val) / 1048576 = b.val; omega
    | ⟨1, _⟩ => show (((i 0).val * 2048 + (i 1).val) * 512 + (i 2).val) / 32768 % 32 = n.val; omega
    | ⟨2, _⟩ => show (((i 0).val * 2048 + (i 1).val) * 512 + (i 2).val) / 512 % 64 = q.val; omega
    | ⟨3, _⟩ => show (((i 0).val * 2048 + (i 1).val) * 512 + (i 2).val) / 64 % 8 = h.val; omega
    | ⟨4, _⟩ => show (((i 0).val * 2048 + (i 1).val) * 512 + (i 2).val) % 64 = d.val; omega
  rw [val_main_v111_apply, e, val_main_v110_apply, val_main_v109_apply]
  unfold attnAt
  refine Finset.sum_congr rfl fun j _ => ?_
  rw [← ref_vband x0 b n j h d, ← ref_prob x0 x1 x2 x3 b h n q j]
  congr 2
  · funext a; match a with
    | ⟨0, _⟩ => rfl
    | ⟨1, _⟩ => rfl
    | ⟨2, _⟩ => rfl
    | ⟨3, _⟩ => rfl
    | ⟨4, _⟩ => rfl
  · funext a; match a with
    | ⟨0, _⟩ => rfl
    | ⟨1, _⟩ => rfl
    | ⟨2, _⟩ => rfl
    | ⟨3, _⟩ => rfl
    | ⟨4, _⟩ => rfl

end Cert.Proof.Attn

end
-- ==== Proof.Rms.lean ====
/-
  A row divided by its root mean square, and products of numbers split in a high and a low part, over the extended reals.
-/
module

public import proofs.«01_k».proof.Proof.Math

@[expose] public section

noncomputable section

namespace Cert.Proof.Rows

open Idealize.ShloMosaic Cert.Proof.Attn

/-- Row entry `d` divided by the row's root mean square, times a gain; `w` is the word of the row's length. -/
def rms {n : Nat} (w : BitVec 32) (x g : Fin n → EReal) (d : Fin n) : EReal :=
  x d * Ideal.rsqrt (Ideal.div (∑ e, x e * x e) (Ideal.ofBits .f32 w) + epsC) * g d

/-- Whatever the row, the result is finite where the gain is: an infinite entry makes the root infinite. -/
theorem rms_fin {n : Nat} {w : BitVec 32} {N : ℝ} (hw : Ideal.ofBits .f32 w = (N : EReal)) (hN : 0 < N) (x g : Fin n → EReal)
    (hg : ∀ d, Fin' (g d)) (d : Fin n) : Fin' (rms w x g d) := by
  have hd : ∀ a : EReal, Ideal.div a (N : EReal) = a * ((1 / N : ℝ) : EReal) := fun a => by
    rw [Ideal.div_coe hN.ne']
  obtain ⟨p, hp, he⟩ := ceps
  unfold rms
  rw [hw, hd, he]
  refine Fin'.mul ?_ (hg d)
  by_cases h : ∃ e, x e = ⊥ ∨ x e = ⊤
  · obtain ⟨e, h⟩ := h
    have hs : (∑ e, x e * x e) = ⊤ := by
      refine top_le_iff.mp (le_trans ?_ (Finset.single_le_sum (f := fun e => x e * x e) (fun i _ => ?_) (Finset.mem_univ e)))
      · rcases h with h | h <;> simp [h]
      · have := sum_sq_nonneg {i} x
        rwa [Finset.sum_singleton] at this
    rw [hs, EReal.top_mul_coe_of_pos (by positivity), EReal.top_add_coe, Ideal.rsqrt_top, mul_zero]
    exact Fin'.zero
  · push Not at h
    obtain ⟨r, hr⟩ := (Fin'.sum Finset.univ (fun e => x e * x e) fun e => Fin'.mul (h e) (h e)).exists
    have h0 : 0 ≤ r := by
      have := sum_sq_nonneg Finset.univ x
      rw [hr] at this; exact_mod_cast this
    rw [hr, ← EReal.coe_mul, ← EReal.coe_add, Ideal.rsqrt_coe]
    have hpos : 0 < r * (1 / N) + p := by positivity
    rw [if_neg (not_lt.mpr hpos.le), if_neg hpos.ne']
    exact Fin'.mul (h d) (Fin'.coe _)

theorem c1024 : Ideal.ofBits .f32 1149239296#32 = ((1024 : ℝ) : EReal) := by
  simp [Ideal.ofBits, Ideal.ieee]; norm_num; rw [← EReal.coe_mul]; norm_num
theorem c256 : Ideal.ofBits .f32 1132462080#32 = ((256 : ℝ) : EReal) := by
  simp [Ideal.ofBits, Ideal.ieee]; norm_num; rw [← EReal.coe_mul]; norm_num

/-- A number above minus infinity and below infinity is finite. -/
theorem fin_of_bits (x : EReal) (h : Scalar.andi (FloatOps.cmpf (F := Ideal) (φ := .f32) .ogt x (Ideal.ofBits .f32 4286578688#32)) (FloatOps.cmpf (F := Ideal) (φ := .f32) .olt x (Ideal.ofBits .f32 2139095040#32)) = 1#1) : Fin' x := by
  have hb : Ideal.ofBits .f32 2139095040#32 = (⊤ : EReal) := by simp [Ideal.ofBits, Ideal.ieee]
  rw [cbot, hb] at h
  constructor
  · rintro rfl
    revert h
    simp [FloatOps.cmpf, Ideal.cmp, Scalar.andi]
    decide
  · rintro rfl
    revert h
    simp [FloatOps.cmpf, Ideal.cmp, Scalar.andi]
    decide

/-- Three products of high and low parts are the one product, where both factors are finite. -/
theorem split_dot {n : Nat} (a b : Fin n → EReal) (ha : ∀ i, Fin' (a i)) (hb : ∀ i, Fin' (b i)) :
    (∑ i, a i * b i) + ((∑ i, (a i - a i) * b i) + ∑ i, a i * (b i - b i)) = ∑ i, a i * b i := by
  have e1 : ∀ i, (a i - a i) * b i = 0 := fun i => by rw [(ha i).sub_self, zero_mul]
  have e2 : ∀ i, a i * (b i - b i) = 0 := fun i => by rw [(hb i).sub_self, mul_zero]
  simp [e1, e2]

/-- A sum over 1024 places as two sums over 512. -/
theorem sum_halves (f : Fin 1024 → EReal) :
    ∑ i, f i = (∑ i : Fin 512, f ⟨i.val, by omega⟩) + ∑ i : Fin 512, f ⟨512 + i.val, by omega⟩ :=
  Fin.sum_univ_add (a := 512) (b := 512) f

end Cert.Proof.Rows

end
-- ==== Proof.Final.lean ====
/-
  The kernel's result array is the attention of its arguments, and so is the reference's.
-/
module

public import proofs.«01_k».proof.Defs
public import proofs.«01_k».proof.Proof.Host
public import proofs.«01_k».proof.Proof.RefRead
public import proofs.«01_k».proof.Proof.Rms

@[expose] public section

set_option maxRecDepth 8192
set_option maxHeartbeats 4000000

noncomputable section

namespace Cert.Proof.Attn

open Idealize.ShloMosaic Idealize.ShloMosaic.TcCoe Idealize.ShloMosaic.Tactic Idealize.SL.Sem Cert.Proof.Rows
open Cert.KernelIdeal Cert.KernelIdeal.Gen

section Pre

instance preFacts : Cert.Pre_finite_scores.Facts := ⟨by decide, by decide, by decide, by decide, by decide⟩

variable (x0 : FVec Ideal S32768x1536 .bf16) (x1 x2 : FVec Ideal S64 .f32) (x3 : FVec Ideal S8x257 .f32)

theorem pre_x (h : (Cert.Pre_finite_scores.fn (F := Ideal) x0 x1 x2 x3).1 = fun _ => 1#1) (r : Fin 32768) (l : Fin 1536) (hl : l.val < 1024) : Fin' (x0 (ix2 r l)) := by
  refine (congrArg (fun i => Fin' (x0 i)) ?_).mp (fin_of_bits _ (congrFun h (ix2 r ⟨l.val, hl⟩ : Cert.Pre_finite_scores.S32768x1024.Idx)))
  funext a
  match a with
  | ⟨0, _⟩ => exact Fin.ext (by show 0 + r.val = r.val; omega)
  | ⟨1, _⟩ => exact Fin.ext (by show 0 + l.val = l.val; omega)

theorem pre_gq (h : (Cert.Pre_finite_scores.fn (F := Ideal) x0 x1 x2 x3).2.1 = fun _ => 1#1) (d : Fin 64) : Fin' (x1 (ix1 d)) :=
  fin_of_bits _ (congrFun h (ix1 d))
theorem pre_gk (h : (Cert.Pre_finite_scores.fn (F := Ideal) x0 x1 x2 x3).2.2.1 = fun _ => 1#1) (d : Fin 64) : Fin' (x2 (ix1 d)) :=
  fin_of_bits _ (congrFun h (ix1 d))
theorem pre_bias (h : (Cert.Pre_finite_scores.fn (F := Ideal) x0 x1 x2 x3).2.2.2 = fun _ => 1#1) (t : Fin 8) (d : Fin 257) : Fin' (x3 (ix2 t d)) :=
  fin_of_bits _ (congrFun h (ix2 t d))

end Pre

section Result
variable (x0 : FVec Ideal S32768x1536 .bf16) (x1 x2 : FVec Ideal S64 .f32) (x3 : FVec Ideal S8x257 .f32)

/-- The attention's result as one array. -/
def attnArr : FVec Ideal S16x2048x512 .f32 := fun i =>
  attnAt (arr2 x0) (arr1 x1) (arr1 x2) (arrB x3) (i 0) ⟨(i 1).val / 64, by have : (i 1).val < 2048 := (i 1).isLt; omega⟩ ⟨(i 1).val % 64, by omega⟩
    ⟨(i 2).val / 64, by have : (i 2).val < 512 := (i 2).isLt; omega⟩ ⟨(i 2).val % 64, by omega⟩

theorem ref_arr : Cert.ReferenceIdeal.Read.val_main_v111 (F := Ideal) x0 x1 x2 x3 = attnArr x0 x1 x2 x3 := by
  funext i
  refine ref_out x0 x1 x2 x3 _ _ _ _ _ i rfl ?_ ?_
  · show (i 1).val = (i 1).val / 64 * 64 + (i 1).val % 64; omega
  · show (i 2).val = (i 2).val / 64 * 64 + (i 2).val % 64; omega

variable (m : (ℓ : Loc nD τ sig) → Buf (Elt Ideal) ℓ) (c : Dev nD)

/-- The result array as a function of the launch contents. -/
abbrev outArr : FVec Ideal S16x2048x512 .f32 := attnArr (m ((c : Thread nD τ).loc main_arg0)) (m ((c : Thread nD τ).loc main_arg1)) (m ((c : Thread nD τ).loc main_arg2)) (m ((c : Thread nD τ).loc main_arg3))

theorem point_surj (t : Fin cfg0.N) : ∃ b p, t = point b p := by
  have ht : t.val < 64 := t.isLt
  exact ⟨⟨t.val / 4, by omega⟩, ⟨t.val % 4, by omega⟩, Fin.ext (by show t.val = t.val / 4 * 4 + t.val % 4; omega)⟩

theorem block_out (hP : Cert.Pre_KernelIdeal_finite_scores m) (b : Fin 16) (p : Fin 4) (i : grid0.Coords)
    (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S128x576 .f32) (harg7 : arg7.IsWhole) (arg8 : Memref sig .tc .vmem S1x2048x128 .f32) (harg8 : arg8.IsWhole) (arg9 : Memref sig .tc .vmem S2048x128 .bf16) (harg9 : arg9.IsWhole) (arg10 : Memref sig .tc .vmem S2560x128 .bf16) (harg10 : arg10.IsWhole) (arg11 : Memref sig .tc .vmem S2560x128 .bf16) (harg11 : arg11.IsWhole) :
    out0_A_6 (F := Ideal) c i arg2 harg2 arg3 harg3 arg4 harg4 arg5 harg5 arg6 harg6 arg7 harg7 arg8 harg8 arg9 harg9 arg10 harg10 arg11 harg11
      (iblk m c 0 (point b p)) (iblk m c 1 (point b p)) (iblk m c 2 (point b p)) (iblk m c 3 (point b p)) (iblk m c 4 (point b p)) (iblk m c 5 (point b p))
      = fun y => outArr m c (ix3 b (y 1) ⟨128 * p.val + (y 2).val, by have : (y 2).val < 128 := (y 2).isLt; omega⟩) := by
  obtain ⟨h0, h1, h2, h3⟩ := hP c
  refine out_eq c i arg2 harg2 arg3 harg3 arg4 harg4 arg5 harg5 arg6 harg6 arg7 harg7 arg8 harg8 arg9 harg9 arg10 harg10 arg11 harg11 _ _ _ _ _ _ _ ?_
  intro k g x
  have e := chunk_at (iblk m c 0 (point b p)) (iblk m c 1 (point b p)) (iblk m c 2 (point b p)) (iblk m c 3 (point b p)) (iblk m c 4 (point b p)) (iblk m c 5 (point b p))
    (arr1 (m ((c : Thread nD τ).loc main_arg1))) (arr1 (m ((c : Thread nD τ).loc main_arg2))) (arr2 (m ((c : Thread nD τ).loc main_arg0))) (arrB (m ((c : Thread nD τ).loc main_arg3))) b p
    (fun t l => ?_) (fun t l => ?_) (fun t l => ?_) (fun l => ?_) (fun l => ?_) (fun r j => ?_)
    (fun r h e => pre_x _ _ _ _ h0 r _ (by show h.val * 64 + e.val < 1024; omega)) (fun r h e => pre_x _ _ _ _ h0 r _ (by show 512 + (h.val * 64 + e.val) < 1024; omega))
    (pre_gq _ _ _ _ h1) (pre_gk _ _ _ _ h2) (pre_bias _ _ _ _ h3) k g (x 1) (x 2)
  · have hx0 : (x 0).val < 1 := (x 0).isLt
    have hx1 : (x 1).val < 64 := (x 1).isLt
    have hx2 : (x 2).val < 128 := (x 2).isLt
    have hk4 := lt_of_lt_of_eq k.isLt trips_eq
    have ex : x = ix3 0 (x 1) (x 2) := by
      funext a
      match a with
      | ⟨0, _⟩ => exact Fin.ext (by show (x 0).val = 0; omega)
      | ⟨1, _⟩ => rfl
      | ⟨2, _⟩ => rfl
    have e1 : ((ro k g).emb x 1).val = 512 * k.val + 64 * g.val + (x 1).val := by
      refine (congrArg (· + 1 * (x 1).val) (congrFun (k0_off3_eq k g) 1)).trans ?_
      show 512 * k.val + 64 * g.val + 1 * (x 1).val = _; omega
    have e2 : ((ro k g).emb x 2).val = (x 2).val := by
      refine (congrArg (· + 1 * (x 2).val) (congrFun (k0_off3_eq k g) 2)).trans ?_
      show 0 + 1 * (x 2).val = _; omega
    refine (congrArg _ ex).trans (e.trans ?_)
    show _ = attnAt _ _ _ _ b ⟨((ro k g).emb x 1).val / 64, _⟩ ⟨((ro k g).emb x 1).val % 64, _⟩ ⟨(128 * p.val + ((ro k g).emb x 2).val) / 64, _⟩ ⟨(128 * p.val + ((ro k g).emb x 2).val) % 64, _⟩
    congr 1
    · exact Fin.ext (by show 8 * k.val + g.val = ((ro k g).emb x 1).val / 64; rw [e1]; omega)
    · exact Fin.ext (by show (x 1).val = ((ro k g).emb x 1).val % 64; rw [e1]; omega)
    · exact Fin.ext (by show 2 * p.val + (x 2).val / 64 = (128 * p.val + ((ro k g).emb x 2).val) / 64; rw [e2]; omega)
    · exact Fin.ext (by show (x 2).val % 64 = (128 * p.val + ((ro k g).emb x 2).val) % 64; rw [e2]; omega)
  · refine (blk0_at m c b p t l).trans ((congrFun (entry_x m c) _).trans ((x_at _ b t _).trans ?_))
    exact congrArg (fun l => arr2 (m ((c : Thread nD τ).loc main_arg0)) (row b t) l) (Fin.ext (by show 128 * p.val + l.val = (2 * p.val + l.val / 64) * 64 + l.val % 64; omega))
  · refine (blk1_at m c b p t l).trans ((congrFun (entry_x m c) _).trans ((x_at _ b t _).trans ?_))
    exact congrArg (fun l => arr2 (m ((c : Thread nD τ).loc main_arg0)) (row b t) l) (Fin.ext (by show 512 + (128 * p.val + l.val) = 512 + ((2 * p.val + l.val / 64) * 64 + l.val % 64); omega))
  · refine (blk2_at m c b p t l).trans ((congrFun (entry_x m c) _).trans ((x_at _ b t _).trans ?_))
    exact congrArg (fun l => arr2 (m ((c : Thread nD τ).loc main_arg0)) (row b t) l) (Fin.ext (by show 1024 + (128 * p.val + l.val) = 1024 + ((2 * p.val + l.val / 64) * 64 + l.val % 64); omega))
  · exact (blk3_at m c b p l).trans ((congrFun (entry_gq m c) _).trans (gain_at _ l))
  · exact (blk4_at m c b p l).trans ((congrFun (entry_gk m c) _).trans (gain_at _ l))
  · refine (blk5_at m c b p r j).trans ((congrFun (entry_bias m c) _).trans ((stack_at _ _ j).trans ?_))
    show arrB (m ((c : Thread nD τ).loc main_arg3)) ⟨(128 * p.val + r.val) / 64, _⟩ ⟨min 256 (640 + (128 * p.val + r.val) % 64 - j.val), _⟩
      = arrB (m ((c : Thread nD τ).loc main_arg3)) ⟨2 * p.val + r.val / 64, _⟩ ⟨min 256 (640 + r.val % 64 - j.val), _⟩
    congr 1
    · exact Fin.ext (by show (128 * p.val + r.val) / 64 = 2 * p.val + r.val / 64; omega)
    · exact Fin.ext (by show min 256 (640 + (128 * p.val + r.val) % 64 - j.val) = min 256 (640 + r.val % 64 - j.val); omega)

theorem flushed_eq (hP : Cert.Pre_KernelIdeal_finite_scores m) (t : Fin cfg0.N) :
    (dats m 0 c).flushed 6 t = ((cfg0.win 6).blk t).view.read (Elt Ideal) (outArr m c) := by
  obtain ⟨b, p, rfl⟩ := point_surj t
  rw [Cert.KernelIdeal.Value.flushed6_A, block_out m c hP]
  funext y
  have hy : (y : S1x2048x128.Idx) = ix3 0 (y 1) (y 2) := by
    have h0 : (y 0).val < 1 := (y 0).isLt
    funext a
    match a with
    | ⟨0, _⟩ => exact Fin.ext (by show (y 0).val = 0; omega)
    | ⟨1, _⟩ => rfl
    | ⟨2, _⟩ => rfl
  show outArr m c (ix3 b (y 1) ⟨128 * p.val + (y 2).val, _⟩) = outArr m c (((cfg0.win 6).blk (point b p)).view.emb y)
  exact congrArg (outArr m c) ((emb6 b p (y 1) (y 2)).symm.trans (congrArg _ hy.symm))

theorem covered (i : S16x2048x512.Idx) : ∃ t : Fin cfg0.N, (cfg0.win 6).flush t = true ∧ i ∈ ((cfg0.win 6).blk t).view.set := by
  have h1 : (i 1).val < 2048 := (i 1).isLt
  have h2 : (i 2).val < 512 := (i 2).isLt
  have hp : (i 2).val / 128 < 4 := by omega
  have hl : (i 2).val % 128 < 128 := by omega
  refine ⟨point (i 0) ⟨(i 2).val / 128, hp⟩, flush0_6 _, ?_⟩
  have h := ((cfg0.win 6).blk (point (i 0) ⟨(i 2).val / 128, hp⟩)).view.emb_mem_set (ix3 0 (i 1) ⟨(i 2).val % 128, hl⟩ : S1x2048x128.Idx)
  have e : (((cfg0.win 6).blk (point (i 0) ⟨(i 2).val / 128, hp⟩)).view.emb (ix3 0 (i 1) ⟨(i 2).val % 128, hl⟩ : S1x2048x128.Idx) : S16x2048x512.Idx) = i := by
    refine (emb6 (i 0) ⟨(i 2).val / 128, hp⟩ (i 1) ⟨(i 2).val % 128, hl⟩).trans ?_
    funext a
    match a with
    | ⟨0, _⟩ => rfl
    | ⟨1, _⟩ => rfl
    | ⟨2, _⟩ => exact Fin.ext (by show 128 * ((i 2).val / 128) + (i 2).val % 128 = (i 2).val; omega)
  rw [e] at h
  exact h

theorem final_arr (hP : Cert.Pre_KernelIdeal_finite_scores m) : (dats m 0 c).arrAt 6 cfg0.N = outArr m c :=
  (dats m 0 c).arrAt_eq_of_cover 6 (outArr m c) (fun t _ => flushed_eq m c hP t) covered

end Result

end Cert.Proof.Attn

end
-- ==== Proof.InBlock.lean ====
/-
  The input projection's kernel: what it leaves in its four result blocks, entry by entry.
-/
module

public import proofs.«01_k».proof.Proof.Gen.Kernel2Ideal.Value
public import proofs.«01_k».proof.Proof.Rms
public import Idealize.ShloMosaic.Lib.KernelVsHost
public import Idealize.ShloMosaic.Lib.Pipeline.ValueKit.Basic

@[expose] public section

set_option maxRecDepth 8192
set_option maxHeartbeats 4000000

noncomputable section

namespace Cert.Proof.Inp

open Idealize.ShloMosaic Idealize.ShloMosaic.TcCoe Idealize.ShloMosaic.Tactic Cert.Proof.Attn Cert.Proof.Rows
open Cert.Kernel2Ideal Cert.Kernel2Ideal.Gen

/-- One entry of a row, normalised and modulated. -/
def modRow {n : Nat} (w : BitVec 32) (x g sh sc : Fin n → EReal) (d : Fin n) : EReal :=
  rms w x g d * (1 + sc d) + sh d

theorem modRow_fin {n : Nat} {w : BitVec 32} {N : ℝ} (hw : Ideal.ofBits .f32 w = (N : EReal)) (hN : 0 < N) (x g sh sc : Fin n → EReal)
    (hg : ∀ d, Fin' (g d)) (hs : ∀ d, Fin' (sh d)) (hc : ∀ d, Fin' (sc d)) (d : Fin n) : Fin' (modRow w x g sh sc d) :=
  ((rms_fin hw hN x g hg d).mul (Fin'.add (Fin'.coe 1) (hc d))).add (hs d)

section Block
variable (x0 : FVec Ideal S512x1024 .f32) (x1 : FVec Ideal S1x6x1024 .f32) (x2 : FVec Ideal S1x1024 .f32) (x3 x4 : FVec Ideal S1024x1536 .bf16)
  (x5 : FVec Ideal S1024x512 .bf16) (x6 x7 : FVec Ideal S1024x128 .bf16)

/-- Row `p` of the block after norm and modulation. -/
def hRow (p : Fin 512) : Fin 1024 → EReal :=
  modRow 1149239296#32 (fun e => x0 (ix2 p e)) (fun e => x2 (ix2 0 e)) (fun e => x1 (ix3 0 0 e)) (fun e => x1 (ix3 0 1 e))

theorem ld_shift (d : Fin 1024) : View.ld (Val := Elt Ideal) (e' := .f32) x1 r0_1 (ix3 0 0 d) = x1 (ix3 0 0 d) := by
  refine congrArg x1 (funext fun a => Fin.ext ?_)
  match a with
  | ⟨0, _⟩ => rfl
  | ⟨1, _⟩ => rfl
  | ⟨2, _⟩ => show 0 + 1 * d.val = d.val; omega

theorem ld_scale (d : Fin 1024) : View.ld (Val := Elt Ideal) (e' := .f32) x1 r0_2 (ix3 0 0 d) = x1 (ix3 0 1 d) := by
  refine congrArg x1 (funext fun a => Fin.ext ?_)
  match a with
  | ⟨0, _⟩ => rfl
  | ⟨1, _⟩ => rfl
  | ⟨2, _⟩ => show 0 + 1 * d.val = d.val; omega

theorem h_at (p : Fin 512) (d : Fin 1024) :
    k0_pay4 (F := Ideal) x0 (View.ld x1 r0_1) (View.ld x1 r0_2) x2 (ix2 p d) = hRow x0 x1 x2 p d := by
  have e1 := ld_shift x1 d
  have e2 := ld_scale x1 d
  revert e1 e2
  generalize View.ld (Val := Elt Ideal) (e' := .f32) x1 r0_1 = a
  generalize View.ld (Val := Elt Ideal) (e' := .f32) x1 r0_2 = b
  intro e1 e2
  pointwise [k0_pay4]
  rw [e1, e2]
  rfl

theorem ld0 : View.ld (Val := Elt Ideal) (e' := .f32) x0 r0_0 = x0 := View.ld_unit_lit (Val := Elt Ideal) (e := .f32) (off := ![0, 0]) inb_S512x1024_S512x1024_0_0 x0 (by decide)

theorem ld2 : View.ld (Val := Elt Ideal) (e' := .f32) x2 r0_3 = x2 := View.ld_unit_lit (Val := Elt Ideal) (e := .f32) (off := ![0, 0]) inb_S1x1024_S1x1024_0_0 x2 (by decide)

theorem out8_at (p : Fin 512) (c : Fin 1536) :
    out0_8 (F := Ideal) x0 x1 x2 x3 x4 x5 x6 x7 (ix2 p c) = ∑ k, hRow x0 x1 x2 p k * x3 (ix2 k c) := by
  have h := h_at x0 x1 x2 p
  unfold out0_8
  rw [ld0, ld2, show View.ld (Val := Elt Ideal) (e' := .bf16) x3 r0_4 = x3 from View.ld_unit_lit (Val := Elt Ideal) (e := .bf16) (off := ![0, 0]) inb_S1024x1536_S1024x1536_0_0 x3 (by decide),
    View.canon_cons_unit_lit _ _ _ (by decide)]
  unfold k0_pay7 k0_pay5
  revert h
  generalize k0_pay4 (F := Ideal) x0 (View.ld x1 r0_1) (View.ld x1 r0_2) x2 = P
  intro h
  pointwise
  simp only [h]

theorem out9_at (p : Fin 512) (c : Fin 1536) :
    out0_9 (F := Ideal) x0 x1 x2 x3 x4 x5 x6 x7 (ix2 p c) = ∑ k, hRow x0 x1 x2 p k * x4 (ix2 k c) := by
  have h := h_at x0 x1 x2 p
  unfold out0_9 k0_pay9
  rw [ld0, ld2, show View.ld (Val := Elt Ideal) (e' := .bf16) x4 r0_4 = x4 from View.ld_unit_lit (Val := Elt Ideal) (e := .bf16) (off := ![0, 0]) inb_S1024x1536_S1024x1536_0_0 x4 (by decide),
    View.canon_cons_unit_lit _ _ _ (by decide)]
  unfold k0_pay1 k0_pay8 k0_pay5
  revert h
  generalize k0_pay4 (F := Ideal) x0 (View.ld x1 r0_1) (View.ld x1 r0_2) x2 = P
  intro h
  pointwise
  simp only [h]

theorem out10_at (p : Fin 512) (c : Fin 512) :
    out0_10 (F := Ideal) x0 x1 x2 x3 x4 x5 x6 x7 (ix2 p c) = ∑ k, hRow x0 x1 x2 p k * x5 (ix2 k c) := by
  have h := h_at x0 x1 x2 p
  unfold out0_10 k0_pay9
  rw [ld0, ld2, show View.ld (Val := Elt Ideal) (e' := .bf16) x5 r0_6 = x5 from View.ld_unit_lit (Val := Elt Ideal) (e := .bf16) (off := ![0, 0]) inb_S1024x512_S1024x512_0_0 x5 (by decide),
    View.canon_cons_unit_lit _ _ _ (by decide)]
  unfold k0_pay2 k0_pay5
  revert h
  generalize k0_pay4 (F := Ideal) x0 (View.ld x1 r0_1) (View.ld x1 r0_2) x2 = P
  intro h
  pointwise
  simp only [h]

theorem out11_at (p : Fin 512) (c : Fin 128) :
    out0_11 (F := Ideal) x0 x1 x2 x3 x4 x5 x6 x7 (ix2 p c)
      = (∑ k, hRow x0 x1 x2 p k * x6 (ix2 k c)) + ((∑ k, (hRow x0 x1 x2 p k - hRow x0 x1 x2 p k) * x6 (ix2 k c)) + ∑ k, hRow x0 x1 x2 p k * x7 (ix2 k c)) := by
  have h := h_at x0 x1 x2 p
  unfold out0_11 k0_pay9
  rw [ld0, ld2, show View.ld (Val := Elt Ideal) (e' := .bf16) x6 r0_8 = x6 from View.ld_unit_lit (Val := Elt Ideal) (e := .bf16) (off := ![0, 0]) inb_S1024x128_S1024x128_0_0 x6 (by decide),
    show View.ld (Val := Elt Ideal) (e' := .bf16) x7 r0_8 = x7 from View.ld_unit_lit (Val := Elt Ideal) (e := .bf16) (off := ![0, 0]) inb_S1024x128_S1024x128_0_0 x7 (by decide),
    View.canon_cons_unit_lit _ _ _ (by decide)]
  unfold k0_pay3 k0_pay6 k0_pay5
  revert h
  generalize k0_pay4 (F := Ideal) x0 (View.ld x1 r0_1) (View.ld x1 r0_2) x2 = P
  intro h
  pointwise
  simp only [h]

end Block

end Cert.Proof.Inp

end
-- ==== Proof.InHost.lean ====
/-
  The input projection's host arrays and the blocks its grid points read, at an index.
-/
module

public import proofs.«01_k».proof.Proof.InBlock
public import Idealize.ShloMosaic.Lib.StableHlo.RunRead

@[expose] public section

set_option maxRecDepth 8192
set_option maxHeartbeats 4000000

noncomputable section

namespace Cert.Proof.Inp

open Idealize.ShloMosaic Idealize.ShloMosaic.TcCoe Idealize.ShloMosaic.Tactic
open Cert.Kernel2Ideal Cert.Kernel2Ideal.Gen

section Entry
variable {F : FTy → Type} [FloatOps F] (m : (ℓ : Loc nD τ sig) → Buf (Elt F) ℓ) (c : Dev nD)

theorem entry_x : (V m c main_v0 : FVec F S32768x1024 .f32) = shapeCast S32768x1024 (m ((c : Thread nD τ).loc main_arg0) : FVec F S16x2048x1024 .f32) shapeCasts_S16x2048x1024_S32768x1024 := by
  show StableHlo.after (hostOps0 ++ (hostOps0_1 ++ (hostOps0_2 ++ []))) (fun b => m (c, b)) (Proc.tc.devRef main_v0) = _
  simp only [hostOps0, hostOps0_1, hostOps0_2, List.cons_append, List.nil_append]
  after_reads_simp
  rfl

theorem entry_mod : (V m c main_v1 : FVec F S16x6x1024 .f32) = shapeCast S16x6x1024 (m ((c : Thread nD τ).loc main_arg1) : FVec F S16x6144 .f32) shapeCasts_S16x6144_S16x6x1024 := by
  show StableHlo.after (hostOps0 ++ (hostOps0_1 ++ (hostOps0_2 ++ []))) (fun b => m (c, b)) (Proc.tc.devRef main_v1) = _
  simp only [hostOps0, hostOps0_1, hostOps0_2, List.cons_append, List.nil_append]
  after_reads_simp
  rfl

theorem entry_gain : (V m c main_v14 : FVec F S1x1024 .f32) = shapeCast S1x1024 (m ((c : Thread nD τ).loc main_arg2) : FVec F S1024 .f32) shapeCasts_S1024_S1x1024 := by
  show StableHlo.after (hostOps0 ++ (hostOps0_1 ++ (hostOps0_2 ++ []))) (fun b => m (c, b)) (Proc.tc.devRef main_v14) = _
  simp only [hostOps0, hostOps0_1, hostOps0_2, List.cons_append, List.nil_append]
  after_reads_simp
  rfl

theorem entry_w0 : (V m c main_v3 : FVec F S1024x1536 .bf16) = truncf .bf16 (extractStridedSlice S1024x1536 ![0, 0] (m ((c : Thread nD τ).loc main_arg3) : FVec F S1024x3592 .f32) slices_S1024x3592_S1024x1536_0_0) bitsLt_bf16_f32 := by
  show StableHlo.after (hostOps0 ++ (hostOps0_1 ++ (hostOps0_2 ++ []))) (fun b => m (c, b)) (Proc.tc.devRef main_v3) = _
  simp only [hostOps0, hostOps0_1, hostOps0_2, List.cons_append, List.nil_append]
  after_reads_simp

theorem entry_w1 : (V m c main_v5 : FVec F S1024x1536 .bf16) = truncf .bf16 (extractStridedSlice S1024x1536 ![0, 1536] (m ((c : Thread nD τ).loc main_arg3) : FVec F S1024x3592 .f32) slices_S1024x3592_S1024x1536_0_1536) bitsLt_bf16_f32 := by
  show StableHlo.after (hostOps0 ++ (hostOps0_1 ++ (hostOps0_2 ++ []))) (fun b => m (c, b)) (Proc.tc.devRef main_v5) = _
  simp only [hostOps0, hostOps0_1, hostOps0_2, List.cons_append, List.nil_append]
  after_reads_simp

theorem entry_w2 : (V m c main_v7 : FVec F S1024x512 .bf16) = truncf .bf16 (extractStridedSlice S1024x512 ![0, 3072] (m ((c : Thread nD τ).loc main_arg3) : FVec F S1024x3592 .f32) slices_S1024x3592_S1024x512_0_3072) bitsLt_bf16_f32 := by
  show StableHlo.after (hostOps0 ++ (hostOps0_1 ++ (hostOps0_2 ++ []))) (fun b => m (c, b)) (Proc.tc.devRef main_v7) = _
  simp only [hostOps0, hostOps0_1, hostOps0_2, List.cons_append, List.nil_append]
  after_reads_simp

/-- The narrow columns of the weights, padded with zeros. -/
abbrev padW (w : FVec F S1024x3592 .f32) : FVec F S1024x128 .f32 :=
  pad S1024x128 ![0, 0] ![0, 120] ![0, 0] (extractStridedSlice S1024x8 ![0, 3584] w slices_S1024x3592_S1024x8_0_3584) (sitofp .f32 (constantI S_ 32 0#32)) pads_S1024x8_S1024x128_000_01200 h_S_

theorem entry_hi : (V m c main_v10 : FVec F S1024x128 .bf16) = truncf .bf16 (padW (m ((c : Thread nD τ).loc main_arg3) : FVec F S1024x3592 .f32)) bitsLt_bf16_f32 := by
  show StableHlo.after (hostOps0 ++ (hostOps0_1 ++ (hostOps0_2 ++ []))) (fun b => m (c, b)) (Proc.tc.devRef main_v10) = _
  simp only [hostOps0, hostOps0_1, hostOps0_2, List.cons_append, List.nil_append]
  after_reads_simp
  rfl

theorem entry_lo : (V m c main_v13 : FVec F S1024x128 .bf16) = truncf .bf16 (subf (padW (m ((c : Thread nD τ).loc main_arg3) : FVec F S1024x3592 .f32)) (extf .f32 (truncf .bf16 (padW (m ((c : Thread nD τ).loc main_arg3) : FVec F S1024x3592 .f32)) bitsLt_bf16_f32) bitsLt_bf16_f32)) bitsLt_bf16_f32 := by
  show StableHlo.after (hostOps0 ++ (hostOps0_1 ++ (hostOps0_2 ++ []))) (fun b => m (c, b)) (Proc.tc.devRef main_v13) = _
  simp only [hostOps0, hostOps0_1, hostOps0_2, List.cons_append, List.nil_append]
  after_reads_simp
  rfl

end Entry

section Arrays

theorem x_at {α : Type} (x : S16x2048x1024.Idx → α) (r : Fin 32768) (d : Fin 1024) :
    shapeCast S32768x1024 x shapeCasts_S16x2048x1024_S32768x1024 (ix2 r d) = x (ix3 ⟨r.val / 2048, by omega⟩ ⟨r.val % 2048, by omega⟩ d) := by
  pointwise

theorem mod_at {α : Type} (x : S16x6144.Idx → α) (b : Fin 16) (j : Fin 6) (d : Fin 1024) :
    shapeCast S16x6x1024 x shapeCasts_S16x6144_S16x6x1024 (ix3 b j d) = x (ix2 b ⟨j.val * 1024 + d.val, by omega⟩) := by
  pointwise

theorem gain_at {α : Type} (g : S1024.Idx → α) (d : Fin 1024) : shapeCast S1x1024 g shapeCasts_S1024_S1x1024 (ix2 0 d) = g (ix1 d) := by
  pointwise

theorem w0_at (w : FVec Ideal S1024x3592 .f32) (k : Fin 1024) (c : Fin 1536) :
    truncf .bf16 (extractStridedSlice S1024x1536 ![0, 0] w slices_S1024x3592_S1024x1536_0_0) bitsLt_bf16_f32 (ix2 k c) = w (ix2 k ⟨c.val, by omega⟩) := by
  pointwise

theorem w1_at (w : FVec Ideal S1024x3592 .f32) (k : Fin 1024) (c : Fin 1536) :
    truncf .bf16 (extractStridedSlice S1024x1536 ![0, 1536] w slices_S1024x3592_S1024x1536_0_1536) bitsLt_bf16_f32 (ix2 k c) = w (ix2 k ⟨1536 + c.val, by omega⟩) := by
  pointwise

theorem w2_at (w : FVec Ideal S1024x3592 .f32) (k : Fin 1024) (c : Fin 512) :
    truncf .bf16 (extractStridedSlice S1024x512 ![0, 3072] w slices_S1024x3592_S1024x512_0_3072) bitsLt_bf16_f32 (ix2 k c) = w (ix2 k ⟨3072 + c.val, by omega⟩) := by
  pointwise

theorem pad_at (w : FVec Ideal S1024x3592 .f32) (k : Fin 1024) (c : Fin 128) :
    padW w (ix2 k c) = if h : c.val < 8 then w (ix2 k ⟨3584 + c.val, by omega⟩) else 0 := by
  unfold padW
  pointwise
  split
  · rfl
  · exact sitofp_zero (φ := .f32)

theorem hi_at (w : FVec Ideal S1024x128 .f32) (i : S1024x128.Idx) : truncf .bf16 w bitsLt_bf16_f32 i = w i := rfl

theorem lo_at (w : FVec Ideal S1024x128 .f32) (i : S1024x128.Idx) :
    truncf .bf16 (subf w (extf .f32 (truncf .bf16 w bitsLt_bf16_f32) bitsLt_bf16_f32)) bitsLt_bf16_f32 i = w i - w i := rfl

end Arrays

section Blocks
variable {F : FTy → Type} [FloatOps F] (m : (ℓ : Loc nD τ sig) → Buf (Elt F) ℓ) (c : Dev nD)

theorem idx_facts : ∀ t : Fin cfg0.N,
    (win0_0.index t 0 = t.val ∧ win0_0.index t 1 = 0) ∧ (win0_1.index t 0 = t.val / 4 ∧ win0_1.index t 1 = 0 ∧ win0_1.index t 2 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = t.val ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0) := by
  decide +kernel

/-- Row `p` of grid point `t`'s block, in the whole array. -/
abbrev gRow (t : Fin cfg0.N) (p : Fin 512) : Fin 32768 := ⟨512 * t.val + p.val, by have h : t.val < 64 := t.isLt; omega⟩
/-- The batch a grid point works on. -/
abbrev gBatch (t : Fin cfg0.N) : Fin 16 := ⟨t.val / 4, by have h : t.val < 64 := t.isLt; omega⟩

theorem blk0_at (t : Fin cfg0.N) (p : Fin 512) (d : Fin 1024) :
    (iblk m c 0 t : FVec F S512x1024 .f32) (ix2 p d) = (V m c main_v0 : FVec F S32768x1024 .f32) (ix2 (gRow t p) d) := by
  obtain ⟨⟨e0, e1⟩, _⟩ := idx_facts t
  show V m c main_v0 (((cfg0.win 0).blk t).view.emb (ix2 p d)) = _
  refine congrArg (V m c main_v0) (funext fun a => Fin.ext ?_)
  match a with
  | ⟨0, _⟩ => show win0_0.index t 0 * 512 + 1 * p.val = 512 * t.val + p.val; omega
  | ⟨1, _⟩ => show win0_0.index t 1 * 1024 + 1 * d.val = d.val; omega

theorem blk1_at (t : Fin cfg0.N) (j : Fin 6) (d : Fin 1024) :
    (iblk m c 1 t : FVec F S1x6x1024 .f32) (ix3 0 j d) = (V m c main_v1 : FVec F S16x6x1024 .f32) (ix3 (gBatch t) j d) := by
  obtain ⟨_, ⟨e0, e1, e2⟩, _⟩ := idx_facts t
  show V m c main_v1 (((cfg0.win 1).blk t).view.emb (ix3 0 j d)) = _
  refine congrArg (V m c main_v1) (funext fun a => Fin.ext ?_)
  match a with
  | ⟨0, _⟩ => show win0_1.index t 0 * 1 + 1 * 0 = t.val / 4; omega
  | ⟨1, _⟩ => show win0_1.index t 1 * 6 + 1 * j.val = j.val; omega
  | ⟨2, _⟩ => show win0_1.index t 2 * 1024 + 1 * d.val = d.val; omega

theorem blk2_at (t : Fin cfg0.N) (d : Fin 1024) :
    (iblk m c 2 t : FVec F S1x1024 .f32) (ix2 0 d) = (V m c main_v14 : FVec F S1x1024 .f32) (ix2 0 d) := by
  obtain ⟨_, _, ⟨e0, e1⟩, _⟩ := idx_facts t
  show V m c main_v14 (((cfg0.win 2).blk t).view.emb (ix2 0 d)) = _
  refine congrArg (V m c main_v14) (funext fun a => Fin.ext ?_)
  match a with
  | ⟨0, _⟩ => show win0_2.index t 0 * 1 + 1 * 0 = 0; omega
  | ⟨1, _⟩ => show win0_2.index t 1 * 1024 + 1 * d.val = d.val; omega

theorem blk3_at (t : Fin cfg0.N) (k : Fin 1024) (d : Fin 1536) :
    (iblk m c 3 t : FVec F S1024x1536 .bf16) (ix2 k d) = (V m c main_v3 : FVec F S1024x1536 .bf16) (ix2 k d) := by
  obtain ⟨_, _, _, ⟨e0, e1⟩, _⟩ := idx_facts t
  show V m c main_v3 (((cfg0.win 3).blk t).view.emb (ix2 k d)) = _
  refine congrArg (V m c main_v3) (funext fun a => Fin.ext ?_)
  match a with
  | ⟨0, _⟩ => show win0_3.index t 0 * 1024 + 1 * k.val = k.val; omega
  | ⟨1, _⟩ => show win0_3.index t 1 * 1536 + 1 * d.val = d.val; omega

theorem blk4_at (t : Fin cfg0.N) (k : Fin 1024) (d : Fin 1536) :
    (iblk m c 4 t : FVec F S1024x1536 .bf16) (ix2 k d) = (V m c main_v5 : FVec F S1024x1536 .bf16) (ix2 k d) := by
  obtain ⟨_, _, _, _, ⟨e0, e1⟩, _⟩ := idx_facts t
  show V m c main_v5 (((cfg0.win 4).blk t).view.emb (ix2 k d)) = _
  refine congrArg (V m c main_v5) (funext fun a => Fin.ext ?_)
  match a with
  | ⟨0, _⟩ => show win0_4.index t 0 * 1024 + 1 * k.val = k.val; omega
  | ⟨1, _⟩ => show win0_4.index t 1 * 1536 + 1 * d.val = d.val; omega

theorem blk5_at (t : Fin cfg0.N) (k : Fin 1024) (d : Fin 512) :
    (iblk m c 5 t : FVec F S1024x512 .bf16) (ix2 k d) = (V m c main_v7 : FVec F S1024x512 .bf16) (ix2 k d) := by
  obtain ⟨_, _, _, _, _, ⟨e0, e1⟩, _⟩ := idx_facts t
  show V m c main_v7 (((cfg0.win 5).blk t).view.emb (ix2 k d)) = _
  refine congrArg (V m c main_v7) (funext fun a => Fin.ext ?_)
  match a with
  | ⟨0, _⟩ => show win0_5.index t 0 * 1024 + 1 * k.val = k.val; omega
  | ⟨1, _⟩ => show win0_5.index t 1 * 512 + 1 * d.val = d.val; omega

theorem blk6_at (t : Fin cfg0.N) (k : Fin 1024) (d : Fin 128) :
    (iblk m c 6 t : FVec F S1024x128 .bf16) (ix2 k d) = (V m c main_v10 : FVec F S1024x128 .bf16) (ix2 k d) := by
  obtain ⟨_, _, _, _, _, _, ⟨e0, e1⟩, _⟩ := idx_facts t
  show V m c main_v10 (((cfg0.win 6).blk t).view.emb (ix2 k d)) = _
  refine congrArg (V m c main_v10) (funext fun a => Fin.ext ?_)
  match a with
  | ⟨0, _⟩ => show win0_6.index t 0 * 1024 + 1 * k.val = k.val; omega
  | ⟨1, _⟩ => show win0_6.index t 1 * 128 + 1 * d.val = d.val; omega

theorem blk7_at (t : Fin cfg0.N) (k : Fin 1024) (d : Fin 128) :
    (iblk m c 7 t : FVec F S1024x128 .bf16) (ix2 k d) = (V m c main_v13 : FVec F S1024x128 .bf16) (ix2 k d) := by
  obtain ⟨_, _, _, _, _, _, _, ⟨e0, e1⟩, _⟩ := idx_facts t
  show V m c main_v13 (((cfg0.win 7).blk t).view.emb (ix2 k d)) = _
  refine congrArg (V m c main_v13) (funext fun a => Fin.ext ?_)
  match a with
  | ⟨0, _⟩ => show win0_7.index t 0 * 1024 + 1 * k.val = k.val; omega
  | ⟨1, _⟩ => show win0_7.index t 1 * 128 + 1 * d.val = d.val; omega

theorem emb8 (t : Fin cfg0.N) (p : Fin 512) (d : Fin 1536) : ((cfg0.win 8).blk t).view.emb (ix2 p d) = (ix2 (gRow t p) d : S32768x1536.Idx) := by
  obtain ⟨_, _, _, _, _, _, _, _, ⟨e0, e1⟩, _⟩ := idx_facts t
  funext a; refine Fin.ext ?_
  match a with
  | ⟨0, _⟩ => show win0_8.index t 0 * 512 + 1 * p.val = 512 * t.val + p.val; omega
  | ⟨1, _⟩ => show win0_8.index t 1 * 1536 + 1 * d.val = d.val; omega

theorem emb9 (t : Fin cfg0.N) (p : Fin 512) (d : Fin 1536) : ((cfg0.win 9).blk t).view.emb (ix2 p d) = (ix2 (gRow t p) d : S32768x1536.Idx) := by
  obtain ⟨_, _, _, _, _, _, _, _, _, ⟨e0, e1⟩, _⟩ := idx_facts t
  funext a; refine Fin.ext ?_
  match a with
  | ⟨0, _⟩ => show win0_9.index t 0 * 512 + 1 * p.val = 512 * t.val + p.val; omega
  | ⟨1, _⟩ => show win0_9.index t 1 * 1536 + 1 * d.val = d.val; omega

theorem emb10 (t : Fin cfg0.N) (p : Fin 512) (d : Fin 512) : ((cfg0.win 10).blk t).view.emb (ix2 p d) = (ix2 (gRow t p) d : S32768x512.Idx) := by
  obtain ⟨_, _, _, _, _, _, _, _, _, _, ⟨e0, e1⟩, _⟩ := idx_facts t
  funext a; refine Fin.ext ?_
  match a with
  | ⟨0, _⟩ => show win0_10.index t 0 * 512 + 1 * p.val = 512 * t.val + p.val; omega
  | ⟨1, _⟩ => show win0_10.index t 1 * 512 + 1 * d.val = d.val; omega

theorem emb11 (t : Fin cfg0.N) (p : Fin 512) (d : Fin 128) : ((cfg0.win 11).blk t).view.emb (ix2 p d) = (ix2 (gRow t p) d : S32768x128.Idx) := by
  obtain ⟨_, _, _, _, _, _, _, _, _, _, _, ⟨e0, e1⟩⟩ := idx_facts t
  funext a; refine Fin.ext ?_
  match a with
  | ⟨0, _⟩ => show win0_11.index t 0 * 512 + 1 * p.val = 512 * t.val + p.val; omega
  | ⟨1, _⟩ => show win0_11.index t 1 * 128 + 1 * d.val = d.val; omega

end Blocks

end Cert.Proof.Inp

end
-- ==== Proof.InRef.lean ====
/-
  The input projection as one function of its arguments, and the reference's four results as that function.
-/
module

public import proofs.«01_k».proof.Proof.Gen.Reference2Ideal.Read
public import proofs.«01_k».proof.Proof.InBlock

@[expose] public section

set_option maxRecDepth 8192
set_option maxHeartbeats 4000000

noncomputable section

namespace Cert.Proof.Inp

open Idealize.ShloMosaic Idealize.ShloMosaic.TcCoe Idealize.ShloMosaic.Tactic Cert.Proof.Attn Cert.Proof.Rows
open Cert.Reference2Ideal Cert.Reference2Ideal.Gen Cert.Reference2Ideal.Read

variable (x0 : (⟨S16x2048x1024, .f32⟩ : BufTy).Contents (Elt Ideal)) (x1 : (⟨S16x6144, .f32⟩ : BufTy).Contents (Elt Ideal))
  (x2 : (⟨S1024, .f32⟩ : BufTy).Contents (Elt Ideal)) (x3 : (⟨S1024x3592, .f32⟩ : BufTy).Contents (Elt Ideal))

/-- The input of batch `b` at token `t`, normalised, scaled and shifted. -/
def hAt (b : Fin 16) (t : Fin 2048) : Fin 1024 → EReal :=
  modRow 1149239296#32 (fun e => x0 (ix3 b t e)) (fun e => x2 (ix1 e)) (fun e => x1 (ix2 b ⟨e.val, by omega⟩)) (fun e => x1 (ix2 b ⟨1024 + e.val, by omega⟩))

/-- Row `r` of the projection at column `c`. -/
def projAt (r : Fin 32768) (c : Fin 3592) : EReal :=
  ∑ k, hAt x0 x1 x2 ⟨r.val / 2048, by omega⟩ ⟨r.val % 2048, by omega⟩ k * x3 (ix2 k c)

theorem ref_h (b : Fin 16) (t : Fin 2048) (d : Fin 1024) : val_main_v22 (F := Ideal) x0 x1 x2 (ix3 b t d) = hAt x0 x1 x2 b t d := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem ref_proj (r : Fin 32768) (c : Fin 3592) : val_main_v24 (F := Ideal) x0 x1 x2 x3 (ix2 r c) = projAt x0 x1 x2 x3 r c := by
  have h := ref_h x0 x1 x2
  unfold val_main_v24 val_main_v23 projAt
  revert h
  generalize val_main_v22 (F := Ideal) x0 x1 x2 = P
  intro h
  pointwise
  simp only [h]

/-- The four results: queries, keys and values of the attention, those of the recurrence, its gates, and the narrow columns padded. -/
def res0 : FVec Ideal S32768x1536 .bf16 := fun i => projAt x0 x1 x2 x3 (i 0) ⟨(i 1).val, by have : (i 1).val < 1536 := (i 1).isLt; omega⟩
def res1 : FVec Ideal S32768x1536 .bf16 := fun i => projAt x0 x1 x2 x3 (i 0) ⟨1536 + (i 1).val, by have : (i 1).val < 1536 := (i 1).isLt; omega⟩
def res2 : FVec Ideal S32768x512 .bf16 := fun i => projAt x0 x1 x2 x3 (i 0) ⟨3072 + (i 1).val, by have : (i 1).val < 512 := (i 1).isLt; omega⟩
def res3 : FVec Ideal S32768x128 .f32 := fun i => if h : (i 1).val < 8 then projAt x0 x1 x2 x3 (i 0) ⟨3584 + (i 1).val, by omega⟩ else 0

theorem ref0 : val_main_v29 (F := Ideal) x0 x1 x2 x3 = res0 x0 x1 x2 x3 := by
  funext i
  obtain ⟨r, c, rfl⟩ : ∃ r c, i = ix2 r c := ⟨i 0, i 1, (ix2_eta i).symm⟩
  have h := ref_proj x0 x1 x2 x3
  unfold val_main_v29 val_main_v25
  revert h
  generalize val_main_v24 (F := Ideal) x0 x1 x2 x3 = P
  intro h
  pointwise
  rw [h]
  rfl

theorem ref1 : val_main_v30 (F := Ideal) x0 x1 x2 x3 = res1 x0 x1 x2 x3 := by
  funext i
  obtain ⟨r, c, rfl⟩ : ∃ r c, i = ix2 r c := ⟨i 0, i 1, (ix2_eta i).symm⟩
  have h := ref_proj x0 x1 x2 x3
  unfold val_main_v30 val_main_v26
  revert h
  generalize val_main_v24 (F := Ideal) x0 x1 x2 x3 = P
  intro h
  pointwise
  rw [h]
  rfl

theorem ref2 : val_main_v31 (F := Ideal) x0 x1 x2 x3 = res2 x0 x1 x2 x3 := by
  funext i
  obtain ⟨r, c, rfl⟩ : ∃ r c, i = ix2 r c := ⟨i 0, i 1, (ix2_eta i).symm⟩
  have h := ref_proj x0 x1 x2 x3
  unfold val_main_v31 val_main_v27
  revert h
  generalize val_main_v24 (F := Ideal) x0 x1 x2 x3 = P
  intro h
  pointwise
  rw [h]
  rfl

theorem ref3 : val_main_v32 (F := Ideal) x0 x1 x2 x3 = res3 x0 x1 x2 x3 := by
  funext i
  obtain ⟨r, c, rfl⟩ : ∃ r c, i = ix2 r c := ⟨i 0, i 1, (ix2_eta i).symm⟩
  have h := ref_proj x0 x1 x2 x3
  unfold val_main_v32 val_main_v28
  revert h
  generalize val_main_v24 (F := Ideal) x0 x1 x2 x3 = P
  intro h
  show _ = if h : c.val < 8 then projAt x0 x1 x2 x3 r ⟨3584 + c.val, by omega⟩ else 0
  pointwise
  split
  · rw [h]
  · pointwise [val_main_call0_v0, val_main_c]
    exact sitofp_zero (φ := .f32)

end Cert.Proof.Inp

end
-- ==== Proof.InFinal.lean ====
/-
  The input projection's four result arrays, as the function of its arguments the reference computes.
-/
module

public import proofs.«01_k».proof.Defs
public import proofs.«01_k».proof.Proof.InHost
public import proofs.«01_k».proof.Proof.InRef

@[expose] public section

set_option maxRecDepth 8192
set_option maxHeartbeats 4000000

noncomputable section

namespace Cert.Proof.Inp

open Idealize.ShloMosaic Idealize.ShloMosaic.TcCoe Idealize.ShloMosaic.Tactic Idealize.SL.Sem Cert.Proof.Attn Cert.Proof.Rows
open Cert.Kernel2Ideal Cert.Kernel2Ideal.Gen

section Pre

instance preFacts : Cert.Pre_finite_small.Facts := by constructor <;> decide

variable (x0 : FVec Ideal S16x2048x1024 .f32) (x1 : FVec Ideal S16x6144 .f32) (x2 : FVec Ideal S1024 .f32) (x3 : FVec Ideal S1024x3592 .f32)

theorem pre_mod (h : (Cert.Pre_finite_small.fn (F := Ideal) x0 x1 x2 x3).1 = fun _ => 1#1) (b : Fin 16) (l : Fin 6144) (hl : l.val < 2048) : Fin' (x1 (ix2 b l)) := by
  refine (congrArg (fun i => Fin' (x1 i)) ?_).mp (fin_of_bits _ (congrFun h (ix2 b ⟨l.val, hl⟩ : Cert.Pre_finite_small.S16x2048.Idx)))
  funext a
  match a with
  | ⟨0, _⟩ => exact Fin.ext (by show 0 + b.val = b.val; omega)
  | ⟨1, _⟩ => exact Fin.ext (by show 0 + l.val = l.val; omega)

theorem pre_gain (h : (Cert.Pre_finite_small.fn (F := Ideal) x0 x1 x2 x3).2.1 = fun _ => 1#1) (d : Fin 1024) : Fin' (x2 (ix1 d)) :=
  fin_of_bits _ (congrFun h (ix1 d))

theorem pre_small (h : (Cert.Pre_finite_small.fn (F := Ideal) x0 x1 x2 x3).2.2 = fun _ => 1#1) (k : Fin 1024) (c : Fin 8) : Fin' (x3 (ix2 k ⟨3584 + c.val, by omega⟩)) := by
  refine (congrArg (fun i => Fin' (x3 i)) ?_).mp (fin_of_bits _ (congrFun h (ix2 k c : Cert.Pre_finite_small.S1024x8.Idx)))
  funext a
  match a with
  | ⟨0, _⟩ => exact Fin.ext (by show 0 + k.val = k.val; omega)
  | ⟨1, _⟩ => exact Fin.ext (by show 3584 + c.val = 3584 + c.val; omega)

end Pre

theorem sum_eq {n : Nat} (f g : Fin n → EReal) (h : ∀ k, f k = g k) : ∑ k, f k = ∑ k, g k := congrArg (fun f => ∑ k, f k) (funext h)

variable (m : (ℓ : Loc nD τ sig) → Buf (Elt Ideal) ℓ) (c : Dev nD)

abbrev aX : FVec Ideal S16x2048x1024 .f32 := m ((c : Thread nD τ).loc main_arg0)
abbrev aM : FVec Ideal S16x6144 .f32 := m ((c : Thread nD τ).loc main_arg1)
abbrev aG : FVec Ideal S1024 .f32 := m ((c : Thread nD τ).loc main_arg2)
abbrev aW : FVec Ideal S1024x3592 .f32 := m ((c : Thread nD τ).loc main_arg3)

/-- A grid point's normalised and modulated rows are those of its batch. -/
theorem row_eq (t : Fin cfg0.N) (p : Fin 512) :
    hRow (iblk m c 0 t) (iblk m c 1 t) (iblk m c 2 t) p
      = hAt (aX m c) (aM m c) (aG m c) ⟨(gRow t p).val / 2048, by omega⟩ ⟨(gRow t p).val % 2048, by omega⟩ := by
  have eb : (⟨(gRow t p).val / 2048, by omega⟩ : Fin 16) = gBatch t := Fin.ext (by show (512 * t.val + p.val) / 2048 = t.val / 4; omega)
  unfold hRow hAt
  congr 1
  · funext e
    rw [blk0_at, entry_x, x_at]
  · funext e
    rw [blk2_at, entry_gain, gain_at]
  · funext e
    rw [blk1_at, entry_mod, mod_at, eb]
    exact congrArg (fun l => aM m c (ix2 (gBatch t) l)) (Fin.ext (by show 0 * 1024 + e.val = e.val; omega))
  · funext e
    rw [blk1_at, entry_mod, mod_at, eb]
    exact congrArg (fun l => aM m c (ix2 (gBatch t) l)) (Fin.ext (by show 1 * 1024 + e.val = 1024 + e.val; omega))

theorem out8_eq (t : Fin cfg0.N) (p : Fin 512) (d : Fin 1536) :
    out0_8 (F := Ideal) (iblk m c 0 t) (iblk m c 1 t) (iblk m c 2 t) (iblk m c 3 t) (iblk m c 4 t) (iblk m c 5 t) (iblk m c 6 t) (iblk m c 7 t) (ix2 p d)
      = res0 (aX m c) (aM m c) (aG m c) (aW m c) (ix2 (gRow t p) d) := by
  rw [out8_at, row_eq]
  show _ = projAt (aX m c) (aM m c) (aG m c) (aW m c) (gRow t p) ⟨d.val, by omega⟩
  unfold projAt
  refine sum_eq _ _ fun k => ?_
  rw [blk3_at, entry_w0, w0_at]

theorem out9_eq (t : Fin cfg0.N) (p : Fin 512) (d : Fin 1536) :
    out0_9 (F := Ideal) (iblk m c 0 t) (iblk m c 1 t) (iblk m c 2 t) (iblk m c 3 t) (iblk m c 4 t) (iblk m c 5 t) (iblk m c 6 t) (iblk m c 7 t) (ix2 p d)
      = res1 (aX m c) (aM m c) (aG m c) (aW m c) (ix2 (gRow t p) d) := by
  rw [out9_at, row_eq]
  show _ = projAt (aX m c) (aM m c) (aG m c) (aW m c) (gRow t p) ⟨1536 + d.val, by omega⟩
  unfold projAt
  refine sum_eq _ _ fun k => ?_
  rw [blk4_at, entry_w1, w1_at]

theorem out10_eq (t : Fin cfg0.N) (p : Fin 512) (d : Fin 512) :
    out0_10 (F := Ideal) (iblk m c 0 t) (iblk m c 1 t) (iblk m c 2 t) (iblk m c 3 t) (iblk m c 4 t) (iblk m c 5 t) (iblk m c 6 t) (iblk m c 7 t) (ix2 p d)
      = res2 (aX m c) (aM m c) (aG m c) (aW m c) (ix2 (gRow t p) d) := by
  rw [out10_at, row_eq]
  show _ = projAt (aX m c) (aM m c) (aG m c) (aW m c) (gRow t p) ⟨3072 + d.val, by omega⟩
  unfold projAt
  refine sum_eq _ _ fun k => ?_
  rw [blk5_at, entry_w2, w2_at]

theorem out11_eq (hP : Cert.Pre_Kernel2Ideal_finite_small m) (t : Fin cfg0.N) (p : Fin 512) (d : Fin 128) :
    out0_11 (F := Ideal) (iblk m c 0 t) (iblk m c 1 t) (iblk m c 2 t) (iblk m c 3 t) (iblk m c 4 t) (iblk m c 5 t) (iblk m c 6 t) (iblk m c 7 t) (ix2 p d)
      = res3 (aX m c) (aM m c) (aG m c) (aW m c) (ix2 (gRow t p) d) := by
  obtain ⟨h0, h1, h2⟩ := hP c
  have e6 : ∀ k, (iblk m c 6 t : FVec Ideal S1024x128 .bf16) (ix2 k d) = padW (aW m c) (ix2 k d) := fun k => by
    rw [blk6_at, entry_hi, hi_at]
  have e7 : ∀ k, (iblk m c 7 t : FVec Ideal S1024x128 .bf16) (ix2 k d) = padW (aW m c) (ix2 k d) - padW (aW m c) (ix2 k d) := fun k => by
    rw [blk7_at, entry_lo, lo_at]
  have hf : ∀ b s k, Fin' (hAt (aX m c) (aM m c) (aG m c) b s k) := fun b s k =>
    modRow_fin c1024 (by norm_num) _ _ _ _ (pre_gain _ _ _ _ h1) (fun e => pre_mod _ _ _ _ h0 b _ (by show e.val < 2048; omega))
      (fun e => pre_mod _ _ _ _ h0 b _ (by show 1024 + e.val < 2048; omega)) k
  have hw : ∀ k, Fin' (padW (aW m c) (ix2 k d)) := fun k => by
    rw [pad_at]
    split
    · exact pre_small _ _ _ _ h2 k ⟨d.val, by omega⟩
    · exact Fin'.zero
  rw [out11_at, row_eq]
  simp only [e6, e7]
  refine (split_dot _ _ (hf _ _) hw).trans ?_
  show _ = if h : d.val < 8 then projAt (aX m c) (aM m c) (aG m c) (aW m c) (gRow t p) ⟨3584 + d.val, by omega⟩ else 0
  simp only [pad_at]
  split
  · rfl
  · simp

theorem row_surj {n : Nat} (i : (⟨2, ![32768, n]⟩ : Shape).Idx) : ∃ (t : Fin cfg0.N) (p : Fin 512), i = ix2 (gRow t p) (i 1) := by
  have h : (i 0).val < 32768 := (i 0).isLt
  refine ⟨(⟨(i 0).val / 512, by omega⟩ : Fin 64), ⟨(i 0).val % 512, by omega⟩, ?_⟩
  funext a
  match a with
  | ⟨0, _⟩ => exact Fin.ext (by show (i 0).val = 512 * ((i 0).val / 512) + (i 0).val % 512; omega)
  | ⟨1, _⟩ => rfl

theorem final8 : (dats m 0 c).arrAt 8 cfg0.N = res0 (aX m c) (aM m c) (aG m c) (aW m c) := by
  refine (dats m 0 c).arrAt_eq_of_cover 8 _ (fun t _ => ?_) fun i => ?_
  · rw [Cert.Kernel2Ideal.Value.flushed8]
    funext y
    have ey : (y : S512x1536.Idx) = ix2 (y 0) (y 1) := (ix2_eta y).symm
    show out0_8 (F := Ideal) (iblk m c 0 t) (iblk m c 1 t) (iblk m c 2 t) (iblk m c 3 t) (iblk m c 4 t) (iblk m c 5 t) (iblk m c 6 t) (iblk m c 7 t) y
      = res0 (aX m c) (aM m c) (aG m c) (aW m c) (((cfg0.win 8).blk t).view.emb y)
    exact (congrArg (out0_8 (F := Ideal) (iblk m c 0 t) (iblk m c 1 t) (iblk m c 2 t) (iblk m c 3 t) (iblk m c 4 t) (iblk m c 5 t) (iblk m c 6 t) (iblk m c 7 t)) ey).trans
      ((out8_eq m c t (y 0) (y 1)).trans (congrArg (res0 (aX m c) (aM m c) (aG m c) (aW m c)) ((emb8 t (y 0) (y 1)).symm.trans (congrArg _ ey.symm))))
  · obtain ⟨t, p, e⟩ := row_surj i
    refine ⟨t, flush0_8 t, ?_⟩
    have h := ((cfg0.win 8).blk t).view.emb_mem_set (ix2 p (i 1) : S512x1536.Idx)
    have e' : (((cfg0.win 8).blk t).view.emb (ix2 p (i 1) : S512x1536.Idx) : S32768x1536.Idx) = i := (emb8 t p (i 1)).trans e.symm
    rw [e'] at h
    exact h

theorem final9 : (dats m 0 c).arrAt 9 cfg0.N = res1 (aX m c) (aM m c) (aG m c) (aW m c) := by
  refine (dats m 0 c).arrAt_eq_of_cover 9 _ (fun t _ => ?_) fun i => ?_
  · rw [Cert.Kernel2Ideal.Value.flushed9]
    funext y
    have ey : (y : S512x1536.Idx) = ix2 (y 0) (y 1) := (ix2_eta y).symm
    show out0_9 (F := Ideal) (iblk m c 0 t) (iblk m c 1 t) (iblk m c 2 t) (iblk m c 3 t) (iblk m c 4 t) (iblk m c 5 t) (iblk m c 6 t) (iblk m c 7 t) y
      = res1 (aX m c) (aM m c) (aG m c) (aW m c) (((cfg0.win 9).blk t).view.emb y)
    exact (congrArg (out0_9 (F := Ideal) (iblk m c 0 t) (iblk m c 1 t) (iblk m c 2 t) (iblk m c 3 t) (iblk m c 4 t) (iblk m c 5 t) (iblk m c 6 t) (iblk m c 7 t)) ey).trans
      ((out9_eq m c t (y 0) (y 1)).trans (congrArg (res1 (aX m c) (aM m c) (aG m c) (aW m c)) ((emb9 t (y 0) (y 1)).symm.trans (congrArg _ ey.symm))))
  · obtain ⟨t, p, e⟩ := row_surj i
    refine ⟨t, flush0_9 t, ?_⟩
    have h := ((cfg0.win 9).blk t).view.emb_mem_set (ix2 p (i 1) : S512x1536.Idx)
    have e' : (((cfg0.win 9).blk t).view.emb (ix2 p (i 1) : S512x1536.Idx) : S32768x1536.Idx) = i := (emb9 t p (i 1)).trans e.symm
    rw [e'] at h
    exact h

theorem final10 : (dats m 0 c).arrAt 10 cfg0.N = res2 (aX m c) (aM m c) (aG m c) (aW m c) := by
  refine (dats m 0 c).arrAt_eq_of_cover 10 _ (fun t _ => ?_) fun i => ?_
  · rw [Cert.Kernel2Ideal.Value.flushed10]
    funext y
    have ey : (y : S512x512.Idx) = ix2 (y 0) (y 1) := (ix2_eta y).symm
    show out0_10 (F := Ideal) (iblk m c 0 t) (iblk m c 1 t) (iblk m c 2 t) (iblk m c 3 t) (iblk m c 4 t) (iblk m c 5 t) (iblk m c 6 t) (iblk m c 7 t) y
      = res2 (aX m c) (aM m c) (aG m c) (aW m c) (((cfg0.win 10).blk t).view.emb y)
    exact (congrArg (out0_10 (F := Ideal) (iblk m c 0 t) (iblk m c 1 t) (iblk m c 2 t) (iblk m c 3 t) (iblk m c 4 t) (iblk m c 5 t) (iblk m c 6 t) (iblk m c 7 t)) ey).trans
      ((out10_eq m c t (y 0) (y 1)).trans (congrArg (res2 (aX m c) (aM m c) (aG m c) (aW m c)) ((emb10 t (y 0) (y 1)).symm.trans (congrArg _ ey.symm))))
  · obtain ⟨t, p, e⟩ := row_surj i
    refine ⟨t, flush0_10 t, ?_⟩
    have h := ((cfg0.win 10).blk t).view.emb_mem_set (ix2 p (i 1) : S512x512.Idx)
    have e' : (((cfg0.win 10).blk t).view.emb (ix2 p (i 1) : S512x512.Idx) : S32768x512.Idx) = i := (emb10 t p (i 1)).trans e.symm
    rw [e'] at h
    exact h

theorem final11 (hP : Cert.Pre_Kernel2Ideal_finite_small m) : (dats m 0 c).arrAt 11 cfg0.N = res3 (aX m c) (aM m c) (aG m c) (aW m c) := by
  refine (dats m 0 c).arrAt_eq_of_cover 11 _ (fun t _ => ?_) fun i => ?_
  · rw [Cert.Kernel2Ideal.Value.flushed11]
    funext y
    have ey : (y : S512x128.Idx) = ix2 (y 0) (y 1) := (ix2_eta y).symm
    show out0_11 (F := Ideal) (iblk m c 0 t) (iblk m c 1 t) (iblk m c 2 t) (iblk m c 3 t) (iblk m c 4 t) (iblk m c 5 t) (iblk m c 6 t) (iblk m c 7 t) y
      = res3 (aX m c) (aM m c) (aG m c) (aW m c) (((cfg0.win 11).blk t).view.emb y)
    exact (congrArg (out0_11 (F := Ideal) (iblk m c 0 t) (iblk m c 1 t) (iblk m c 2 t) (iblk m c 3 t) (iblk m c 4 t) (iblk m c 5 t) (iblk m c 6 t) (iblk m c 7 t)) ey).trans
      ((out11_eq m c hP t (y 0) (y 1)).trans (congrArg (res3 (aX m c) (aM m c) (aG m c) (aW m c)) ((emb11 t (y 0) (y 1)).symm.trans (congrArg _ ey.symm))))
  · obtain ⟨t, p, e⟩ := row_surj i
    refine ⟨t, flush0_11 t, ?_⟩
    have h := ((cfg0.win 11).blk t).view.emb_mem_set (ix2 p (i 1) : S512x128.Idx)
    have e' : (((cfg0.win 11).blk t).view.emb (ix2 p (i 1) : S512x128.Idx) : S32768x128.Idx) = i := (emb11 t p (i 1)).trans e.symm
    rw [e'] at h
    exact h

end Cert.Proof.Inp

end
-- ==== Proof.OutBlock.lean ====
/-
  The output projection's kernel: the rows it leaves in its first two result blocks, and the queries it scores.
-/
module

public import proofs.«01_k».proof.Proof.Gen.Kernel3Ideal.Value
public import proofs.«01_k».proof.Proof.InBlock

@[expose] public section

set_option maxRecDepth 8192
set_option maxHeartbeats 4000000

noncomputable section

namespace Cert.Proof.Outp

open Idealize.ShloMosaic Idealize.ShloMosaic.TcCoe Idealize.ShloMosaic.Tactic Cert.Proof.Attn Cert.Proof.Rows Cert.Proof.Inp
open Cert.Kernel3Ideal Cert.Kernel3Ideal.Gen

section Block
variable (x0 : FVec Ideal S512x512 .f32) (x1 : FVec Ideal S512x512 .bf16) (x2 : FVec Ideal S512x1024 .f32) (x3 : FVec Ideal S1x6x1024 .f32) (x4 : FVec Ideal S1x512 .f32)
  (x5 x6 : FVec Ideal S512x1024 .bf16) (x7 : FVec Ideal S1x1024 .f32) (x8 : FVec Ideal S1024x2048 .bf16) (x9 : FVec Ideal S1x256 .f32)
  (x10 x11 : FVec Ideal S128x128 .f32)

/-- Row `p` of the block's projection: the normalised attention half and the other half. -/
def mixRow (p : Fin 512) (d : Fin 1024) : EReal :=
  (∑ k, rms 1140850688#32 (fun e => x0 (ix2 p e)) (fun e => x4 (ix2 0 e)) k * x5 (ix2 k d)) + ∑ k, x1 (ix2 p k) * x6 (ix2 k d)
/-- Row `p` after the gated residual. -/
def resRow (p : Fin 512) (d : Fin 1024) : EReal := x2 (ix2 p d) + x3 (ix3 0 2 d) * mixRow x0 x1 x4 x5 x6 p d
/-- That row after norm and modulation. -/
def h2Row (p : Fin 512) : Fin 1024 → EReal :=
  modRow 1149239296#32 (resRow x0 x1 x2 x3 x4 x5 x6 p) (fun e => x7 (ix2 0 e)) (fun e => x3 (ix3 0 3 e)) (fun e => x3 (ix3 0 4 e))
/-- Its queries. -/
def qRow (p : Fin 512) (j : Fin 2048) : EReal := ∑ k, h2Row x0 x1 x2 x3 x4 x5 x6 x7 p k * x8 (ix2 k j)

theorem ld512 (x : FVec Ideal S512x512 .f32) : View.ld (Val := Elt Ideal) (e' := .f32) x r0_0 = x := View.ld_unit_lit (Val := Elt Ideal) (e := .f32) (off := ![0, 0]) inb_S512x512_S512x512_0_0 x (by decide)
theorem ldB (x : FVec Ideal S512x512 .bf16) : View.ld (Val := Elt Ideal) (e' := .bf16) x r0_0 = x := View.ld_unit_lit (Val := Elt Ideal) (e := .bf16) (off := ![0, 0]) inb_S512x512_S512x512_0_0 x (by decide)
theorem ldW (x : FVec Ideal S512x1024 .bf16) : View.ld (Val := Elt Ideal) (e' := .bf16) x r0_2 = x := View.ld_unit_lit (Val := Elt Ideal) (e := .bf16) (off := ![0, 0]) inb_S512x1024_S512x1024_0_0 x (by decide)
theorem ldX (x : FVec Ideal S512x1024 .f32) : View.ld (Val := Elt Ideal) (e' := .f32) x r0_2 = x := View.ld_unit_lit (Val := Elt Ideal) (e := .f32) (off := ![0, 0]) inb_S512x1024_S512x1024_0_0 x (by decide)
theorem ldg1 (x : FVec Ideal S1x512 .f32) : View.ld (Val := Elt Ideal) (e' := .f32) x r0_1 = x := View.ld_unit_lit (Val := Elt Ideal) (e := .f32) (off := ![0, 0]) inb_S1x512_S1x512_0_0 x (by decide)
theorem ldg2 (x : FVec Ideal S1x1024 .f32) : View.ld (Val := Elt Ideal) (e' := .f32) x r0_6 = x := View.ld_unit_lit (Val := Elt Ideal) (e := .f32) (off := ![0, 0]) inb_S1x1024_S1x1024_0_0 x (by decide)
theorem ldQ (x : FVec Ideal S1024x2048 .bf16) : View.ld (Val := Elt Ideal) (e' := .bf16) x r0_7 = x := View.ld_unit_lit (Val := Elt Ideal) (e := .bf16) (off := ![0, 0]) inb_S1024x2048_S1024x2048_0_0 x (by decide)
theorem ldK (x : FVec Ideal S128x128 .f32) : View.ld (Val := Elt Ideal) (e' := .f32) x r0_8 = x := View.ld_unit_lit (Val := Elt Ideal) (e := .f32) (off := ![0, 0]) inb_S128x128_S128x128_0_0 x (by decide)
theorem ldg3 (x : FVec Ideal S1x256 .f32) : View.ld (Val := Elt Ideal) (e' := .f32) x r0_9 = x := View.ld_unit_lit (Val := Elt Ideal) (e := .f32) (off := ![0, 0]) inb_S1x256_S1x256_0_0 x (by decide)

theorem ld_mod2 (d : Fin 1024) : View.ld (Val := Elt Ideal) (e' := .f32) x3 r0_3 (ix3 0 0 d) = x3 (ix3 0 2 d) := by
  refine congrArg x3 (funext fun a => Fin.ext ?_)
  match a with
  | ⟨0, _⟩ => rfl
  | ⟨1, _⟩ => rfl
  | ⟨2, _⟩ => show 0 + 1 * d.val = d.val; omega

theorem ld_mod3 (d : Fin 1024) : View.ld (Val := Elt Ideal) (e' := .f32) x3 r0_4 (ix3 0 0 d) = x3 (ix3 0 3 d) := by
  refine congrArg x3 (funext fun a => Fin.ext ?_)
  match a with
  | ⟨0, _⟩ => rfl
  | ⟨1, _⟩ => rfl
  | ⟨2, _⟩ => show 0 + 1 * d.val = d.val; omega

theorem ld_mod4 (d : Fin 1024) : View.ld (Val := Elt Ideal) (e' := .f32) x3 r0_5 (ix3 0 0 d) = x3 (ix3 0 4 d) := by
  refine congrArg x3 (funext fun a => Fin.ext ?_)
  match a with
  | ⟨0, _⟩ => rfl
  | ⟨1, _⟩ => rfl
  | ⟨2, _⟩ => show 0 + 1 * d.val = d.val; omega

theorem mix_at (p : Fin 512) (d : Fin 1024) : k0_pay53 (F := Ideal) x0 x1 x2 x3 x4 x5 x6 x7 x8 x9 x10 x11 (ix2 p d) = mixRow x0 x1 x4 x5 x6 p d := by
  unfold k0_pay53
  rw [ld512, ldB, ldg1, ldW, ldW]
  pointwise [k0_pay2]
  rfl

theorem gate_at (d : Fin 1024) : k0_pay54 (F := Ideal) x0 x1 x2 x3 x4 x5 x6 x7 x8 x9 x10 x11 (ix2 0 d) = x3 (ix3 0 2 d) := by
  have e := ld_mod2 x3 d
  unfold k0_pay54 k0_pay3
  revert e
  generalize View.ld (Val := Elt Ideal) (e' := .f32) x3 r0_3 = a
  intro e
  pointwise
  exact e

theorem shift_at (d : Fin 1024) : k0_pay55 (F := Ideal) x0 x1 x2 x3 x4 x5 x6 x7 x8 x9 x10 x11 (ix2 0 d) = x3 (ix3 0 3 d) := by
  have e := ld_mod3 x3 d
  unfold k0_pay55 k0_pay4
  revert e
  generalize View.ld (Val := Elt Ideal) (e' := .f32) x3 r0_4 = a
  intro e
  pointwise
  exact e

theorem scale_at (d : Fin 1024) : k0_pay56 (F := Ideal) x0 x1 x2 x3 x4 x5 x6 x7 x8 x9 x10 x11 (ix2 0 d) = x3 (ix3 0 4 d) := by
  have e := ld_mod4 x3 d
  unfold k0_pay56 k0_pay5
  revert e
  generalize View.ld (Val := Elt Ideal) (e' := .f32) x3 r0_5 = a
  intro e
  pointwise
  exact e

theorem res_at (p : Fin 512) (d : Fin 1024) :
    k0_pay6 (F := Ideal) (k0_pay53 x0 x1 x2 x3 x4 x5 x6 x7 x8 x9 x10 x11) (k0_pay54 x0 x1 x2 x3 x4 x5 x6 x7 x8 x9 x10 x11) x2 (ix2 p d) = resRow x0 x1 x2 x3 x4 x5 x6 p d := by
  have e1 := mix_at x0 x1 x2 x3 x4 x5 x6 x7 x8 x9 x10 x11 p d
  have e2 := gate_at x0 x1 x2 x3 x4 x5 x6 x7 x8 x9 x10 x11 d
  revert e1 e2
  generalize k0_pay53 (F := Ideal) x0 x1 x2 x3 x4 x5 x6 x7 x8 x9 x10 x11 = A
  generalize k0_pay54 (F := Ideal) x0 x1 x2 x3 x4 x5 x6 x7 x8 x9 x10 x11 = B
  intro e1 e2
  pointwise [k0_pay6]
  rw [e1, e2]
  rfl

theorem h2_at (p : Fin 512) (d : Fin 1024) :
    k0_pay7 (F := Ideal) (k0_pay53 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11) x2 x7 (ix2 p d) = h2Row x0 x1 x2 x3 x4 x5 x6 x7 p d := by
  have e1 := res_at x0 x1 x2 x3 x4 x5 x6 x7 x8 x9 x10 x11 p
  have e2 := shift_at x0 x1 x2 x3 x4 x5 x6 x7 x8 x9 x10 x11 d
  have e3 := scale_at x0 x1 x2 x3 x4 x5 x6 x7 x8 x9 x10 x11 d
  unfold k0_pay7
  revert e1 e2 e3
  generalize k0_pay6 (F := Ideal) (k0_pay53 x0 x1 x2 x3 x4 x5 x6 x7 x8 x9 x10 x11) (k0_pay54 x0 x1 x2 x3 x4 x5 x6 x7 x8 x9 x10 x11) x2 = A
  generalize k0_pay55 (F := Ideal) x0 x1 x2 x3 x4 x5 x6 x7 x8 x9 x10 x11 = B
  generalize k0_pay56 (F := Ideal) x0 x1 x2 x3 x4 x5 x6 x7 x8 x9 x10 x11 = C
  intro e1 e2 e3
  pointwise
  simp only [e1, e2, e3]
  rfl

theorem q_at (p : Fin 512) (j : Fin 2048) : k0_pay57 (F := Ideal) x0 x1 x2 x3 x4 x5 x6 x7 x8 x9 x10 x11 (ix2 p j) = qRow x0 x1 x2 x3 x4 x5 x6 x7 x8 p j := by
  have e1 := h2_at x0 x1 x2 x3 x4 x5 x6 x7 x8 x9 x10 x11 p
  unfold k0_pay57 k0_pay8
  rw [ldX, ldg2, ldQ]
  revert e1
  generalize k0_pay7 (F := Ideal) (k0_pay53 x0 x1 x2 x3 x4 x5 x6 x7 x8 x9 x10 x11) (k0_pay54 x0 x1 x2 x3 x4 x5 x6 x7 x8 x9 x10 x11) (k0_pay55 x0 x1 x2 x3 x4 x5 x6 x7 x8 x9 x10 x11) (k0_pay56 x0 x1 x2 x3 x4 x5 x6 x7 x8 x9 x10 x11) x2 x7 = A
  intro e1
  pointwise
  simp only [e1]
  rfl

theorem out12_at (p : Fin 512) (d : Fin 1024) : out0_12 (F := Ideal) x0 x1 x2 x3 x4 x5 x6 x7 x8 x9 x10 x11 (ix2 p d) = resRow x0 x1 x2 x3 x4 x5 x6 p d := by
  unfold out0_12
  rw [ldX, View.canon_cons_unit_lit _ _ _ (by decide)]
  exact res_at x0 x1 x2 x3 x4 x5 x6 x7 x8 x9 x10 x11 p d

theorem out13_at (p : Fin 512) (d : Fin 1024) : out0_13 (F := Ideal) x0 x1 x2 x3 x4 x5 x6 x7 x8 x9 x10 x11 (ix2 p d) = h2Row x0 x1 x2 x3 x4 x5 x6 x7 p d := by
  unfold out0_13
  rw [ldX, ldg2, View.canon_cons_unit_lit _ _ _ (by decide)]
  exact h2_at x0 x1 x2 x3 x4 x5 x6 x7 x8 x9 x10 x11 p d

end Block

end Cert.Proof.Outp

end
-- ==== Proof.OutHost.lean ====
/-
  The output projection's host arrays and the blocks its grid points read, at an index.
-/
module

public import proofs.«01_k».proof.Proof.OutBlock
public import Idealize.ShloMosaic.Lib.StableHlo.RunRead

@[expose] public section

set_option maxRecDepth 8192
set_option maxHeartbeats 4000000

noncomputable section

namespace Cert.Proof.Outp

open Idealize.ShloMosaic Idealize.ShloMosaic.TcCoe Idealize.ShloMosaic.Tactic
open Cert.Kernel3Ideal Cert.Kernel3Ideal.Gen

section Entry
variable {F : FTy → Type} [FloatOps F] (m : (ℓ : Loc nD τ sig) → Buf (Elt F) ℓ) (c : Dev nD)

theorem entry_oa : (V m c main_v0 : FVec F S32768x512 .f32) = shapeCast S32768x512 (m ((c : Thread nD τ).loc main_arg0) : FVec F S16x2048x512 .f32) shapeCasts_S16x2048x512_S32768x512 := by
  show StableHlo.after (hostOps0 ++ []) (fun b => m (c, b)) (Proc.tc.devRef main_v0) = _
  simp only [hostOps0, List.cons_append, List.nil_append]
  after_reads_simp
  rfl

theorem entry_ob : (V m c main_v1 : FVec F S32768x512 .bf16) = shapeCast S32768x512 (m ((c : Thread nD τ).loc main_arg1) : FVec F S16x2048x512 .bf16) shapeCasts_S16x2048x512_S32768x512 := by
  show StableHlo.after (hostOps0 ++ []) (fun b => m (c, b)) (Proc.tc.devRef main_v1) = _
  simp only [hostOps0, List.cons_append, List.nil_append]
  after_reads_simp
  rfl

theorem entry_x : (V m c main_v2 : FVec F S32768x1024 .f32) = shapeCast S32768x1024 (m ((c : Thread nD τ).loc main_arg2) : FVec F S16x2048x1024 .f32) shapeCasts_S16x2048x1024_S32768x1024 := by
  show StableHlo.after (hostOps0 ++ []) (fun b => m (c, b)) (Proc.tc.devRef main_v2) = _
  simp only [hostOps0, List.cons_append, List.nil_append]
  after_reads_simp
  rfl

theorem entry_mod : (V m c main_v3 : FVec F S16x6x1024 .f32) = shapeCast S16x6x1024 (m ((c : Thread nD τ).loc main_arg3) : FVec F S16x6144 .f32) shapeCasts_S16x6144_S16x6x1024 := by
  show StableHlo.after (hostOps0 ++ []) (fun b => m (c, b)) (Proc.tc.devRef main_v3) = _
  simp only [hostOps0, List.cons_append, List.nil_append]
  after_reads_simp
  rfl

theorem entry_ogain : (V m c main_v9 : FVec F S1x512 .f32) = shapeCast S1x512 (m ((c : Thread nD τ).loc main_arg4) : FVec F S512 .f32) shapeCasts_S512_S1x512 := by
  show StableHlo.after (hostOps0 ++ []) (fun b => m (c, b)) (Proc.tc.devRef main_v9) = _
  simp only [hostOps0, List.cons_append, List.nil_append]
  after_reads_simp
  rfl

theorem entry_ngain : (V m c main_v10 : FVec F S1x1024 .f32) = shapeCast S1x1024 (m ((c : Thread nD τ).loc main_arg6) : FVec F S1024 .f32) shapeCasts_S1024_S1x1024 := by
  show StableHlo.after (hostOps0 ++ []) (fun b => m (c, b)) (Proc.tc.devRef main_v10) = _
  simp only [hostOps0, List.cons_append, List.nil_append]
  after_reads_simp
  rfl

theorem entry_qgain : (V m c main_v11 : FVec F S1x256 .f32) = shapeCast S1x256 (m ((c : Thread nD τ).loc main_arg8) : FVec F S256 .f32) shapeCasts_S256_S1x256 := by
  show StableHlo.after (hostOps0 ++ []) (fun b => m (c, b)) (Proc.tc.devRef main_v11) = _
  simp only [hostOps0, List.cons_append, List.nil_append]
  after_reads_simp
  rfl

theorem entry_wa : (V m c main_v5 : FVec F S512x1024 .bf16) = truncf .bf16 (extractStridedSlice S512x1024 ![0, 0] (m ((c : Thread nD τ).loc main_arg5) : FVec F S1024x1024 .f32) slices_S1024x1024_S512x1024_0_0) bitsLt_bf16_f32 := by
  show StableHlo.after (hostOps0 ++ []) (fun b => m (c, b)) (Proc.tc.devRef main_v5) = _
  simp only [hostOps0, List.cons_append, List.nil_append]
  after_reads_simp

theorem entry_wb : (V m c main_v7 : FVec F S512x1024 .bf16) = truncf .bf16 (extractStridedSlice S512x1024 ![512, 0] (m ((c : Thread nD τ).loc main_arg5) : FVec F S1024x1024 .f32) slices_S1024x1024_S512x1024_512_0) bitsLt_bf16_f32 := by
  show StableHlo.after (hostOps0 ++ []) (fun b => m (c, b)) (Proc.tc.devRef main_v7) = _
  simp only [hostOps0, List.cons_append, List.nil_append]
  after_reads_simp

theorem entry_wq : (V m c main_v8 : FVec F S1024x2048 .bf16) = truncf .bf16 ((m ((c : Thread nD τ).loc main_arg7) : FVec F S1024x2048 .f32)) bitsLt_bf16_f32 := by
  show StableHlo.after (hostOps0 ++ []) (fun b => m (c, b)) (Proc.tc.devRef main_v8) = _
  simp only [hostOps0, List.cons_append, List.nil_append]
  after_reads_simp

end Entry

section Arrays

theorem half_at {α : Type} (x : S16x2048x512.Idx → α) (r : Fin 32768) (d : Fin 512) :
    shapeCast S32768x512 x shapeCasts_S16x2048x512_S32768x512 (ix2 r d) = x (ix3 ⟨r.val / 2048, by omega⟩ ⟨r.val % 2048, by omega⟩ d) := by
  pointwise

theorem full_at {α : Type} (x : S16x2048x1024.Idx → α) (r : Fin 32768) (d : Fin 1024) :
    shapeCast S32768x1024 x shapeCasts_S16x2048x1024_S32768x1024 (ix2 r d) = x (ix3 ⟨r.val / 2048, by omega⟩ ⟨r.val % 2048, by omega⟩ d) := by
  pointwise

theorem mod_at {α : Type} (x : S16x6144.Idx → α) (b : Fin 16) (j : Fin 6) (d : Fin 1024) :
    shapeCast S16x6x1024 x shapeCasts_S16x6144_S16x6x1024 (ix3 b j d) = x (ix2 b ⟨j.val * 1024 + d.val, by omega⟩) := by
  pointwise

theorem g512_at {α : Type} (g : S512.Idx → α) (d : Fin 512) : shapeCast S1x512 g shapeCasts_S512_S1x512 (ix2 0 d) = g (ix1 d) := by
  pointwise

theorem g1024_at {α : Type} (g : S1024.Idx → α) (d : Fin 1024) : shapeCast S1x1024 g shapeCasts_S1024_S1x1024 (ix2 0 d) = g (ix1 d) := by
  pointwise

theorem g256_at {α : Type} (g : S256.Idx → α) (d : Fin 256) : shapeCast S1x256 g shapeCasts_S256_S1x256 (ix2 0 d) = g (ix1 d) := by
  pointwise

theorem wa_at (w : FVec Ideal S1024x1024 .f32) (k : Fin 512) (d : Fin 1024) :
    truncf .bf16 (extractStridedSlice S512x1024 ![0, 0] w slices_S1024x1024_S512x1024_0_0) bitsLt_bf16_f32 (ix2 k d) = w (ix2 ⟨k.val, by omega⟩ d) := by
  pointwise

theorem wb_at (w : FVec Ideal S1024x1024 .f32) (k : Fin 512) (d : Fin 1024) :
    truncf .bf16 (extractStridedSlice S512x1024 ![512, 0] w slices_S1024x1024_S512x1024_512_0) bitsLt_bf16_f32 (ix2 k d) = w (ix2 ⟨512 + k.val, by omega⟩ d) := by
  pointwise

theorem wq_at (w : FVec Ideal S1024x2048 .f32) (i : S1024x2048.Idx) : truncf .bf16 w bitsLt_bf16_f32 i = w i := rfl

end Arrays

section Blocks
variable {F : FTy → Type} [FloatOps F] (m : (ℓ : Loc nD τ sig) → Buf (Elt F) ℓ) (c : Dev nD)

theorem idx_facts : ∀ t : Fin cfg0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val / 4 ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = t.val ∧ win0_12.index t 1 = 0)
    ∧ (win0_13.index t 0 = t.val ∧ win0_13.index t 1 = 0)
    ∧ (win0_14.index t 0 = 0 ∧ win0_14.index t 1 = t.val) := by
  decide +kernel

/-- Row `p` of grid point `t`'s block, in the whole array. -/
abbrev gRow (t : Fin cfg0.N) (p : Fin 512) : Fin 32768 := ⟨512 * t.val + p.val, by have h : t.val < 64 := t.isLt; omega⟩
/-- The batch a grid point works on. -/
abbrev gBatch (t : Fin cfg0.N) : Fin 16 := ⟨t.val / 4, by have h : t.val < 64 := t.isLt; omega⟩

theorem blk0_at (t : Fin cfg0.N) (p : Fin 512) (d : Fin 512) :
    (iblk m c 0 t : FVec F S512x512 .f32) (ix2 p d) = (V m c main_v0 : FVec F S32768x512 .f32) (ix2 (gRow t p) d) := by
  obtain ⟨⟨e0, e1⟩, _⟩ := idx_facts t
  show V m c main_v0 (((cfg0.win 0).blk t).view.emb (ix2 p d)) = _
  refine congrArg (V m c main_v0) (funext fun a => Fin.ext ?_)
  match a with
  | ⟨0, _⟩ => show win0_0.index t 0 * 512 + 1 * p.val = 512 * t.val + p.val; omega
  | ⟨1, _⟩ => show win0_0.index t 1 * 512 + 1 * d.val = d.val; omega

theorem blk1_at (t : Fin cfg0.N) (p : Fin 512) (d : Fin 512) :
    (iblk m c 1 t : FVec F S512x512 .bf16) (ix2 p d) = (V m c main_v1 : FVec F S32768x512 .bf16) (ix2 (gRow t p) d) := by
  obtain ⟨_, ⟨e0, e1⟩, _⟩ := idx_facts t
  show V m c main_v1 (((cfg0.win 1).blk t).view.emb (ix2 p d)) = _
  refine congrArg (V m c main_v1) (funext fun a => Fin.ext ?_)
  match a with
  | ⟨0, _⟩ => show win0_1.index t 0 * 512 + 1 * p.val = 512 * t.val + p.val; omega
  | ⟨1, _⟩ => show win0_1.index t 1 * 512 + 1 * d.val = d.val; omega

theorem blk2_at (t : Fin cfg0.N) (p : Fin 512) (d : Fin 1024) :
    (iblk m c 2 t : FVec F S512x1024 .f32) (ix2 p d) = (V m c main_v2 : FVec F S32768x1024 .f32) (ix2 (gRow t p) d) := by
  obtain ⟨_, _, ⟨e0, e1⟩, _⟩ := idx_facts t
  show V m c main_v2 (((cfg0.win 2).blk t).view.emb (ix2 p d)) = _
  refine congrArg (V m c main_v2) (funext fun a => Fin.ext ?_)
  match a with
  | ⟨0, _⟩ => show win0_2.index t 0 * 512 + 1 * p.val = 512 * t.val + p.val; omega
  | ⟨1, _⟩ => show win0_2.index t 1 * 1024 + 1 * d.val = d.val; omega

theorem blk3_at (t : Fin cfg0.N) (j : Fin 6) (d : Fin 1024) :
    (iblk m c 3 t : FVec F S1x6x1024 .f32) (ix3 0 j d) = (V m c main_v3 : FVec F S16x6x1024 .f32) (ix3 (gBatch t) j d) := by
  obtain ⟨_, _, _, ⟨e0, e1, e2⟩, _⟩ := idx_facts t
  show V m c main_v3 (((cfg0.win 3).blk t).view.emb (ix3 0 j d)) = _
  refine congrArg (V m c main_v3) (funext fun a => Fin.ext ?_)
  match a with
  | ⟨0, _⟩ => show win0_3.index t 0 * 1 + 1 * 0 = t.val / 4; omega
  | ⟨1, _⟩ => show win0_3.index t 1 * 6 + 1 * j.val = j.val; omega
  | ⟨2, _⟩ => show win0_3.index t 2 * 1024 + 1 * d.val = d.val; omega

theorem blk4_at (t : Fin cfg0.N) (d : Fin 512) :
    (iblk m c 4 t : FVec F S1x512 .f32) (ix2 0 d) = (V m c main_v9 : FVec F S1x512 .f32) (ix2 0 d) := by
  obtain ⟨_, _, _, _, ⟨e0, e1⟩, _⟩ := idx_facts t
  show V m c main_v9 (((cfg0.win 4).blk t).view.emb (ix2 0 d)) = _
  refine congrArg (V m c main_v9) (funext fun a => Fin.ext ?_)
  match a with
  | ⟨0, _⟩ => show win0_4.index t 0 * 1 + 1 * 0 = 0; omega
  | ⟨1, _⟩ => show win0_4.index t 1 * 512 + 1 * d.val = d.val; omega

theorem blk5_at (t : Fin cfg0.N) (k : Fin 512) (d : Fin 1024) :
    (iblk m c 5 t : FVec F S512x1024 .bf16) (ix2 k d) = (V m c main_v5 : FVec F S512x1024 .bf16) (ix2 k d) := by
  obtain ⟨_, _, _, _, _, ⟨e0, e1⟩, _⟩ := idx_facts t
  show V m c main_v5 (((cfg0.win 5).blk t).view.emb (ix2 k d)) = _
  refine congrArg (V m c main_v5) (funext fun a => Fin.ext ?_)
  match a with
  | ⟨0, _⟩ => show win0_5.index t 0 * 512 + 1 * k.val = k.val; omega
  | ⟨1, _⟩ => show win0_5.index t 1 * 1024 + 1 * d.val = d.val; omega

theorem blk6_at (t : Fin cfg0.N) (k : Fin 512) (d : Fin 1024) :
    (iblk m c 6 t : FVec F S512x1024 .bf16) (ix2 k d) = (V m c main_v7 : FVec F S512x1024 .bf16) (ix2 k d) := by
  obtain ⟨_, _, _, _, _, _, ⟨e0, e1⟩, _⟩ := idx_facts t
  show V m c main_v7 (((cfg0.win 6).blk t).view.emb (ix2 k d)) = _
  refine congrArg (V m c main_v7) (funext fun a => Fin.ext ?_)
  match a with
  | ⟨0, _⟩ => show win0_6.index t 0 * 512 + 1 * k.val = k.val; omega
  | ⟨1, _⟩ => show win0_6.index t 1 * 1024 + 1 * d.val = d.val; omega

theorem blk7_at (t : Fin cfg0.N) (d : Fin 1024) :
    (iblk m c 7 t : FVec F S1x1024 .f32) (ix2 0 d) = (V m c main_v10 : FVec F S1x1024 .f32) (ix2 0 d) := by
  obtain ⟨_, _, _, _, _, _, _, ⟨e0, e1⟩, _⟩ := idx_facts t
  show V m c main_v10 (((cfg0.win 7).blk t).view.emb (ix2 0 d)) = _
  refine congrArg (V m c main_v10) (funext fun a => Fin.ext ?_)
  match a with
  | ⟨0, _⟩ => show win0_7.index t 0 * 1 + 1 * 0 = 0; omega
  | ⟨1, _⟩ => show win0_7.index t 1 * 1024 + 1 * d.val = d.val; omega

theorem blk8_at (t : Fin cfg0.N) (k : Fin 1024) (d : Fin 2048) :
    (iblk m c 8 t : FVec F S1024x2048 .bf16) (ix2 k d) = (V m c main_v8 : FVec F S1024x2048 .bf16) (ix2 k d) := by
  obtain ⟨_, _, _, _, _, _, _, _, ⟨e0, e1⟩, _⟩ := idx_facts t
  show V m c main_v8 (((cfg0.win 8).blk t).view.emb (ix2 k d)) = _
  refine congrArg (V m c main_v8) (funext fun a => Fin.ext ?_)
  match a with
  | ⟨0, _⟩ => show win0_8.index t 0 * 1024 + 1 * k.val = k.val; omega
  | ⟨1, _⟩ => show win0_8.index t 1 * 2048 + 1 * d.val = d.val; omega

theorem blk9_at (t : Fin cfg0.N) (d : Fin 256) :
    (iblk m c 9 t : FVec F S1x256 .f32) (ix2 0 d) = (V m c main_v11 : FVec F S1x256 .f32) (ix2 0 d) := by
  obtain ⟨_, _, _, _, _, _, _, _, _, ⟨e0, e1⟩, _⟩ := idx_facts t
  show V m c main_v11 (((cfg0.win 9).blk t).view.emb (ix2 0 d)) = _
  refine congrArg (V m c main_v11) (funext fun a => Fin.ext ?_)
  match a with
  | ⟨0, _⟩ => show win0_9.index t 0 * 1 + 1 * 0 = 0; omega
  | ⟨1, _⟩ => show win0_9.index t 1 * 256 + 1 * d.val = d.val; omega

theorem blk10_at (t : Fin cfg0.N) (k : Fin 128) (d : Fin 128) :
    (iblk m c 10 t : FVec F S128x128 .f32) (ix2 k d) = (V m c main_arg9 : FVec F S128x128 .f32) (ix2 k d) := by
  obtain ⟨_, _, _, _, _, _, _, _, _, _, ⟨e0, e1⟩, _⟩ := idx_facts t
  show V m c main_arg9 (((cfg0.win 10).blk t).view.emb (ix2 k d)) = _
  refine congrArg (V m c main_arg9) (funext fun a => Fin.ext ?_)
  match a with
  | ⟨0, _⟩ => show win0_10.index t 0 * 128 + 1 * k.val = k.val; omega
  | ⟨1, _⟩ => show win0_10.index t 1 * 128 + 1 * d.val = d.val; omega

theorem blk11_at (t : Fin cfg0.N) (k : Fin 128) (d : Fin 128) :
    (iblk m c 11 t : FVec F S128x128 .f32) (ix2 k d) = (V m c main_arg10 : FVec F S128x128 .f32) (ix2 k d) := by
  obtain ⟨_, _, _, _, _, _, _, _, _, _, _, ⟨e0, e1⟩, _⟩ := idx_facts t
  show V m c main_arg10 (((cfg0.win 11).blk t).view.emb (ix2 k d)) = _
  refine congrArg (V m c main_arg10) (funext fun a => Fin.ext ?_)
  match a with
  | ⟨0, _⟩ => show win0_11.index t 0 * 128 + 1 * k.val = k.val; omega
  | ⟨1, _⟩ => show win0_11.index t 1 * 128 + 1 * d.val = d.val; omega

theorem emb12 (t : Fin cfg0.N) (p : Fin 512) (d : Fin 1024) : ((cfg0.win 12).blk t).view.emb (ix2 p d) = (ix2 (gRow t p) d : S32768x1024.Idx) := by
  obtain ⟨_, _, _, _, _, _, _, _, _, _, _, _, ⟨e0, e1⟩, _⟩ := idx_facts t
  funext a; refine Fin.ext ?_
  match a with
  | ⟨0, _⟩ => show win0_12.index t 0 * 512 + 1 * p.val = 512 * t.val + p.val; omega
  | ⟨1, _⟩ => show win0_12.index t 1 * 1024 + 1 * d.val = d.val; omega

theorem emb13 (t : Fin cfg0.N) (p : Fin 512) (d : Fin 1024) : ((cfg0.win 13).blk t).view.emb (ix2 p d) = (ix2 (gRow t p) d : S32768x1024.Idx) := by
  obtain ⟨_, _, _, _, _, _, _, _, _, _, _, _, _, ⟨e0, e1⟩, _⟩ := idx_facts t
  funext a; refine Fin.ext ?_
  match a with
  | ⟨0, _⟩ => show win0_13.index t 0 * 512 + 1 * p.val = 512 * t.val + p.val; omega
  | ⟨1, _⟩ => show win0_13.index t 1 * 1024 + 1 * d.val = d.val; omega

theorem emb14 (t : Fin cfg0.N) (R : Fin 2048) (p : Fin 512) : ((cfg0.win 14).blk t).view.emb (ix2 R p) = (ix2 R (gRow t p) : S2048x32768.Idx) := by
  obtain ⟨_, _, _, _, _, _, _, _, _, _, _, _, _, _, ⟨e0, e1⟩⟩ := idx_facts t
  funext a; refine Fin.ext ?_
  match a with
  | ⟨0, _⟩ => show win0_14.index t 0 * 2048 + 1 * R.val = R.val; omega
  | ⟨1, _⟩ => show win0_14.index t 1 * 512 + 1 * p.val = 512 * t.val + p.val; omega

end Blocks

end Cert.Proof.Outp

end
-- ==== Proof.OutScore.lean ====
/-
  The output projection's kernel: the scores it stores, sixteen bands of 128 rows.
-/
module

public import proofs.«01_k».proof.Proof.OutBlock

@[expose] public section

set_option maxRecDepth 8192
set_option maxHeartbeats 4000000

noncomputable section

namespace Cert.Proof.Outp

open Idealize.ShloMosaic Idealize.ShloMosaic.TcCoe Idealize.ShloMosaic.Tactic Cert.Proof.Attn Cert.Proof.Rows
open Cert.Kernel3Ideal Cert.Kernel3Ideal.Gen

/-- A key against half of a normalised query, in three products of high and low parts. -/
def sc3 (v g : Fin 256 → EReal) (κ : Fin 128 → EReal) (n : Fin 128 → Fin 256) : EReal :=
  (∑ d, κ d * rms 1132462080#32 v g (n d)) + ((∑ d, (κ d - κ d) * rms 1132462080#32 v g (n d)) + ∑ d, κ d * (rms 1132462080#32 v g (n d) - rms 1132462080#32 v g (n d)))

section Bands
variable (P : FVec Ideal S512x2048 .f32) (K : FVec Ideal S128x128 .f32) (G : FVec Ideal S1x256 .f32)

/-- The first head's queries and their mean square. -/
def q0 : FVec Ideal S512x256 .f32 := extractStridedSlice S512x256 ![0, 0] P slices_S512x2048_o0_0_S512x256
def s0 : FVec Ideal S512x1 .f32 :=
  divf (shapeCast S512x1 (multiReduction .add [1] S512 (mulf (q0 P) (q0 P)) 0x00000000#32 reduces_S512x256_S512 (.inl rfl) rfl) shapeCasts_S512_S512x1) (broadcast S512x1 (Scalar.ofBits .f32 0x43800000#32))

/-- The band of a head and a half: which queries, which half. -/
def band (a : Fin 8) (s : Fin 2) (r : Fin 128) (p : Fin 512) : EReal :=
  sc3 (fun e => P (ix2 p ⟨256 * a.val + e.val, by omega⟩)) (fun e => G (ix2 0 e)) (fun d => K (ix2 r d)) (fun d => ⟨128 * s.val + d.val, by omega⟩)

theorem band00 (r : Fin 128) (p : Fin 512) : k0_pay12 (F := Ideal) K (q0 P) (s0 P) (Scalar.ofBits .f32 0x358637BD#32) G (ix2 r p) = band P K G 0 0 r p := by
  have e : band P K G 0 0 r p = sc3 (fun e => P (ix2 p ⟨e.val, by omega⟩)) (fun e => G (ix2 0 e)) (fun d => K (ix2 r d)) (fun d => ⟨d.val, by omega⟩) := by
    unfold band
    congr 1
    · funext e
      exact congrArg (fun j => P (ix2 p j)) (Fin.ext (by show 256 * 0 + e.val = e.val; omega))
    · funext d
      exact Fin.ext (by show 128 * 0 + d.val = d.val; omega)
  rw [e]
  pointwise [k0_pay12, k0_pay11, q0, s0]
  rfl

theorem band01 (r : Fin 128) (p : Fin 512) : k0_pay13 (F := Ideal) K (q0 P) (s0 P) (Scalar.ofBits .f32 0x358637BD#32) G (ix2 r p) = band P K G 0 1 r p := by
  have e : band P K G 0 1 r p = sc3 (fun e => P (ix2 p ⟨e.val, by omega⟩)) (fun e => G (ix2 0 e)) (fun d => K (ix2 r d)) (fun d => ⟨128 + d.val, by omega⟩) := by
    unfold band
    congr 1
    · funext e
      exact congrArg (fun j => P (ix2 p j)) (Fin.ext (by show 256 * 0 + e.val = e.val; omega))
  rw [e]
  pointwise [k0_pay13, k0_pay11, q0, s0]
  rfl

theorem band10 (r : Fin 128) (p : Fin 512) : k0_pay18 (F := Ideal) K (k0_pay14 P) (k0_pay15 P) (k0_pay16 (F := Ideal)) G (ix2 r p) = band P K G 1 0 r p := by
  have e : band P K G 1 0 r p = sc3 (fun e => P (ix2 p ⟨256 + e.val, by omega⟩)) (fun e => G (ix2 0 e)) (fun d => K (ix2 r d)) (fun d => ⟨d.val, by omega⟩) := by
    unfold band
    congr 1
    · funext d
      exact Fin.ext (by show 128 * 0 + d.val = d.val; omega)
  rw [e]
  pointwise [k0_pay18, k0_pay17, k0_pay16, k0_pay15, k0_pay14]
  rfl

theorem band11 (r : Fin 128) (p : Fin 512) : k0_pay19 (F := Ideal) K (k0_pay14 P) (k0_pay15 P) (k0_pay16 (F := Ideal)) G (ix2 r p) = band P K G 1 1 r p := by
  have e : band P K G 1 1 r p = sc3 (fun e => P (ix2 p ⟨256 + e.val, by omega⟩)) (fun e => G (ix2 0 e)) (fun d => K (ix2 r d)) (fun d => ⟨128 + d.val, by omega⟩) := by
    unfold band
    congr 1
  rw [e]
  pointwise [k0_pay19, k0_pay17, k0_pay16, k0_pay15, k0_pay14]
  rfl

theorem band20 (r : Fin 128) (p : Fin 512) : k0_pay23 (F := Ideal) K (k0_pay20 P) (k0_pay21 P) G (ix2 r p) = band P K G 2 0 r p := by
  have e : band P K G 2 0 r p = sc3 (fun e => P (ix2 p ⟨512 + e.val, by omega⟩)) (fun e => G (ix2 0 e)) (fun d => K (ix2 r d)) (fun d => ⟨d.val, by omega⟩) := by
    unfold band
    congr 1
    · funext d
      exact Fin.ext (by show 128 * 0 + d.val = d.val; omega)
  rw [e]
  pointwise [k0_pay23, k0_pay22, k0_pay21, k0_pay20]
  rfl

theorem band21 (r : Fin 128) (p : Fin 512) : k0_pay24 (F := Ideal) K (k0_pay20 P) (k0_pay21 P) G (ix2 r p) = band P K G 2 1 r p := by
  have e : band P K G 2 1 r p = sc3 (fun e => P (ix2 p ⟨512 + e.val, by omega⟩)) (fun e => G (ix2 0 e)) (fun d => K (ix2 r d)) (fun d => ⟨128 + d.val, by omega⟩) := by
    unfold band
    congr 1
  rw [e]
  pointwise [k0_pay24, k0_pay22, k0_pay21, k0_pay20]
  rfl

theorem band30 (r : Fin 128) (p : Fin 512) : k0_pay28 (F := Ideal) K (k0_pay25 P) (k0_pay26 P) G (ix2 r p) = band P K G 3 0 r p := by
  have e : band P K G 3 0 r p = sc3 (fun e => P (ix2 p ⟨768 + e.val, by omega⟩)) (fun e => G (ix2 0 e)) (fun d => K (ix2 r d)) (fun d => ⟨d.val, by omega⟩) := by
    unfold band
    congr 1
    · funext d
      exact Fin.ext (by show 128 * 0 + d.val = d.val; omega)
  rw [e]
  pointwise [k0_pay28, k0_pay27, k0_pay26, k0_pay25]
  rfl

theorem band31 (r : Fin 128) (p : Fin 512) : k0_pay29 (F := Ideal) K (k0_pay25 P) (k0_pay26 P) G (ix2 r p) = band P K G 3 1 r p := by
  have e : band P K G 3 1 r p = sc3 (fun e => P (ix2 p ⟨768 + e.val, by omega⟩)) (fun e => G (ix2 0 e)) (fun d => K (ix2 r d)) (fun d => ⟨128 + d.val, by omega⟩) := by
    unfold band
    congr 1
  rw [e]
  pointwise [k0_pay29, k0_pay27, k0_pay26, k0_pay25]
  rfl

theorem band40 (r : Fin 128) (p : Fin 512) : k0_pay32 (F := Ideal) K (k0_pay30 P) G (ix2 r p) = band P K G 4 0 r p := by
  have e : band P K G 4 0 r p = sc3 (fun e => P (ix2 p ⟨1024 + e.val, by omega⟩)) (fun e => G (ix2 0 e)) (fun d => K (ix2 r d)) (fun d => ⟨d.val, by omega⟩) := by
    unfold band
    congr 1
    · funext d
      exact Fin.ext (by show 128 * 0 + d.val = d.val; omega)
  rw [e]
  pointwise [k0_pay32, k0_pay31, k0_pay30]
  rfl

theorem band41 (r : Fin 128) (p : Fin 512) : k0_pay33 (F := Ideal) K (k0_pay30 P) G (ix2 r p) = band P K G 4 1 r p := by
  have e : band P K G 4 1 r p = sc3 (fun e => P (ix2 p ⟨1024 + e.val, by omega⟩)) (fun e => G (ix2 0 e)) (fun d => K (ix2 r d)) (fun d => ⟨128 + d.val, by omega⟩) := by
    unfold band
    congr 1
  rw [e]
  pointwise [k0_pay33, k0_pay31, k0_pay30]
  rfl

theorem band50 (r : Fin 128) (p : Fin 512) : k0_pay35 (F := Ideal) P K G (ix2 r p) = band P K G 5 0 r p := by
  have e : band P K G 5 0 r p = sc3 (fun e => P (ix2 p ⟨1280 + e.val, by omega⟩)) (fun e => G (ix2 0 e)) (fun d => K (ix2 r d)) (fun d => ⟨d.val, by omega⟩) := by
    unfold band
    congr 1
    · funext d
      exact Fin.ext (by show 128 * 0 + d.val = d.val; omega)
  rw [e]
  pointwise [k0_pay35, k0_pay34]
  rfl

theorem band51 (r : Fin 128) (p : Fin 512) : k0_pay36 (F := Ideal) P K G (ix2 r p) = band P K G 5 1 r p := by
  have e : band P K G 5 1 r p = sc3 (fun e => P (ix2 p ⟨1280 + e.val, by omega⟩)) (fun e => G (ix2 0 e)) (fun d => K (ix2 r d)) (fun d => ⟨128 + d.val, by omega⟩) := by
    unfold band
    congr 1
  rw [e]
  pointwise [k0_pay36, k0_pay34]
  rfl

theorem band60 (r : Fin 128) (p : Fin 512) : k0_pay38 (F := Ideal) P K G (ix2 r p) = band P K G 6 0 r p := by
  have e : band P K G 6 0 r p = sc3 (fun e => P (ix2 p ⟨1536 + e.val, by omega⟩)) (fun e => G (ix2 0 e)) (fun d => K (ix2 r d)) (fun d => ⟨d.val, by omega⟩) := by
    unfold band
    congr 1
    · funext d
      exact Fin.ext (by show 128 * 0 + d.val = d.val; omega)
  rw [e]
  pointwise [k0_pay38, k0_pay37]
  rfl

theorem band61 (r : Fin 128) (p : Fin 512) : k0_pay44 (F := Ideal) (k0_pay42 P K G) (k0_pay43 P K G) (ix2 r p) = band P K G 6 1 r p := by
  have e : band P K G 6 1 r p = sc3 (fun e => P (ix2 p ⟨1536 + e.val, by omega⟩)) (fun e => G (ix2 0 e)) (fun d => K (ix2 r d)) (fun d => ⟨128 + d.val, by omega⟩) := by
    unfold band
    congr 1
  rw [e]
  pointwise [k0_pay44, k0_pay43, k0_pay42, k0_pay41, k0_pay40, k0_pay39, k0_pay37]
  rfl

theorem band70 (r : Fin 128) (p : Fin 512) : k0_pay46 (F := Ideal) P K G (ix2 r p) = band P K G 7 0 r p := by
  have e : band P K G 7 0 r p = sc3 (fun e => P (ix2 p ⟨1792 + e.val, by omega⟩)) (fun e => G (ix2 0 e)) (fun d => K (ix2 r d)) (fun d => ⟨d.val, by omega⟩) := by
    unfold band
    congr 1
    · funext d
      exact Fin.ext (by show 128 * 0 + d.val = d.val; omega)
  rw [e]
  pointwise [k0_pay46, k0_pay45]
  rfl

theorem band71 (r : Fin 128) (p : Fin 512) : k0_pay1 (F := Ideal) (k0_pay48 K) (k0_pay50 P G) (k0_pay51 P K G) (k0_pay52 P K G) (constant S128x512 .f32 0x00000000#32) (ix2 r p) = band P K G 7 1 r p := by
  have e : band P K G 7 1 r p = sc3 (fun e => P (ix2 p ⟨1792 + e.val, by omega⟩)) (fun e => G (ix2 0 e)) (fun d => K (ix2 r d)) (fun d => ⟨128 + d.val, by omega⟩) := by
    unfold band
    congr 1
  rw [e]
  pointwise [k0_pay1, k0_pay52, k0_pay51, k0_pay50, k0_pay49, k0_pay48, k0_pay47, k0_pay45]
  rfl

end Bands

section Store
variable (P : FVec Ideal S512x2048 .f32) (K1 K2 : FVec Ideal S128x128 .f32) (G : FVec Ideal S1x256 .f32)

/-- The stored block: its row's head, half and key. -/
def scoreArr (i : S2048x512.Idx) : EReal :=
  band P (if (i 0).val % 256 < 128 then K1 else K2) G ⟨(i 0).val / 256, by have : (i 0).val < 2048 := (i 0).isLt; omega⟩ ⟨(i 0).val / 128 % 2, by omega⟩ ⟨(i 0).val % 128, by omega⟩ (i 1)

theorem score_lo (a : Fin 8) (r : Fin 128) (p : Fin 512) (i : S2048x512.Idx) (h0 : (i 0).val = 256 * a.val + r.val) (h1 : (i 1).val = p.val) :
    scoreArr P K1 K2 G i = band P K1 G a 0 r p := by
  unfold scoreArr
  rw [if_pos (by omega)]
  congr 1
  · exact Fin.ext (by show (i 0).val / 256 = a.val; omega)
  · exact Fin.ext (by show (i 0).val / 128 % 2 = 0; omega)
  · exact Fin.ext (by show (i 0).val % 128 = r.val; omega)
  · exact Fin.ext h1

theorem score_hi (a : Fin 8) (r : Fin 128) (p : Fin 512) (i : S2048x512.Idx) (h0 : (i 0).val = 256 * a.val + 128 + r.val) (h1 : (i 1).val = p.val) :
    scoreArr P K1 K2 G i = band P K2 G a 1 r p := by
  unfold scoreArr
  rw [if_neg (by omega)]
  congr 1
  · exact Fin.ext (by show (i 0).val / 256 = a.val; omega)
  · exact Fin.ext (by show (i 0).val / 128 % 2 = 1; omega)
  · exact Fin.ext (by show (i 0).val % 128 = r.val; omega)
  · exact Fin.ext h1

theorem score_at (y : S2048x512.Idx) : View.canon (Val := Elt Ideal) (e := .f32) [⟨r0_25, k0_pay1 (F := Ideal) (k0_pay48 K2) (k0_pay50 P G) (k0_pay51 P K2 G) (k0_pay52 P K2 G) (constant S128x512 .f32 0x00000000#32)⟩,
    ⟨r0_24, k0_pay46 (F := Ideal) P K1 G⟩,
    ⟨r0_23, k0_pay44 (F := Ideal) (k0_pay42 P K2 G) (k0_pay43 P K2 G)⟩,
    ⟨r0_22, k0_pay38 (F := Ideal) P K1 G⟩,
    ⟨r0_21, k0_pay36 (F := Ideal) P K2 G⟩,
    ⟨r0_20, k0_pay35 (F := Ideal) P K1 G⟩,
    ⟨r0_19, k0_pay33 (F := Ideal) K2 (k0_pay30 P) G⟩,
    ⟨r0_18, k0_pay32 (F := Ideal) K1 (k0_pay30 P) G⟩,
    ⟨r0_17, k0_pay29 (F := Ideal) K2 (k0_pay25 P) (k0_pay26 P) G⟩,
    ⟨r0_16, k0_pay28 (F := Ideal) K1 (k0_pay25 P) (k0_pay26 P) G⟩,
    ⟨r0_15, k0_pay24 (F := Ideal) K2 (k0_pay20 P) (k0_pay21 P) G⟩,
    ⟨r0_14, k0_pay23 (F := Ideal) K1 (k0_pay20 P) (k0_pay21 P) G⟩,
    ⟨r0_13, k0_pay19 (F := Ideal) K2 (k0_pay14 P) (k0_pay15 P) (k0_pay16 (F := Ideal)) G⟩,
    ⟨r0_12, k0_pay18 (F := Ideal) K1 (k0_pay14 P) (k0_pay15 P) (k0_pay16 (F := Ideal)) G⟩,
    ⟨r0_11, k0_pay13 (F := Ideal) K2 (q0 P) (s0 P) (Scalar.ofBits .f32 0x358637BD#32) G⟩,
    ⟨r0_10, k0_pay12 (F := Ideal) K1 (q0 P) (s0 P) (Scalar.ofBits .f32 0x358637BD#32) G⟩] y = scoreArr P K1 K2 G y := by
  refine View.canon_apply_of_pieces (Val := Elt Ideal) (e := .f32) (scoreArr P K1 K2 G) _ ?_ y (cover0_14 _ _ _ _ _ _ _ _ _ _ _ _ _ _ _ _ y)
  refine List.forall_mem_cons.2 ⟨fun (x : S128x512.Idx) => (congrArg (k0_pay1 (F := Ideal) (k0_pay48 K2) (k0_pay50 P G) (k0_pay51 P K2 G) (k0_pay52 P K2 G) (constant S128x512 .f32 0x00000000#32)) (ix2_eta x).symm).trans ((band71 P K2 G (x 0) (x 1)).trans
    (score_hi P K1 K2 G 7 (x 0) (x 1) _ (by show 1920 + 1 * (x 0).val = 1792 + 128 + (x 0).val; omega) (by show 0 + 1 * (x 1).val = (x 1).val; omega)).symm), ?_⟩
  refine List.forall_mem_cons.2 ⟨fun (x : S128x512.Idx) => (congrArg (k0_pay46 (F := Ideal) P K1 G) (ix2_eta x).symm).trans ((band70 P K1 G (x 0) (x 1)).trans
    (score_lo P K1 K2 G 7 (x 0) (x 1) _ (by show 1792 + 1 * (x 0).val = 1792 + (x 0).val; omega) (by show 0 + 1 * (x 1).val = (x 1).val; omega)).symm), ?_⟩
  refine List.forall_mem_cons.2 ⟨fun (x : S128x512.Idx) => (congrArg (k0_pay44 (F := Ideal) (k0_pay42 P K2 G) (k0_pay43 P K2 G)) (ix2_eta x).symm).trans ((band61 P K2 G (x 0) (x 1)).trans
    (score_hi P K1 K2 G 6 (x 0) (x 1) _ (by show 1664 + 1 * (x 0).val = 1536 + 128 + (x 0).val; omega) (by show 0 + 1 * (x 1).val = (x 1).val; omega)).symm), ?_⟩
  refine List.forall_mem_cons.2 ⟨fun (x : S128x512.Idx) => (congrArg (k0_pay38 (F := Ideal) P K1 G) (ix2_eta x).symm).trans ((band60 P K1 G (x 0) (x 1)).trans
    (score_lo P K1 K2 G 6 (x 0) (x 1) _ (by show 1536 + 1 * (x 0).val = 1536 + (x 0).val; omega) (by show 0 + 1 * (x 1).val = (x 1).val; omega)).symm), ?_⟩
  refine List.forall_mem_cons.2 ⟨fun (x : S128x512.Idx) => (congrArg (k0_pay36 (F := Ideal) P K2 G) (ix2_eta x).symm).trans ((band51 P K2 G (x 0) (x 1)).trans
    (score_hi P K1 K2 G 5 (x 0) (x 1) _ (by show 1408 + 1 * (x 0).val = 1280 + 128 + (x 0).val; omega) (by show 0 + 1 * (x 1).val = (x 1).val; omega)).symm), ?_⟩
  refine List.forall_mem_cons.2 ⟨fun (x : S128x512.Idx) => (congrArg (k0_pay35 (F := Ideal) P K1 G) (ix2_eta x).symm).trans ((band50 P K1 G (x 0) (x 1)).trans
    (score_lo P K1 K2 G 5 (x 0) (x 1) _ (by show 1280 + 1 * (x 0).val = 1280 + (x 0).val; omega) (by show 0 + 1 * (x 1).val = (x 1).val; omega)).symm), ?_⟩
  refine List.forall_mem_cons.2 ⟨fun (x : S128x512.Idx) => (congrArg (k0_pay33 (F := Ideal) K2 (k0_pay30 P) G) (ix2_eta x).symm).trans ((band41 P K2 G (x 0) (x 1)).trans
    (score_hi P K1 K2 G 4 (x 0) (x 1) _ (by show 1152 + 1 * (x 0).val = 1024 + 128 + (x 0).val; omega) (by show 0 + 1 * (x 1).val = (x 1).val; omega)).symm), ?_⟩
  refine List.forall_mem_cons.2 ⟨fun (x : S128x512.Idx) => (congrArg (k0_pay32 (F := Ideal) K1 (k0_pay30 P) G) (ix2_eta x).symm).trans ((band40 P K1 G (x 0) (x 1)).trans
    (score_lo P K1 K2 G 4 (x 0) (x 1) _ (by show 1024 + 1 * (x 0).val = 1024 + (x 0).val; omega) (by show 0 + 1 * (x 1).val = (x 1).val; omega)).symm), ?_⟩
  refine List.forall_mem_cons.2 ⟨fun (x : S128x512.Idx) => (congrArg (k0_pay29 (F := Ideal) K2 (k0_pay25 P) (k0_pay26 P) G) (ix2_eta x).symm).trans ((band31 P K2 G (x 0) (x 1)).trans
    (score_hi P K1 K2 G 3 (x 0) (x 1) _ (by show 896 + 1 * (x 0).val = 768 + 128 + (x 0).val; omega) (by show 0 + 1 * (x 1).val = (x 1).val; omega)).symm), ?_⟩
  refine List.forall_mem_cons.2 ⟨fun (x : S128x512.Idx) => (congrArg (k0_pay28 (F := Ideal) K1 (k0_pay25 P) (k0_pay26 P) G) (ix2_eta x).symm).trans ((band30 P K1 G (x 0) (x 1)).trans
    (score_lo P K1 K2 G 3 (x 0) (x 1) _ (by show 768 + 1 * (x 0).val = 768 + (x 0).val; omega) (by show 0 + 1 * (x 1).val = (x 1).val; omega)).symm), ?_⟩
  refine List.forall_mem_cons.2 ⟨fun (x : S128x512.Idx) => (congrArg (k0_pay24 (F := Ideal) K2 (k0_pay20 P) (k0_pay21 P) G) (ix2_eta x).symm).trans ((band21 P K2 G (x 0) (x 1)).trans
    (score_hi P K1 K2 G 2 (x 0) (x 1) _ (by show 640 + 1 * (x 0).val = 512 + 128 + (x 0).val; omega) (by show 0 + 1 * (x 1).val = (x 1).val; omega)).symm), ?_⟩
  refine List.forall_mem_cons.2 ⟨fun (x : S128x512.Idx) => (congrArg (k0_pay23 (F := Ideal) K1 (k0_pay20 P) (k0_pay21 P) G) (ix2_eta x).symm).trans ((band20 P K1 G (x 0) (x 1)).trans
    (score_lo P K1 K2 G 2 (x 0) (x 1) _ (by show 512 + 1 * (x 0).val = 512 + (x 0).val; omega) (by show 0 + 1 * (x 1).val = (x 1).val; omega)).symm), ?_⟩
  refine List.forall_mem_cons.2 ⟨fun (x : S128x512.Idx) => (congrArg (k0_pay19 (F := Ideal) K2 (k0_pay14 P) (k0_pay15 P) (k0_pay16 (F := Ideal)) G) (ix2_eta x).symm).trans ((band11 P K2 G (x 0) (x 1)).trans
    (score_hi P K1 K2 G 1 (x 0) (x 1) _ (by show 384 + 1 * (x 0).val = 256 + 128 + (x 0).val; omega) (by show 0 + 1 * (x 1).val = (x 1).val; omega)).symm), ?_⟩
  refine List.forall_mem_cons.2 ⟨fun (x : S128x512.Idx) => (congrArg (k0_pay18 (F := Ideal) K1 (k0_pay14 P) (k0_pay15 P) (k0_pay16 (F := Ideal)) G) (ix2_eta x).symm).trans ((band10 P K1 G (x 0) (x 1)).trans
    (score_lo P K1 K2 G 1 (x 0) (x 1) _ (by show 256 + 1 * (x 0).val = 256 + (x 0).val; omega) (by show 0 + 1 * (x 1).val = (x 1).val; omega)).symm), ?_⟩
  refine List.forall_mem_cons.2 ⟨fun (x : S128x512.Idx) => (congrArg (k0_pay13 (F := Ideal) K2 (q0 P) (s0 P) (Scalar.ofBits .f32 0x358637BD#32) G) (ix2_eta x).symm).trans ((band01 P K2 G (x 0) (x 1)).trans
    (score_hi P K1 K2 G 0 (x 0) (x 1) _ (by show 128 + 1 * (x 0).val = 0 + 128 + (x 0).val; omega) (by show 0 + 1 * (x 1).val = (x 1).val; omega)).symm), ?_⟩
  refine List.forall_mem_cons.2 ⟨fun (x : S128x512.Idx) => (congrArg (k0_pay12 (F := Ideal) K1 (q0 P) (s0 P) (Scalar.ofBits .f32 0x358637BD#32) G) (ix2_eta x).symm).trans ((band00 P K1 G (x 0) (x 1)).trans
    (score_lo P K1 K2 G 0 (x 0) (x 1) _ (by show 0 + 1 * (x 0).val = 0 + (x 0).val; omega) (by show 0 + 1 * (x 1).val = (x 1).val; omega)).symm), ?_⟩
  exact fun _ h => absurd h List.not_mem_nil

end Store

section Out
variable (x0 : FVec Ideal S512x512 .f32) (x1 : FVec Ideal S512x512 .bf16) (x2 : FVec Ideal S512x1024 .f32) (x3 : FVec Ideal S1x6x1024 .f32) (x4 : FVec Ideal S1x512 .f32)
  (x5 x6 : FVec Ideal S512x1024 .bf16) (x7 : FVec Ideal S1x1024 .f32) (x8 : FVec Ideal S1024x2048 .bf16) (x9 : FVec Ideal S1x256 .f32)
  (x10 x11 : FVec Ideal S128x128 .f32)

theorem first_q : k0_pay58 (F := Ideal) x0 x1 x2 x3 x4 x5 x6 x7 x8 x9 x10 x11 = q0 (k0_pay57 x0 x1 x2 x3 x4 x5 x6 x7 x8 x9 x10 x11) := rfl
theorem first_s : k0_pay59 (F := Ideal) x0 x1 x2 x3 x4 x5 x6 x7 x8 x9 x10 x11 = s0 (k0_pay57 x0 x1 x2 x3 x4 x5 x6 x7 x8 x9 x10 x11) := rfl

theorem out14_at (y : S2048x512.Idx) : out0_14 (F := Ideal) x0 x1 x2 x3 x4 x5 x6 x7 x8 x9 x10 x11 y = scoreArr (k0_pay57 x0 x1 x2 x3 x4 x5 x6 x7 x8 x9 x10 x11) x10 x11 x9 y := by
  unfold out0_14 k0_pay60 k0_pay61 k0_pay62 k0_pay63 k0_pay64 k0_pay65 k0_pay66 k0_pay67
  rw [ldK x10, ldK x11, ldg3, first_q, first_s]
  exact score_at (k0_pay57 x0 x1 x2 x3 x4 x5 x6 x7 x8 x9 x10 x11) x10 x11 x9 y

end Out

end Cert.Proof.Outp

end
-- ==== Proof.OutRef.lean ====
/-
  The output projection as one function of its arguments, and the reference's three results as that function.
-/
module

public import proofs.«01_k».proof.Proof.Gen.Reference3Ideal.Read
public import proofs.«01_k».proof.Proof.InBlock

@[expose] public section

set_option maxRecDepth 8192
set_option maxHeartbeats 4000000

noncomputable section

namespace Cert.Proof.Outp

open Idealize.ShloMosaic Idealize.ShloMosaic.TcCoe Idealize.ShloMosaic.Tactic Cert.Proof.Attn Cert.Proof.Rows Cert.Proof.Inp
open Cert.Reference3Ideal Cert.Reference3Ideal.Gen Cert.Reference3Ideal.Read

variable (x0 : (⟨S16x2048x512, .f32⟩ : BufTy).Contents (Elt Ideal)) (x1 : (⟨S16x2048x512, .bf16⟩ : BufTy).Contents (Elt Ideal)) (x2 : (⟨S16x2048x1024, .f32⟩ : BufTy).Contents (Elt Ideal)) (x3 : (⟨S16x6144, .f32⟩ : BufTy).Contents (Elt Ideal)) (x4 : (⟨S512, .f32⟩ : BufTy).Contents (Elt Ideal))
  (x5 : (⟨S1024x1024, .f32⟩ : BufTy).Contents (Elt Ideal)) (x6 : (⟨S1024, .f32⟩ : BufTy).Contents (Elt Ideal)) (x7 : (⟨S1024x2048, .f32⟩ : BufTy).Contents (Elt Ideal)) (x8 : (⟨S256, .f32⟩ : BufTy).Contents (Elt Ideal))
  (x9 x10 : (⟨S128x128, .f32⟩ : BufTy).Contents (Elt Ideal))

/-- The projection of token `t` of batch `b`: the normalised attention half and the other half. -/
def mixAt (b : Fin 16) (t : Fin 2048) (d : Fin 1024) : EReal :=
  (∑ k : Fin 512, rms 1140850688#32 (fun e => x0 (ix3 b t e)) (fun e => x4 (ix1 e)) k * x5 (ix2 ⟨k.val, by omega⟩ d))
    + ∑ k : Fin 512, x1 (ix3 b t k) * x5 (ix2 ⟨512 + k.val, by omega⟩ d)
/-- After the gated residual. -/
def x1At (b : Fin 16) (t : Fin 2048) (d : Fin 1024) : EReal :=
  x2 (ix3 b t d) + x3 (ix2 b ⟨2048 + d.val, by omega⟩) * mixAt x0 x1 x4 x5 b t d
/-- After norm and modulation. -/
def h2At (b : Fin 16) (t : Fin 2048) : Fin 1024 → EReal :=
  modRow 1149239296#32 (x1At x0 x1 x2 x3 x4 x5 b t) (fun e => x6 (ix1 e)) (fun e => x3 (ix2 b ⟨3072 + e.val, by omega⟩)) (fun e => x3 (ix2 b ⟨4096 + e.val, by omega⟩))
/-- The queries. -/
def qAt (b : Fin 16) (t : Fin 2048) (j : Fin 2048) : EReal := ∑ k, h2At x0 x1 x2 x3 x4 x5 x6 b t k * x7 (ix2 k j)
/-- Head `a`'s normalised query of row `r`. -/
def qnAt (r : Fin 32768) (a : Fin 8) : Fin 256 → EReal :=
  rms 1132462080#32 (fun e => qAt x0 x1 x2 x3 x4 x5 x6 x7 ⟨r.val / 2048, by omega⟩ ⟨r.val % 2048, by omega⟩ ⟨256 * a.val + e.val, by omega⟩) (fun e => x8 (ix1 e))
/-- The score in row `R` of the scores: head `R / 256`, half by half, key `R % 128`. -/
def stAt (R : Fin 2048) (r : Fin 32768) : EReal :=
  if R.val % 256 < 128 then ∑ d : Fin 128, qnAt x0 x1 x2 x3 x4 x5 x6 x7 x8 r ⟨R.val / 256, by omega⟩ ⟨d.val, by omega⟩ * x9 (ix2 ⟨R.val % 128, by omega⟩ d)
  else ∑ d : Fin 128, qnAt x0 x1 x2 x3 x4 x5 x6 x7 x8 r ⟨R.val / 256, by omega⟩ ⟨128 + d.val, by omega⟩ * x10 (ix2 ⟨R.val % 128, by omega⟩ d)

theorem ref_rms (b : Fin 16) (t : Fin 2048) (k : Fin 512) :
    val_main_v18 (F := Ideal) x0 x4 (ix3 b t k) = rms 1140850688#32 (fun e => x0 (ix3 b t e)) (fun e => x4 (ix1 e)) k := by
  pointwise [val_main_v6, val_main_v7, val_main_v8, val_main_v9, val_main_v10, val_main_v11, val_main_v12, val_main_v13, val_main_v14, val_main_v15, val_main_v16, val_main_v17, val_main_v18, val_main_cst, val_main_cst_0, val_main_cst_1]
  rfl

theorem cat_lo (b : Fin 16) (t : Fin 2048) (k : Fin 512) :
    val_main_v20 (F := Ideal) x0 x1 x4 (ix3 b t ⟨k.val, by omega⟩) = rms 1140850688#32 (fun e => x0 (ix3 b t e)) (fun e => x4 (ix1 e)) k := by
  have h := ref_rms x0 x4 b t k
  unfold val_main_v20
  revert h
  generalize val_main_v18 (F := Ideal) x0 x4 = P
  intro h
  pointwise
  exact h

theorem cat_hi (b : Fin 16) (t : Fin 2048) (k : Fin 512) :
    val_main_v20 (F := Ideal) x0 x1 x4 (ix3 b t ⟨512 + k.val, by omega⟩) = x1 (ix3 b t k) := by
  unfold val_main_v20
  generalize val_main_v18 (F := Ideal) x0 x4 = P
  pointwise [val_main_v19]

theorem ref_mix (b : Fin 16) (t : Fin 2048) (d : Fin 1024) : val_main_v21 (F := Ideal) x0 x1 x4 x5 (ix3 b t d) = mixAt x0 x1 x4 x5 b t d := by
  have h1 := cat_lo x0 x1 x4 b t
  have h2 := cat_hi x0 x1 x4 b t
  unfold val_main_v21
  revert h1 h2
  generalize val_main_v20 (F := Ideal) x0 x1 x4 = P
  intro h1 h2
  pointwise
  rw [sum_halves]
  simp only [h1, h2]
  rfl

theorem ref_x1 (b : Fin 16) (t : Fin 2048) (d : Fin 1024) :
    val_main_v24 (F := Ideal) x0 x1 x2 x3 x4 x5 (ix3 b t d) = x1At x0 x1 x2 x3 x4 x5 b t d := by
  have h := ref_mix x0 x1 x4 x5 b t d
  unfold val_main_v24 val_main_v23
  revert h
  generalize val_main_v21 (F := Ideal) x0 x1 x4 x5 = P
  intro h
  pointwise [val_main_v22, val_main_v1, val_main_v0]
  rw [h]
  rfl

theorem ref_h2 (b : Fin 16) (t : Fin 2048) (d : Fin 1024) :
    val_main_v43 (F := Ideal) x0 x1 x2 x3 x4 x5 x6 (ix3 b t d) = h2At x0 x1 x2 x3 x4 x5 x6 b t d := by
  have h := ref_x1 x0 x1 x2 x3 x4 x5 b t
  unfold val_main_v43 val_main_v41 val_main_v37 val_main_v34 val_main_v33 val_main_v32 val_main_v31 val_main_v29 val_main_v27 val_main_v26 val_main_v25
  revert h
  generalize val_main_v24 (F := Ideal) x0 x1 x2 x3 x4 x5 = P
  intro h
  pointwise [val_main_v2, val_main_v3, val_main_v4, val_main_v5, val_main_v28, val_main_v30, val_main_v35, val_main_v36, val_main_v38, val_main_v39, val_main_v40, val_main_v42, val_main_cst_2, val_main_cst_3, val_main_cst_4, val_main_cst_5]
  simp only [h]
  rfl

theorem ref_q (b : Fin 16) (t : Fin 2048) (j : Fin 2048) :
    val_main_v44 (F := Ideal) x0 x1 x2 x3 x4 x5 x6 x7 (ix3 b t j) = qAt x0 x1 x2 x3 x4 x5 x6 x7 b t j := by
  have h := ref_h2 x0 x1 x2 x3 x4 x5 x6 b t
  unfold val_main_v44
  revert h
  generalize val_main_v43 (F := Ideal) x0 x1 x2 x3 x4 x5 x6 = P
  intro h
  pointwise
  simp only [h]
  rfl

theorem ref_head (r : Fin 32768) (a : Fin 8) (e : Fin 256) :
    val_main_v45 (F := Ideal) x0 x1 x2 x3 x4 x5 x6 x7 (ix3 r a e)
      = qAt x0 x1 x2 x3 x4 x5 x6 x7 ⟨r.val / 2048, by omega⟩ ⟨r.val % 2048, by omega⟩ ⟨256 * a.val + e.val, by omega⟩ := by
  rw [val_main_v45_apply, ← ref_q]
  refine congrArg (val_main_v44 (F := Ideal) x0 x1 x2 x3 x4 x5 x6 x7) (funext fun i => Fin.ext ?_)
  match i with
  | ⟨0, _⟩ => show _ = r.val / 2048; simp [idx_main_v45]; omega
  | ⟨1, _⟩ => show _ = r.val % 2048; simp [idx_main_v45]; omega
  | ⟨2, _⟩ => show _ = 256 * a.val + e.val; simp [idx_main_v45]; omega

theorem ref_qn (r : Fin 32768) (a : Fin 8) (e : Fin 256) :
    val_main_v58 (F := Ideal) x0 x1 x2 x3 x4 x5 x6 x7 x8 (ix3 r a e) = qnAt x0 x1 x2 x3 x4 x5 x6 x7 x8 r a e := by
  have h := ref_head x0 x1 x2 x3 x4 x5 x6 x7 r a
  unfold val_main_v58 val_main_v55 val_main_v54 val_main_v53 val_main_v52 val_main_v50 val_main_v48 val_main_v47 val_main_v46
  revert h
  generalize val_main_v45 (F := Ideal) x0 x1 x2 x3 x4 x5 x6 x7 = P
  intro h
  pointwise [val_main_v49, val_main_v51, val_main_v56, val_main_v57, val_main_cst_6, val_main_cst_7, val_main_cst_8]
  simp only [h]
  rfl

theorem ref_s1 (r : Fin 32768) (a : Fin 8) (n : Fin 128) :
    val_main_v60 (F := Ideal) x0 x1 x2 x3 x4 x5 x6 x7 x8 x9 (ix3 r a n) = ∑ d : Fin 128, qnAt x0 x1 x2 x3 x4 x5 x6 x7 x8 r a ⟨d.val, by omega⟩ * x9 (ix2 n d) := by
  have h := ref_qn x0 x1 x2 x3 x4 x5 x6 x7 x8 r a
  unfold val_main_v60 val_main_v59
  revert h
  generalize val_main_v58 (F := Ideal) x0 x1 x2 x3 x4 x5 x6 x7 x8 = P
  intro h
  pointwise
  simp only [h]

theorem ref_s2 (r : Fin 32768) (a : Fin 8) (n : Fin 128) :
    val_main_v62 (F := Ideal) x0 x1 x2 x3 x4 x5 x6 x7 x8 x10 (ix3 r a n) = ∑ d : Fin 128, qnAt x0 x1 x2 x3 x4 x5 x6 x7 x8 r a ⟨128 + d.val, by omega⟩ * x10 (ix2 n d) := by
  have h := ref_qn x0 x1 x2 x3 x4 x5 x6 x7 x8 r a
  unfold val_main_v62 val_main_v61
  revert h
  generalize val_main_v58 (F := Ideal) x0 x1 x2 x3 x4 x5 x6 x7 x8 = P
  intro h
  pointwise
  simp only [h]

/-- The three results. -/
def resX : FVec Ideal S32768x1024 .f32 := fun i => x1At x0 x1 x2 x3 x4 x5 ⟨(i 0).val / 2048, by have : (i 0).val < 32768 := (i 0).isLt; omega⟩ ⟨(i 0).val % 2048, by omega⟩ (i 1)
def resH : FVec Ideal S32768x1024 .bf16 := fun i => h2At x0 x1 x2 x3 x4 x5 x6 ⟨(i 0).val / 2048, by have : (i 0).val < 32768 := (i 0).isLt; omega⟩ ⟨(i 0).val % 2048, by omega⟩ (i 1)
def resS : FVec Ideal S2048x32768 .f32 := fun i => stAt x0 x1 x2 x3 x4 x5 x6 x7 x8 x9 x10 (i 0) (i 1)

theorem refX : val_main_v68 (F := Ideal) x0 x1 x2 x3 x4 x5 = resX x0 x1 x2 x3 x4 x5 := by
  funext i
  obtain ⟨r, c, rfl⟩ : ∃ r c, i = ix2 r c := ⟨i 0, i 1, (ix2_eta i).symm⟩
  have h := ref_x1 x0 x1 x2 x3 x4 x5
  unfold val_main_v68
  revert h
  generalize val_main_v24 (F := Ideal) x0 x1 x2 x3 x4 x5 = P
  intro h
  pointwise
  rw [h]
  rfl

theorem refH : val_main_v70 (F := Ideal) x0 x1 x2 x3 x4 x5 x6 = resH x0 x1 x2 x3 x4 x5 x6 := by
  funext i
  obtain ⟨r, c, rfl⟩ : ∃ r c, i = ix2 r c := ⟨i 0, i 1, (ix2_eta i).symm⟩
  have h := ref_h2 x0 x1 x2 x3 x4 x5 x6
  unfold val_main_v70 val_main_v69
  revert h
  generalize val_main_v43 (F := Ideal) x0 x1 x2 x3 x4 x5 x6 = P
  intro h
  pointwise
  rw [h]
  rfl

theorem refS : val_main_v67 (F := Ideal) x0 x1 x2 x3 x4 x5 x6 x7 x8 x9 x10 = resS x0 x1 x2 x3 x4 x5 x6 x7 x8 x9 x10 := by
  funext i
  obtain ⟨R, r, rfl⟩ : ∃ R r, i = ix2 R r := ⟨i 0, i 1, (ix2_eta i).symm⟩
  have h1 := ref_s1 x0 x1 x2 x3 x4 x5 x6 x7 x8 x9 r
  have h2 := ref_s2 x0 x1 x2 x3 x4 x5 x6 x7 x8 x10 r
  rw [val_main_v67_apply, val_main_v66_apply]
  have e : idx_main_v66 (idx_main_v67 (ix2 R r)) = ix4 r ⟨R.val / 256, by omega⟩ ⟨R.val / 128 % 2, by omega⟩ ⟨R.val % 128, by omega⟩ := by
    funext i
    refine Fin.ext ?_
    match i with
    | ⟨0, _⟩ => show _ = r.val; simp [idx_main_v66, idx_main_v67]; omega
    | ⟨1, _⟩ => show _ = R.val / 256; simp [idx_main_v66, idx_main_v67]; omega
    | ⟨2, _⟩ => show _ = R.val / 128 % 2; simp [idx_main_v66, idx_main_v67]; omega
    | ⟨3, _⟩ => show _ = R.val % 128; simp [idx_main_v66, idx_main_v67]; omega
  rw [e]
  unfold val_main_v65 val_main_v64 val_main_v63
  revert h1 h2
  generalize val_main_v60 (F := Ideal) x0 x1 x2 x3 x4 x5 x6 x7 x8 x9 = P
  generalize val_main_v62 (F := Ideal) x0 x1 x2 x3 x4 x5 x6 x7 x8 x10 = Q
  intro h1 h2
  show _ = stAt x0 x1 x2 x3 x4 x5 x6 x7 x8 x9 x10 R r
  unfold stAt
  pointwise
  by_cases hR : R.val % 256 < 128
  · rw [if_pos hR]
    exact (dif_pos (show R.val / 128 % 2 < 1 by omega)).trans (h1 _ _)
  · rw [if_neg hR]
    exact (dif_neg (show ¬ R.val / 128 % 2 < 1 by omega)).trans (h2 _ _)

end Cert.Proof.Outp

end
-- ==== Proof.OutFinal.lean ====
/-
  The output projection's three result arrays, as the function of its arguments the reference computes.
-/
module

public import proofs.«01_k».proof.Defs
public import proofs.«01_k».proof.Proof.OutHost
public import proofs.«01_k».proof.Proof.OutScore
public import proofs.«01_k».proof.Proof.OutRef

@[expose] public section

set_option maxRecDepth 8192
set_option maxHeartbeats 4000000

noncomputable section

namespace Cert.Proof.Outp

open Idealize.ShloMosaic Idealize.ShloMosaic.TcCoe Idealize.ShloMosaic.Tactic Idealize.SL.Sem Cert.Proof.Attn Cert.Proof.Rows
open Cert.Kernel3Ideal Cert.Kernel3Ideal.Gen

instance preFacts : Cert.Pre_finite_keys.Facts := by constructor <;> decide

theorem sum_eq {n : Nat} (f g : Fin n → EReal) (h : ∀ k, f k = g k) : ∑ k, f k = ∑ k, g k := congrArg (fun f => ∑ k, f k) (funext h)

/-- Where gain and keys are finite, a band is the plain product of normalised queries and keys. -/
theorem band_eq (P : FVec Ideal S512x2048 .f32) (K : FVec Ideal S128x128 .f32) (G : FVec Ideal S1x256 .f32) (hG : ∀ e, Fin' (G (ix2 0 e)))
    (hK : ∀ r d, Fin' (K (ix2 r d))) (a : Fin 8) (s : Fin 2) (r : Fin 128) (p : Fin 512) :
    band P K G a s r p = ∑ d : Fin 128, rms 1132462080#32 (fun e => P (ix2 p ⟨256 * a.val + e.val, by omega⟩)) (fun e => G (ix2 0 e)) ⟨128 * s.val + d.val, by omega⟩ * K (ix2 r d) := by
  unfold band sc3
  rw [split_dot _ _ (hK r) fun d => rms_fin c256 (by norm_num) _ _ hG _]
  exact sum_eq _ _ fun d => mul_comm _ _

variable (m : (ℓ : Loc nD τ sig) → Buf (Elt Ideal) ℓ) (c : Dev nD)

abbrev aA : FVec Ideal S16x2048x512 .f32 := m ((c : Thread nD τ).loc main_arg0)
abbrev aB : FVec Ideal S16x2048x512 .bf16 := m ((c : Thread nD τ).loc main_arg1)
abbrev aX : FVec Ideal S16x2048x1024 .f32 := m ((c : Thread nD τ).loc main_arg2)
abbrev aM : FVec Ideal S16x6144 .f32 := m ((c : Thread nD τ).loc main_arg3)
abbrev aO : FVec Ideal S512 .f32 := m ((c : Thread nD τ).loc main_arg4)
abbrev aW : FVec Ideal S1024x1024 .f32 := m ((c : Thread nD τ).loc main_arg5)
abbrev aN : FVec Ideal S1024 .f32 := m ((c : Thread nD τ).loc main_arg6)
abbrev aQ : FVec Ideal S1024x2048 .f32 := m ((c : Thread nD τ).loc main_arg7)
abbrev aG : FVec Ideal S256 .f32 := m ((c : Thread nD τ).loc main_arg8)
abbrev aK : FVec Ideal S128x128 .f32 := m ((c : Thread nD τ).loc main_arg9)
abbrev aL : FVec Ideal S128x128 .f32 := m ((c : Thread nD τ).loc main_arg10)

section Pre
variable (hP : Cert.Pre_Kernel3Ideal_finite_keys m)
include hP

theorem gain_fin (e : Fin 256) : Fin' (aG m c (ix1 e)) := fin_of_bits _ (congrFun (hP c).1 (ix1 e))
theorem key1_fin (r d : Fin 128) : Fin' (aK m c (ix2 r d)) := fin_of_bits _ (congrFun (hP c).2.1 (ix2 r d))
theorem key2_fin (r d : Fin 128) : Fin' (aL m c (ix2 r d)) := fin_of_bits _ (congrFun (hP c).2.2 (ix2 r d))

end Pre

theorem batch_eq (t : Fin cfg0.N) (p : Fin 512) : gBatch t = ⟨(gRow t p).val / 2048, by omega⟩ := Fin.ext (by show t.val / 4 = (512 * t.val + p.val) / 2048; omega)

theorem mod_eq (t : Fin cfg0.N) (p : Fin 512) (j : Fin 6) (d : Fin 1024) (l : Fin 6144) (h : j.val * 1024 + d.val = l.val) :
    (iblk m c 3 t : FVec Ideal S1x6x1024 .f32) (ix3 0 j d) = aM m c (ix2 ⟨(gRow t p).val / 2048, by omega⟩ l) := by
  rw [blk3_at, entry_mod, mod_at, batch_eq t p]
  exact congrArg (fun l => aM m c (ix2 _ l)) (Fin.ext h)

theorem mix_eq (t : Fin cfg0.N) (p : Fin 512) (d : Fin 1024) :
    mixRow (iblk m c 0 t) (iblk m c 1 t) (iblk m c 4 t) (iblk m c 5 t) (iblk m c 6 t) p d = mixAt (aA m c) (aB m c) (aO m c) (aW m c) ⟨(gRow t p).val / 2048, by omega⟩ ⟨(gRow t p).val % 2048, by omega⟩ d := by
  have e0 : ∀ e, (iblk m c 0 t : FVec Ideal S512x512 .f32) (ix2 p e) = aA m c (ix3 ⟨(gRow t p).val / 2048, by omega⟩ ⟨(gRow t p).val % 2048, by omega⟩ e) := fun e => by rw [blk0_at, entry_oa, half_at]
  have e1 : ∀ e, (iblk m c 1 t : FVec Ideal S512x512 .bf16) (ix2 p e) = aB m c (ix3 ⟨(gRow t p).val / 2048, by omega⟩ ⟨(gRow t p).val % 2048, by omega⟩ e) := fun e => by rw [blk1_at, entry_ob, half_at]
  have e4 : ∀ e, (iblk m c 4 t : FVec Ideal S1x512 .f32) (ix2 0 e) = aO m c (ix1 e) := fun e => by rw [blk4_at, entry_ogain, g512_at]
  have e5 : ∀ k, (iblk m c 5 t : FVec Ideal S512x1024 .bf16) (ix2 k d) = aW m c (ix2 ⟨k.val, by omega⟩ d) := fun k => by rw [blk5_at, entry_wa, wa_at]
  have e6 : ∀ k, (iblk m c 6 t : FVec Ideal S512x1024 .bf16) (ix2 k d) = aW m c (ix2 ⟨512 + k.val, by omega⟩ d) := fun k => by rw [blk6_at, entry_wb, wb_at]
  unfold mixRow mixAt
  simp only [e0, e1, e4, e5, e6]

theorem res_eq (t : Fin cfg0.N) (p : Fin 512) (d : Fin 1024) :
    resRow (iblk m c 0 t) (iblk m c 1 t) (iblk m c 2 t) (iblk m c 3 t) (iblk m c 4 t) (iblk m c 5 t) (iblk m c 6 t) p d = x1At (aA m c) (aB m c) (aX m c) (aM m c) (aO m c) (aW m c) ⟨(gRow t p).val / 2048, by omega⟩ ⟨(gRow t p).val % 2048, by omega⟩ d := by
  unfold resRow x1At
  rw [mix_eq, blk2_at, entry_x, full_at, mod_eq m c t p 2 d ⟨2048 + d.val, by omega⟩ (by show 2 * 1024 + d.val = 2048 + d.val; omega)]

theorem h2_eq (t : Fin cfg0.N) (p : Fin 512) :
    h2Row (iblk m c 0 t) (iblk m c 1 t) (iblk m c 2 t) (iblk m c 3 t) (iblk m c 4 t) (iblk m c 5 t) (iblk m c 6 t) (iblk m c 7 t) p = h2At (aA m c) (aB m c) (aX m c) (aM m c) (aO m c) (aW m c) (aN m c) ⟨(gRow t p).val / 2048, by omega⟩ ⟨(gRow t p).val % 2048, by omega⟩ := by
  unfold h2Row h2At
  congr 1
  · exact funext fun d => res_eq m c t p d
  · funext e
    rw [blk7_at, entry_ngain, g1024_at]
  · exact funext fun e => mod_eq m c t p 3 e ⟨3072 + e.val, by omega⟩ (by show 3 * 1024 + e.val = 3072 + e.val; omega)
  · exact funext fun e => mod_eq m c t p 4 e ⟨4096 + e.val, by omega⟩ (by show 4 * 1024 + e.val = 4096 + e.val; omega)

theorem q_eq (t : Fin cfg0.N) (p : Fin 512) (j : Fin 2048) :
    qRow (iblk m c 0 t) (iblk m c 1 t) (iblk m c 2 t) (iblk m c 3 t) (iblk m c 4 t) (iblk m c 5 t) (iblk m c 6 t) (iblk m c 7 t) (iblk m c 8 t) p j = qAt (aA m c) (aB m c) (aX m c) (aM m c) (aO m c) (aW m c) (aN m c) (aQ m c) ⟨(gRow t p).val / 2048, by omega⟩ ⟨(gRow t p).val % 2048, by omega⟩ j := by
  unfold qRow qAt
  rw [h2_eq]
  refine sum_eq _ _ fun k => ?_
  rw [blk8_at, entry_wq, wq_at]

theorem out12_eq (t : Fin cfg0.N) (p : Fin 512) (d : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p d) = resX (aA m c) (aB m c) (aX m c) (aM m c) (aO m c) (aW m c) (ix2 (gRow t p) d) :=
  (out12_at _ _ _ _ _ _ _ _ _ _ _ _ p d).trans (res_eq m c t p d)

theorem out13_eq (t : Fin cfg0.N) (p : Fin 512) (d : Fin 1024) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p d) = resH (aA m c) (aB m c) (aX m c) (aM m c) (aO m c) (aW m c) (aN m c) (ix2 (gRow t p) d) :=
  (out13_at _ _ _ _ _ _ _ _ _ _ _ _ p d).trans (congrFun (h2_eq m c t p) d)

theorem out14_eq (hP : Cert.Pre_Kernel3Ideal_finite_keys m) (t : Fin cfg0.N) (R : Fin 2048) (p : Fin 512) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 R p) = resS (aA m c) (aB m c) (aX m c) (aM m c) (aO m c) (aW m c) (aN m c) (aQ m c) (aG m c) (aK m c) (aL m c) (ix2 R (gRow t p)) := by
  have eP := fun j => (q_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p j).trans (q_eq m c t p j)
  have eG : ∀ e, (iblk m c 9 t : FVec Ideal S1x256 .f32) (ix2 0 e) = aG m c (ix1 e) := fun e => by rw [blk9_at, entry_qgain, g256_at]
  have eK : ∀ r d, (iblk m c 10 t : FVec Ideal S128x128 .f32) (ix2 r d) = aK m c (ix2 r d) := fun r d => by rw [blk10_at, V_main_arg9]
  have eL : ∀ r d, (iblk m c 11 t : FVec Ideal S128x128 .f32) (ix2 r d) = aL m c (ix2 r d) := fun r d => by rw [blk11_at, V_main_arg10]
  have hG : ∀ e, Fin' ((iblk m c 9 t : FVec Ideal S1x256 .f32) (ix2 0 e)) := fun e => by rw [eG]; exact gain_fin m c hP e
  have hK : ∀ r d, Fin' ((iblk m c 10 t : FVec Ideal S128x128 .f32) (ix2 r d)) := fun r d => by rw [eK]; exact key1_fin m c hP r d
  have hL : ∀ r d, Fin' ((iblk m c 11 t : FVec Ideal S128x128 .f32) (ix2 r d)) := fun r d => by rw [eL]; exact key2_fin m c hP r d
  rw [out14_at]
  revert eP
  generalize k0_pay57 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = P
  intro eP
  show scoreArr P (iblk m c 10 t) (iblk m c 11 t) (iblk m c 9 t) (ix2 R p) = stAt (aA m c) (aB m c) (aX m c) (aM m c) (aO m c) (aW m c) (aN m c) (aQ m c) (aG m c) (aK m c) (aL m c) R (gRow t p)
  unfold stAt
  by_cases h : R.val % 256 < 128
  · rw [if_pos h, score_lo P _ _ _ ⟨R.val / 256, by omega⟩ ⟨R.val % 128, by omega⟩ p (ix2 R p) (by show R.val = 256 * (R.val / 256) + R.val % 128; omega) rfl, band_eq P _ _ hG hK]
    refine sum_eq _ _ fun d => ?_
    have ed : (⟨128 * (0 : Fin 2).val + d.val, by show 128 * 0 + d.val < 256; omega⟩ : Fin 256) = ⟨d.val, by omega⟩ := Fin.ext (by show 128 * 0 + d.val = d.val; omega)
    rw [ed]
    simp only [eP, eG, eK]
    rfl
  · rw [if_neg h, score_hi P _ _ _ ⟨R.val / 256, by omega⟩ ⟨R.val % 128, by omega⟩ p (ix2 R p) (by show R.val = 256 * (R.val / 256) + 128 + R.val % 128; omega) rfl, band_eq P _ _ hG hL]
    refine sum_eq _ _ fun d => ?_
    have ed : (⟨128 * (1 : Fin 2).val + d.val, by show 128 * 1 + d.val < 256; omega⟩ : Fin 256) = ⟨128 + d.val, by omega⟩ := Fin.ext (by show 128 * 1 + d.val = 128 + d.val; omega)
    rw [ed]
    simp only [eP, eG, eL]
    rfl

theorem row_surj (r : Fin 32768) : ∃ (t : Fin cfg0.N) (p : Fin 512), r = gRow t p :=
  ⟨(⟨r.val / 512, by omega⟩ : Fin 64), ⟨r.val % 512, by omega⟩, Fin.ext (by show r.val = 512 * (r.val / 512) + r.val % 512; omega)⟩

theorem final12 : (dats m 0 c).arrAt 12 cfg0.N = resX (aA m c) (aB m c) (aX m c) (aM m c) (aO m c) (aW m c) := by
  refine (dats m 0 c).arrAt_eq_of_cover 12 _ (fun t _ => ?_) fun i => ?_
  · rw [Cert.Kernel3Ideal.Value.flushed12]
    funext y
    have ey : (y : S512x1024.Idx) = ix2 (y 0) (y 1) := (ix2_eta y).symm
    show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = resX (aA m c) (aB m c) (aX m c) (aM m c) (aO m c) (aW m c) (((cfg0.win 12).blk t).view.emb y)
    exact (congrArg (out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ey).trans
      ((out12_eq m c t (y 0) (y 1)).trans (congrArg (resX (aA m c) (aB m c) (aX m c) (aM m c) (aO m c) (aW m c)) ((emb12 t (y 0) (y 1)).symm.trans (congrArg _ ey.symm))))
  · obtain ⟨t, p, e⟩ := row_surj (i 0)
    have e : (i : S32768x1024.Idx) = ix2 (gRow t p) (i 1) := (ix2_eta i).symm.trans (congrArg (fun r => (ix2 r (i 1) : S32768x1024.Idx)) e)
    refine ⟨t, flush0_12 t, ?_⟩
    have h := ((cfg0.win 12).blk t).view.emb_mem_set (ix2 p (i 1) : S512x1024.Idx)
    have e' : (((cfg0.win 12).blk t).view.emb (ix2 p (i 1) : S512x1024.Idx) : S32768x1024.Idx) = i := (emb12 t p (i 1)).trans e.symm
    rw [e'] at h
    exact h

theorem final13 : (dats m 0 c).arrAt 13 cfg0.N = resH (aA m c) (aB m c) (aX m c) (aM m c) (aO m c) (aW m c) (aN m c) := by
  refine (dats m 0 c).arrAt_eq_of_cover 13 _ (fun t _ => ?_) fun i => ?_
  · rw [Cert.Kernel3Ideal.Value.flushed13]
    funext y
    have ey : (y : S512x1024.Idx) = ix2 (y 0) (y 1) := (ix2_eta y).symm
    show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = resH (aA m c) (aB m c) (aX m c) (aM m c) (aO m c) (aW m c) (aN m c) (((cfg0.win 13).blk t).view.emb y)
    exact (congrArg (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ey).trans
      ((out13_eq m c t (y 0) (y 1)).trans (congrArg (resH (aA m c) (aB m c) (aX m c) (aM m c) (aO m c) (aW m c) (aN m c)) ((emb13 t (y 0) (y 1)).symm.trans (congrArg _ ey.symm))))
  · obtain ⟨t, p, e⟩ := row_surj (i 0)
    have e : (i : S32768x1024.Idx) = ix2 (gRow t p) (i 1) := (ix2_eta i).symm.trans (congrArg (fun r => (ix2 r (i 1) : S32768x1024.Idx)) e)
    refine ⟨t, flush0_13 t, ?_⟩
    have h := ((cfg0.win 13).blk t).view.emb_mem_set (ix2 p (i 1) : S512x1024.Idx)
    have e' : (((cfg0.win 13).blk t).view.emb (ix2 p (i 1) : S512x1024.Idx) : S32768x1024.Idx) = i := (emb13 t p (i 1)).trans e.symm
    rw [e'] at h
    exact h

theorem final14 (hP : Cert.Pre_Kernel3Ideal_finite_keys m) : (dats m 0 c).arrAt 14 cfg0.N = resS (aA m c) (aB m c) (aX m c) (aM m c) (aO m c) (aW m c) (aN m c) (aQ m c) (aG m c) (aK m c) (aL m c) := by
  refine (dats m 0 c).arrAt_eq_of_cover 14 _ (fun t _ => ?_) fun i => ?_
  · rw [Cert.Kernel3Ideal.Value.flushed14]
    funext y
    have ey : (y : S2048x512.Idx) = ix2 (y 0) (y 1) := (ix2_eta y).symm
    show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = resS (aA m c) (aB m c) (aX m c) (aM m c) (aO m c) (aW m c) (aN m c) (aQ m c) (aG m c) (aK m c) (aL m c) (((cfg0.win 14).blk t).view.emb y)
    exact (congrArg (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ey).trans
      ((out14_eq m c hP t (y 0) (y 1)).trans (congrArg (resS (aA m c) (aB m c) (aX m c) (aM m c) (aO m c) (aW m c) (aN m c) (aQ m c) (aG m c) (aK m c) (aL m c)) ((emb14 t (y 0) (y 1)).symm.trans (congrArg _ ey.symm))))
  · obtain ⟨t, p, e⟩ := row_surj (i 1)
    have e : (i : S2048x32768.Idx) = ix2 (i 0) (gRow t p) := (ix2_eta i).symm.trans (congrArg (fun r => (ix2 (i 0) r : S2048x32768.Idx)) e)
    refine ⟨t, flush0_14 t, ?_⟩
    have h := ((cfg0.win 14).blk t).view.emb_mem_set (ix2 (i 0) p : S2048x512.Idx)
    have e' : (((cfg0.win 14).blk t).view.emb (ix2 (i 0) p : S2048x512.Idx) : S2048x32768.Idx) = i := (emb14 t (i 0) p).trans e.symm
    rw [e'] at h
    exact h

end Cert.Proof.Outp

end
-- ==== Proof.Ada.lean ====
/-
  The modulation vectors: the kernel's result array and the reference's, as one affine map of the activated condition.
-/
module

public import proofs.«01_k».proof.Proof.Gen.Kernel4Ideal.Value
public import proofs.«01_k».proof.Proof.Gen.Reference4Ideal.Read
public import proofs.«01_k».proof.Proof.InHost

@[expose] public section

set_option maxRecDepth 8192
set_option maxHeartbeats 4000000

noncomputable section

namespace Cert.Proof.Ada

open Idealize.ShloMosaic Idealize.ShloMosaic.TcCoe Idealize.ShloMosaic.Tactic Idealize.SL.Sem Cert.Proof.Attn Cert.Proof.Rows

section Ref
open Cert.Reference4Ideal Cert.Reference4Ideal.Gen Cert.Reference4Ideal.Read
variable (x0 : (⟨S16x1024, .f32⟩ : BufTy).Contents (Elt Ideal)) (x1 : (⟨S1024x6144, .f32⟩ : BufTy).Contents (Elt Ideal)) (x2 : (⟨S6144, .f32⟩ : BufTy).Contents (Elt Ideal))

/-- The condition times its logistic. -/
def act (b : Fin 16) (k : Fin 1024) : EReal := x0 (ix2 b k) * Ideal.logistic (x0 (ix2 b k))

/-- The result: entry `l` of the six vectors of sequence `b`. -/
def res : FVec Ideal S16x6144 .f32 := fun i => (∑ k, act x0 (i 0) k * x1 (ix2 k (i 1))) + x2 (ix1 (i 1))

theorem ref_act (b : Fin 16) (k : Fin 1024) : val_main_v0 (F := Ideal) x0 (ix2 b k) = act x0 b k := by
  pointwise [val_main_v0, val_main_call0_v5, val_main_call0_v4, val_main_call0_v3, val_main_call0_v2, val_main_call0_v1, val_main_call0_v0, val_main_call0_cst, val_main_call0_cst_0]
  rfl

theorem ref_res : val_main_v4 (F := Ideal) x0 x1 x2 = res x0 x1 x2 := by
  funext i
  obtain ⟨b, l, rfl⟩ : ∃ b l, i = ix2 b l := ⟨i 0, i 1, (ix2_eta i).symm⟩
  have h := ref_act x0 b
  unfold val_main_v4 val_main_v1
  revert h
  generalize val_main_v0 (F := Ideal) x0 = P
  intro h
  pointwise [val_main_v3, val_main_v2]
  simp only [h]
  rfl

end Ref

open Cert.Kernel4Ideal Cert.Kernel4Ideal.Gen

theorem out_at (x0 : FVec Ideal S16x1024 .f32) (x1 : FVec Ideal S1024x1024 .f32) (x2 : FVec Ideal S1x1024 .f32) (b : Fin 16) (d : Fin 1024) :
    out0_3 (F := Ideal) x0 x1 x2 (ix2 b d) = (∑ k, act x0 b k * x1 (ix2 k d)) + x2 (ix2 0 d) := by
  unfold out0_3
  rw [show View.ld (Val := Elt Ideal) (e' := .f32) x0 r0_0 = x0 from View.ld_unit_lit (Val := Elt Ideal) (e := .f32) (off := ![0, 0]) inb_S16x1024_S16x1024_0_0 x0 (by decide),
    show View.ld (Val := Elt Ideal) (e' := .f32) x1 r0_1 = x1 from View.ld_unit_lit (Val := Elt Ideal) (e := .f32) (off := ![0, 0]) inb_S1024x1024_S1024x1024_0_0 x1 (by decide),
    show View.ld (Val := Elt Ideal) (e' := .f32) x2 r0_2 = x2 from View.ld_unit_lit (Val := Elt Ideal) (e := .f32) (off := ![0, 0]) inb_S1x1024_S1x1024_0_0 x2 (by decide),
    View.canon_cons_unit_lit _ _ _ (by decide)]
  pointwise [k0_pay1]
  rfl

variable (m : (ℓ : Loc nD τ sig) → Buf (Elt Ideal) ℓ) (c : Dev nD)

abbrev aC : FVec Ideal S16x1024 .f32 := m ((c : Thread nD τ).loc main_arg0)
abbrev aW : FVec Ideal S1024x6144 .f32 := m ((c : Thread nD τ).loc main_arg1)
abbrev aB : FVec Ideal S6144 .f32 := m ((c : Thread nD τ).loc main_arg2)

theorem entry_bias : (V m c main_v0 : FVec Ideal S1x6144 .f32) = shapeCast S1x6144 (aB m c) shapeCasts_S6144_S1x6144 := by
  show StableHlo.after (hostOps0 ++ []) (fun b => m (c, b)) (Proc.tc.devRef main_v0) = _
  simp only [hostOps0, List.cons_append, List.nil_append]
  after_reads_simp
  rfl

theorem bias_at (g : FVec Ideal S6144 .f32) (l : Fin 6144) : shapeCast S1x6144 g shapeCasts_S6144_S1x6144 (ix2 0 l) = g (ix1 l) := by
  pointwise

theorem idx_facts : ∀ t : Fin cfg0.N, (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val) := by
  decide +kernel

/-- Column `d` of grid point `t`'s block, in the whole array. -/
abbrev gCol (t : Fin cfg0.N) (d : Fin 1024) : Fin 6144 := ⟨1024 * t.val + d.val, by have h : t.val < 6 := t.isLt; omega⟩

theorem blk0_at (t : Fin cfg0.N) (b : Fin 16) (d : Fin 1024) : (iblk m c 0 t : FVec Ideal S16x1024 .f32) (ix2 b d) = aC m c (ix2 b d) := by
  obtain ⟨⟨e0, e1⟩, _⟩ := idx_facts t
  show V m c main_arg0 (((cfg0.win 0).blk t).view.emb (ix2 b d)) = _
  rw [V_main_arg0]
  refine congrArg (aC m c) (funext fun a => Fin.ext ?_)
  match a with
  | ⟨0, _⟩ => show win0_0.index t 0 * 16 + 1 * b.val = b.val; omega
  | ⟨1, _⟩ => show win0_0.index t 1 * 1024 + 1 * d.val = d.val; omega

theorem blk1_at (t : Fin cfg0.N) (k d : Fin 1024) : (iblk m c 1 t : FVec Ideal S1024x1024 .f32) (ix2 k d) = aW m c (ix2 k (gCol t d)) := by
  obtain ⟨_, ⟨e0, e1⟩, _⟩ := idx_facts t
  show V m c main_arg1 (((cfg0.win 1).blk t).view.emb (ix2 k d)) = _
  rw [V_main_arg1]
  refine congrArg (aW m c) (funext fun a => Fin.ext ?_)
  match a with
  | ⟨0, _⟩ => show win0_1.index t 0 * 1024 + 1 * k.val = k.val; omega
  | ⟨1, _⟩ => show win0_1.index t 1 * 1024 + 1 * d.val = 1024 * t.val + d.val; omega

theorem blk2_at (t : Fin cfg0.N) (d : Fin 1024) : (iblk m c 2 t : FVec Ideal S1x1024 .f32) (ix2 0 d) = aB m c (ix1 (gCol t d)) := by
  obtain ⟨_, _, ⟨e0, e1⟩, _⟩ := idx_facts t
  refine Eq.trans ?_ ((congrFun (entry_bias m c) (ix2 0 (gCol t d))).trans (bias_at _ _))
  show V m c main_v0 (((cfg0.win 2).blk t).view.emb (ix2 0 d)) = _
  refine congrArg (V m c main_v0) (funext fun a => Fin.ext ?_)
  match a with
  | ⟨0, _⟩ => show win0_2.index t 0 * 1 + 1 * 0 = 0; omega
  | ⟨1, _⟩ => show win0_2.index t 1 * 1024 + 1 * d.val = 1024 * t.val + d.val; omega

theorem emb3 (t : Fin cfg0.N) (b : Fin 16) (d : Fin 1024) : ((cfg0.win 3).blk t).view.emb (ix2 b d) = (ix2 b (gCol t d) : S16x6144.Idx) := by
  obtain ⟨_, _, _, ⟨e0, e1⟩⟩ := idx_facts t
  funext a; refine Fin.ext ?_
  match a with
  | ⟨0, _⟩ => show win0_3.index t 0 * 16 + 1 * b.val = b.val; omega
  | ⟨1, _⟩ => show win0_3.index t 1 * 1024 + 1 * d.val = 1024 * t.val + d.val; omega

theorem out_eq (t : Fin cfg0.N) (b : Fin 16) (d : Fin 1024) :
    out0_3 (F := Ideal) (iblk m c 0 t) (iblk m c 1 t) (iblk m c 2 t) (ix2 b d) = res (aC m c) (aW m c) (aB m c) (ix2 b (gCol t d)) := by
  rw [out_at, blk2_at]
  show _ = (∑ k, act (aC m c) b k * aW m c (ix2 k (gCol t d))) + aB m c (ix1 (gCol t d))
  unfold act
  simp only [blk0_at, blk1_at]

theorem col_surj (i : S16x6144.Idx) : ∃ (t : Fin cfg0.N) (d : Fin 1024), i = ix2 (i 0) (gCol t d) := by
  have h : (i 1).val < 6144 := (i 1).isLt
  refine ⟨(⟨(i 1).val / 1024, by omega⟩ : Fin 6), ⟨(i 1).val % 1024, by omega⟩, ?_⟩
  funext a
  match a with
  | ⟨0, _⟩ => rfl
  | ⟨1, _⟩ => exact Fin.ext (by show (i 1).val = 1024 * ((i 1).val / 1024) + (i 1).val % 1024; omega)

/-- The kernel's result array. -/
theorem final : (dats m 0 c).arrAt 3 cfg0.N = res (aC m c) (aW m c) (aB m c) := by
  refine (dats m 0 c).arrAt_eq_of_cover 3 _ (fun t _ => ?_) fun i => ?_
  · rw [Cert.Kernel4Ideal.Value.flushed3]
    funext y
    have ey : (y : S16x1024.Idx) = ix2 (y 0) (y 1) := (ix2_eta y).symm
    show out0_3 (F := Ideal) (iblk m c 0 t) (iblk m c 1 t) (iblk m c 2 t) y = res (aC m c) (aW m c) (aB m c) (((cfg0.win 3).blk t).view.emb y)
    exact (congrArg (out0_3 (F := Ideal) (iblk m c 0 t) (iblk m c 1 t) (iblk m c 2 t)) ey).trans
      ((out_eq m c t (y 0) (y 1)).trans (congrArg (res (aC m c) (aW m c) (aB m c)) ((emb3 t (y 0) (y 1)).symm.trans (congrArg _ ey.symm))))
  · obtain ⟨t, d, e⟩ := col_surj i
    refine ⟨t, flush0_3 t, ?_⟩
    have h := ((cfg0.win 3).blk t).view.emb_mem_set (ix2 (i 0) d : S16x1024.Idx)
    have e' : (((cfg0.win 3).blk t).view.emb (ix2 (i 0) d : S16x1024.Idx) : S16x6144.Idx) = i := (emb3 t (i 0) d).trans e.symm
    rw [e'] at h
    exact h

end Cert.Proof.Ada

end
-- ==== Proof.lean ====
/-
  The proof of the certificate's claim, for each of the four calls: the three frames, that the idealized
  kernel preserves the printed one, and that it computes the reference's results.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Final
public import proofs.«01_k».proof.Proof.InFinal
public import proofs.«01_k».proof.Proof.OutFinal
public import proofs.«01_k».proof.Proof.Ada
public import Idealize.ShloMosaic.Adequacy
public import Idealize.ShloMosaic.Init

@[expose] public section

noncomputable section

namespace Cert.Proof

open Idealize.ShloMosaic Idealize.SL.Sem Cert.Kernel

/-- The reference runs, its arguments end unchanged, and it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result and the reference's are the same attention of the same arguments. -/
theorem algebraic : Cert.algebraic_KernelIdeal_ReferenceIdeal_pre_finite_scores := by
  intro m ρ m' ρ' hP hagree
  refine ⟨fun c => Attn.outArr m c, ?_, ?_⟩
  · exact (θ_run _ _ _).mono (fun r h c => ⟨(h c).1.trans (Attn.final_arr m c hP), (h c).2⟩) (Cert.KernelIdeal.Value.run_blocks (F := Ideal) m ρ)
  · refine (θ_run _ _ _).mono (fun r h c => ⟨(h c).1.trans ?_, (h c).2⟩) (Cert.ReferenceIdeal.Value.run (F := Ideal) m' ρ')
    obtain ⟨e0, e1, e2, e3⟩ := hagree c
    refine (Cert.ReferenceIdeal.Read.val_main_v111_eq m' c).trans ?_
    rw [Attn.ref_arr, e0, e1, e2, e3]

/-- The input projection's reference runs, its arguments end unchanged, and it declares no semaphore. -/
theorem frame_ri2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The kernel's four results and the reference's are the same projections of the same arguments. -/
theorem algebraic2 : Cert.algebraic_Kernel2Ideal_Reference2Ideal_pre_finite_small := by
  intro m ρ m' ρ' hP hagree
  refine ⟨fun c => Inp.res0 (Inp.aX m c) (Inp.aM m c) (Inp.aG m c) (Inp.aW m c), fun c => Inp.res1 (Inp.aX m c) (Inp.aM m c) (Inp.aG m c) (Inp.aW m c),
    fun c => Inp.res2 (Inp.aX m c) (Inp.aM m c) (Inp.aG m c) (Inp.aW m c), fun c => Inp.res3 (Inp.aX m c) (Inp.aM m c) (Inp.aG m c) (Inp.aW m c), ?_, ?_⟩
  · exact (θ_run _ _ _).mono (fun r h c => ⟨(h c).1.trans (Inp.final8 m c), (h c).2.1.trans (Inp.final9 m c), (h c).2.2.1.trans (Inp.final10 m c),
      (h c).2.2.2.1.trans (Inp.final11 m c hP), (h c).2.2.2.2⟩) (Cert.Kernel2Ideal.Value.run_blocks (F := Ideal) m ρ)
  · refine (θ_run _ _ _).mono (fun r h c => ⟨(h c).1.trans ?_, (h c).2.1.trans ?_, (h c).2.2.1.trans ?_, (h c).2.2.2.1.trans ?_, (h c).2.2.2.2⟩)
      (Cert.Reference2Ideal.Value.run (F := Ideal) m' ρ')
    all_goals obtain ⟨e0, e1, e2, e3⟩ := hagree c
    · refine (Cert.Reference2Ideal.Read.val_main_v29_eq (F := Ideal) _ _ _ _).trans ?_
      rw [Inp.ref0, e0, e1, e2, e3]
    · refine (Cert.Reference2Ideal.Read.val_main_v30_eq (F := Ideal) _ _ _ _).trans ?_
      rw [Inp.ref1, e0, e1, e2, e3]
    · refine (Cert.Reference2Ideal.Read.val_main_v31_eq (F := Ideal) _ _ _ _).trans ?_
      rw [Inp.ref2, e0, e1, e2, e3]
    · refine (Cert.Reference2Ideal.Read.val_main_v32_eq (F := Ideal) _ _ _ _).trans ?_
      rw [Inp.ref3, e0, e1, e2, e3]

/-- The output projection's reference runs, its arguments end unchanged, and it declares no semaphore. -/
theorem frame_ri3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The kernel's three results and the reference's are the same residual, hidden state and scores of the same arguments. -/
theorem algebraic3 : Cert.algebraic_Kernel3Ideal_Reference3Ideal_pre_finite_keys := by
  intro m ρ m' ρ' hP hagree
  refine ⟨fun c => Outp.resX (Outp.aA m c) (Outp.aB m c) (Outp.aX m c) (Outp.aM m c) (Outp.aO m c) (Outp.aW m c),
    fun c => Outp.resH (Outp.aA m c) (Outp.aB m c) (Outp.aX m c) (Outp.aM m c) (Outp.aO m c) (Outp.aW m c) (Outp.aN m c),
    fun c => Outp.resS (Outp.aA m c) (Outp.aB m c) (Outp.aX m c) (Outp.aM m c) (Outp.aO m c) (Outp.aW m c) (Outp.aN m c) (Outp.aQ m c) (Outp.aG m c) (Outp.aK m c) (Outp.aL m c), ?_, ?_⟩
  · exact (θ_run _ _ _).mono (fun r h c => ⟨(h c).1.trans (Outp.final12 m c), (h c).2.1.trans (Outp.final13 m c), (h c).2.2.1.trans (Outp.final14 m c hP), (h c).2.2.2⟩)
      (Cert.Kernel3Ideal.Value.run_blocks (F := Ideal) m ρ)
  · refine (θ_run _ _ _).mono (fun r h c => ⟨(h c).1.trans ?_, (h c).2.1.trans ?_, (h c).2.2.1.trans ?_, (h c).2.2.2⟩)
      (Cert.Reference3Ideal.Value.run (F := Ideal) m' ρ')
    all_goals obtain ⟨e0, e1, e2, e3, e4, e5, e6, e7, e8, e9, e10⟩ := hagree c
    · refine (Cert.Reference3Ideal.Read.val_main_v68_eq (F := Ideal) _ _ _ _ _ _).trans ?_
      rw [Outp.refX, e0, e1, e2, e3, e4, e5]
    · refine (Cert.Reference3Ideal.Read.val_main_v70_eq m' c).trans ?_
      rw [Outp.refH, e0, e1, e2, e3, e4, e5, e6]
    · refine (Cert.Reference3Ideal.Read.val_main_v67_eq m' c).trans ?_
      rw [Outp.refS, e0, e1, e2, e3, e4, e5, e6, e7, e8, e9, e10]

/-- The modulation's reference runs, its arguments end unchanged, and it declares no semaphore. -/
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's result and the reference's are the same affine map of the same activated condition. -/
theorem algebraic4 : Cert.algebraic_Kernel4Ideal_Reference4Ideal := by
  intro m ρ m' ρ' _ hagree
  refine ⟨fun c => Ada.res (Ada.aC m c) (Ada.aW m c) (Ada.aB m c), ?_, ?_⟩
  · exact (θ_run _ _ _).mono (fun r h c => ⟨(h c).1.trans (Ada.final m c), (h c).2⟩) (Cert.Kernel4Ideal.Value.run_blocks (F := Ideal) m ρ)
  · refine (θ_run _ _ _).mono (fun r h c => ⟨(h c).1.trans ?_, (h c).2⟩) (Cert.Reference4Ideal.Value.run (F := Ideal) m' ρ')
    obtain ⟨e0, e1, e2⟩ := hagree c
    refine (Cert.Reference4Ideal.Read.val_main_v4_eq (F := Ideal) _ _ _).trans ?_
    rw [Ada.ref_res, e0, e1, e2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Attn.preFacts, Inp.preFacts, Outp.preFacts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, fun m ρ _ => Cert.Kernel2Ideal.Gen.frame m ρ,
  frame_ri2, fun m ρ _ => frame_ri2 m ρ trivial,
  fun m ρ _ => Cert.Kernel3.Gen.frame m ρ, fun m ρ _ => Cert.Kernel3Ideal.Gen.frame m ρ, fun m ρ _ => Cert.Kernel3Ideal.Gen.frame m ρ,
  frame_ri3, fun m ρ _ => frame_ri3 m ρ trivial,
  fun m ρ _ => Cert.Kernel4.Gen.frame m ρ, fun m ρ _ => Cert.Kernel4Ideal.Gen.frame m ρ, frame_ri4,
  trivial, algebraic, trivial, algebraic2, trivial, algebraic3, trivial, algebraic4⟩

end Cert.Proof

end
